-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![16384, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 4096]⟩ ⟨2, ![1024, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S64x4096 : Shape := ⟨2, ![64, 4096]⟩
abbrev S4x256x4096 : Shape := ⟨3, ![4, 256, 4096]⟩
abbrev S8x2x256x512 : Shape := ⟨4, ![8, 2, 256, 512]⟩
abbrev S8x3x256x512 : Shape := ⟨4, ![8, 3, 256, 512]⟩
abbrev S8x256x512 : Shape := ⟨3, ![8, 256, 512]⟩
abbrev S8x128x512 : Shape := ⟨3, ![8, 128, 512]⟩
abbrev S8x64x512 : Shape := ⟨3, ![8, 64, 512]⟩
abbrev S8x2 : Shape := ⟨2, ![8, 2]⟩
abbrev S8x3 : Shape := ⟨2, ![8, 3]⟩
abbrev S8 : Shape := ⟨1, ![8]⟩
abbrev S_ : Shape := ⟨0, ![]⟩
abbrev S1024x512 : Shape := ⟨2, ![1024, 512]⟩
abbrev S64x512 : Shape := ⟨2, ![64, 512]⟩
abbrev S1x64x512 : Shape := ⟨3, ![1, 64, 512]⟩
abbrev S1x256x512 : Shape := ⟨3, ![1, 256, 512]⟩
abbrev S256x512 : Shape := ⟨2, ![256, 512]⟩
abbrev S1x1x256x512 : Shape := ⟨4, ![1, 1, 256, 512]⟩
abbrev S1x1 : Shape := ⟨2, ![1, 1]⟩
abbrev S1 : Shape := ⟨1, ![1]⟩
abbrev S1x128x512 : Shape := ⟨3, ![1, 128, 512]⟩
abbrev S128x512 : Shape := ⟨2, ![128, 512]⟩

abbrev nBuf : Space → Nat
  | .hbm => 3
  | .vmem => 13
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S64x4096, .f32⟩
  | .local _ .vmem, ⟨0, _⟩ => ⟨S1024x1024, .bf16⟩
  | .local _ .vmem, ⟨1, _⟩ => ⟨S1024x4096, .bf16⟩
  | .local _ .vmem, ⟨2, _⟩ => ⟨S64x4096, .f32⟩
  | .local _ .vmem, ⟨3, _⟩ => ⟨S1024x1024, .bf16⟩
  | .local _ .vmem, ⟨4, _⟩ => ⟨S4x256x4096, .bf16⟩
  | .local _ .vmem, ⟨5, _⟩ => ⟨S8x2x256x512, .bf16⟩
  | .local _ .vmem, ⟨6, _⟩ => ⟨S8x3x256x512, .bf16⟩
  | .local _ .vmem, ⟨7, _⟩ => ⟨S8x256x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x64x512, .bf16⟩
  | .local _ .vmem, ⟨12, _⟩ => ⟨S8x64x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c4_i32_7 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_7 v3
  let c4_i32_0 : BitVec 32 := 4#32
  let v4 : BitVec 32 := Scalar.remsi v2 c4_i32_0
  let c4_i32_8 : BitVec 32 := 4#32
  let v15 : BitVec 32 := Scalar.addi v4 c4_i32_8
  let c1_i32_9 : BitVec 32 := 1#32
  let v16 : BitVec 32 := Scalar.subi v15 c1_i32_9
  let c4_i32_10 : BitVec 32 := 4#32
  let v17 : BitVec 32 := Scalar.remsi v16 c4_i32_10
  let v18 : BitVec 32 := Scalar.addi v14 v17
  let c1_i32_61 : BitVec 32 := 1#32
  let v103 : BitVec 32 := Scalar.muli v18 c1_i32_61
  let v104 : BitVec 32 := Scalar.addi c0_i32 v103
  v104.toNat
def k0_dev2 (d0 : Dev nD) : Nat :=
  let c0_i32_64 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c4_i32_6 : BitVec 32 := 4#32
  let v12 : BitVec 32 := Scalar.remsi v11 c4_i32_6
  let v13 : BitVec 32 := Scalar.addi v10 v12
  let c1_i32_63 : BitVec 32 := 1#32
  let v105 : BitVec 32 := Scalar.muli v13 c1_i32_63
  let v106 : BitVec 32 := Scalar.addi c0_i32_64 v105
  v106.toNat
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let c1_i32_47 : BitVec 32 := 1#32
  let c2_i32_46 : BitVec 32 := 2#32
  let c4_i32 : BitVec 32 := 4#32
  let v3 : BitVec 32 := Scalar.divsi v2 c4_i32
  let c2_i32_2 : BitVec 32 := 2#32
  let v8 : BitVec 32 := Scalar.remsi v3 c2_i32_2
  let v79 : BitVec 32 := Scalar.muli c2_i32_46 v8
  let v80 : BitVec 32 := Scalar.subi c1_i32_47 v79
  let v81 : BitVec 32 := Scalar.muli c4_i32_48 v80
  let v82 : BitVec 32 := Scalar.addi v2 v81
  let c1_i32_66 : BitVec 32 := 1#32
  let v107 : BitVec 32 := Scalar.muli v82 c1_i32_66
  let v108 : BitVec 32 := Scalar.addi c0_i32_67 v107
  v108.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_69 : BitVec 32 := 1#32
  let v109 : BitVec 32 := Scalar.muli v101 c1_i32_69
  let v110 : BitVec 32 := Scalar.addi c0_i32_70 v109
  v110.toNat
def k0_off1 (d0 : Dev nD) (c0_i32_122 : BitVec 32) : Fin 3 → Nat :=
  let c2_i32_11 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v19 : BitVec 32 := Scalar.muli c2_i32_11 v8
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v20 : BitVec 32 := Scalar.addi v7 v8
  let c2_i32_12 : BitVec 32 := 2#32
  let v21 : BitVec 32 := Scalar.remsi v20 c2_i32_12
  let v22 : BitVec 32 := Scalar.addi v19 v21
  let c8_i32_120 : BitVec 32 := 8#32
  let v185 : BitVec 32 := Scalar.addi v22 c8_i32_120
  let c1_i32_121 : BitVec 32 := 1#32
  let v186 : BitVec 32 := Scalar.subi v185 c1_i32_121
  let v187 : BitVec 32 := Scalar.subi v186 c0_i32_122
  let c4_i32_123 : BitVec 32 := 4#32
  let v188 : BitVec 32 := Scalar.remsi v187 c4_i32_123
  let v189 : Index := Scalar.indexCast v188
  let c0_124 : Index := 0#32
  let c2048_125 : Index := 2048#32
  ![v189.toNat, 0, 2048]
def k0_dev5 (d0 : Dev nD) : Nat :=
  let c0_i32_138 : BitVec 32 := 0#32
  let c4_i32_20 : BitVec 32 := 4#32
  let c2_i32_19 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v32 : BitVec 32 := Scalar.muli c2_i32_19 v9
  let c2_i32_11 : BitVec 32 := 2#32
  let c2_i32_2 : BitVec 32 := 2#32
  let v8 : BitVec 32 := Scalar.remsi v3 c2_i32_2
  let v19 : BitVec 32 := Scalar.muli c2_i32_11 v8
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v20 : BitVec 32 := Scalar.addi v7 v8
  let c2_i32_12 : BitVec 32 := 2#32
  let v21 : BitVec 32 := Scalar.remsi v20 c2_i32_12
  let v22 : BitVec 32 := Scalar.addi v19 v21
  let c1_i32_15 : BitVec 32 := 1#32
  let v27 : BitVec 32 := Scalar.addi v22 c1_i32_15
  let c4_i32_16 : BitVec 32 := 4#32
  let v28 : BitVec 32 := Scalar.remsi v27 c4_i32_16
  let c2_i32_17 : BitVec 32 := 2#32
  let v29 : BitVec 32 := Scalar.divsi v28 c2_i32_17
  let v33 : BitVec 32 := Scalar.addi v32 v29
  let v34 : BitVec 32 := Scalar.muli c4_i32_20 v33
  let c2_i32_21 : BitVec 32 := 2#32
  let v35 : BitVec 32 := Scalar.muli c2_i32_21 v5
  let v36 : BitVec 32 := Scalar.addi v34 v35
  let v30 : BitVec 32 := Scalar.addi v28 v29
  let c2_i32_18 : BitVec 32 := 2#32
  let v31 : BitVec 32 := Scalar.remsi v30 c2_i32_18
  let v37 : BitVec 32 := Scalar.addi v31 v5
  let c2_i32_22 : BitVec 32 := 2#32
  let v38 : BitVec 32 := Scalar.remsi v37 c2_i32_22
  let v39 : BitVec 32 := Scalar.addi v36 v38
  let c1_i32_137 : BitVec 32 := 1#32
  let v195 : BitVec 32 := Scalar.muli v39 c1_i32_137
  let v196 : BitVec 32 := Scalar.addi c0_i32_138 v195
  v196.toNat
def k0_off2 (d0 : Dev nD) (c0_i32_196 : BitVec 32) : Fin 3 → Nat :=
  let c2_i32_11 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v19 : BitVec 32 := Scalar.muli c2_i32_11 v8
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v20 : BitVec 32 := Scalar.addi v7 v8
  let c2_i32_12 : BitVec 32 := 2#32
  let v21 : BitVec 32 := Scalar.remsi v20 c2_i32_12
  let v22 : BitVec 32 := Scalar.addi v19 v21
  let c1_i32_195 : BitVec 32 := 1#32
  let v274 : BitVec 32 := Scalar.addi v22 c1_i32_195
  let v275 : BitVec 32 := Scalar.addi v274 c0_i32_196
  let c4_i32_197 : BitVec 32 := 4#32
  let v276 : BitVec 32 := Scalar.remsi v275 c4_i32_197
  let v277 : Index := Scalar.indexCast v276
  let c0_198 : Index := 0#32
  let c2560_199 : Index := 2560#32
  ![v277.toNat, 0, 2560]
def k0_dev6 (d0 : Dev nD) : Nat :=
  let c0_i32_211 : BitVec 32 := 0#32
  let c4_i32_35 : BitVec 32 := 4#32
  let c2_i32_34 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v58 : BitVec 32 := Scalar.muli c2_i32_34 v9
  let c2_i32_11 : BitVec 32 := 2#32
  let c2_i32_2 : BitVec 32 := 2#32
  let v8 : BitVec 32 := Scalar.remsi v3 c2_i32_2
  let v19 : BitVec 32 := Scalar.muli c2_i32_11 v8
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v20 : BitVec 32 := Scalar.addi v7 v8
  let c2_i32_12 : BitVec 32 := 2#32
  let v21 : BitVec 32 := Scalar.remsi v20 c2_i32_12
  let v22 : BitVec 32 := Scalar.addi v19 v21
  let c3_i32 : BitVec 32 := 3#32
  let v53 : BitVec 32 := Scalar.addi v22 c3_i32
  let c4_i32_31 : BitVec 32 := 4#32
  let v54 : BitVec 32 := Scalar.remsi v53 c4_i32_31
  let c2_i32_32 : BitVec 32 := 2#32
  let v55 : BitVec 32 := Scalar.divsi v54 c2_i32_32
  let v59 : BitVec 32 := Scalar.addi v58 v55
  let v60 : BitVec 32 := Scalar.muli c4_i32_35 v59
  let c2_i32_36 : BitVec 32 := 2#32
  let v61 : BitVec 32 := Scalar.muli c2_i32_36 v5
  let v62 : BitVec 32 := Scalar.addi v60 v61
  let v56 : BitVec 32 := Scalar.addi v54 v55
  let c2_i32_33 : BitVec 32 := 2#32
  let v57 : BitVec 32 := Scalar.remsi v56 c2_i32_33
  let v63 : BitVec 32 := Scalar.addi v57 v5
  let c2_i32_37 : BitVec 32 := 2#32
  let v64 : BitVec 32 := Scalar.remsi v63 c2_i32_37
  let v65 : BitVec 32 := Scalar.addi v62 v64
  let c1_i32_210 : BitVec 32 := 1#32
  let v283 : BitVec 32 := Scalar.muli v65 c1_i32_210
  let v284 : BitVec 32 := Scalar.addi c0_i32_211 v283
  v284.toNat
def k0_off3 (d0 : Dev nD) (c0_i32_271 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c8_i32_269 : BitVec 32 := 8#32
  let v362 : BitVec 32 := Scalar.addi v4 c8_i32_269
  let c1_i32_270 : BitVec 32 := 1#32
  let v363 : BitVec 32 := Scalar.subi v362 c1_i32_270
  let v364 : BitVec 32 := Scalar.subi v363 c0_i32_271
  let c4_i32_272 : BitVec 32 := 4#32
  let v365 : BitVec 32 := Scalar.remsi v364 c4_i32_272
  let v366 : Index := Scalar.indexCast v365
  let c0_273 : Index := 0#32
  let c0_274 : Index := 0#32
  ![v366.toNat, 0, 0]
def k0_dev7 (d0 : Dev nD) : Nat :=
  let c0_i32_288 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c4_i32_6 : BitVec 32 := 4#32
  let v12 : BitVec 32 := Scalar.remsi v11 c4_i32_6
  let v13 : BitVec 32 := Scalar.addi v10 v12
  let c1_i32_287 : BitVec 32 := 1#32
  let v372 : BitVec 32 := Scalar.muli v13 c1_i32_287
  let v373 : BitVec 32 := Scalar.addi c0_i32_288 v372
  v373.toNat
def k0_off4 (d0 : Dev nD) (c0_i32_346 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_345 : BitVec 32 := 1#32
  let v451 : BitVec 32 := Scalar.addi v4 c1_i32_345
  let v452 : BitVec 32 := Scalar.addi v451 c0_i32_346
  let c4_i32_347 : BitVec 32 := 4#32
  let v453 : BitVec 32 := Scalar.remsi v452 c4_i32_347
  let v454 : Index := Scalar.indexCast v453
  let c0_348 : Index := 0#32
  let c512_349 : Index := 512#32
  ![v454.toNat, 0, 512]
def k0_dev8 (d0 : Dev nD) : Nat :=
  let c0_i32_363 : BitVec 32 := 0#32
  let c4_i32_7 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_7 v3
  let c4_i32_0 : BitVec 32 := 4#32
  let v4 : BitVec 32 := Scalar.remsi v2 c4_i32_0
  let c4_i32_8 : BitVec 32 := 4#32
  let v15 : BitVec 32 := Scalar.addi v4 c4_i32_8
  let c1_i32_9 : BitVec 32 := 1#32
  let v16 : BitVec 32 := Scalar.subi v15 c1_i32_9
  let c4_i32_10 : BitVec 32 := 4#32
  let v17 : BitVec 32 := Scalar.remsi v16 c4_i32_10
  let v18 : BitVec 32 := Scalar.addi v14 v17
  let c1_i32_362 : BitVec 32 := 1#32
  let v460 : BitVec 32 := Scalar.muli v18 c1_i32_362
  let v461 : BitVec 32 := Scalar.addi c0_i32_363 v460
  v461.toNat
def k0_off5 (d0 : Dev nD) (c0_i32_422 : BitVec 32) : Fin 3 → Nat :=
  let c2_i32_13 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v23 : BitVec 32 := Scalar.muli c2_i32_13 v8
  let c4_i32_0 : BitVec 32 := 4#32
  let v4 : BitVec 32 := Scalar.remsi v2 c4_i32_0
  let c2_i32 : BitVec 32 := 2#32
  let v5 : BitVec 32 := Scalar.divsi v4 c2_i32
  let v24 : BitVec 32 := Scalar.addi v5 v8
  let c2_i32_14 : BitVec 32 := 2#32
  let v25 : BitVec 32 := Scalar.remsi v24 c2_i32_14
  let v26 : BitVec 32 := Scalar.addi v23 v25
  let c8_i32_420 : BitVec 32 := 8#32
  let v539 : BitVec 32 := Scalar.addi v26 c8_i32_420
  let c1_i32_421 : BitVec 32 := 1#32
  let v540 : BitVec 32 := Scalar.subi v539 c1_i32_421
  let v541 : BitVec 32 := Scalar.subi v540 c0_i32_422
  let c4_i32_423 : BitVec 32 := 4#32
  let v542 : BitVec 32 := Scalar.remsi v541 c4_i32_423
  let v543 : Index := Scalar.indexCast v542
  let c0_424 : Index := 0#32
  let c3072_425 : Index := 3072#32
  ![v543.toNat, 0, 3072]
def k0_dev9 (d0 : Dev nD) : Nat :=
  let c0_i32_437 : BitVec 32 := 0#32
  let c4_i32_28 : BitVec 32 := 4#32
  let c2_i32_27 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v45 : BitVec 32 := Scalar.muli c2_i32_27 v9
  let c2_i32_13 : BitVec 32 := 2#32
  let c2_i32_2 : BitVec 32 := 2#32
  let v8 : BitVec 32 := Scalar.remsi v3 c2_i32_2
  let v23 : BitVec 32 := Scalar.muli c2_i32_13 v8
  let c4_i32_0 : BitVec 32 := 4#32
  let v4 : BitVec 32 := Scalar.remsi v2 c4_i32_0
  let c2_i32 : BitVec 32 := 2#32
  let v5 : BitVec 32 := Scalar.divsi v4 c2_i32
  let v24 : BitVec 32 := Scalar.addi v5 v8
  let c2_i32_14 : BitVec 32 := 2#32
  let v25 : BitVec 32 := Scalar.remsi v24 c2_i32_14
  let v26 : BitVec 32 := Scalar.addi v23 v25
  let c1_i32_23 : BitVec 32 := 1#32
  let v40 : BitVec 32 := Scalar.addi v26 c1_i32_23
  let c4_i32_24 : BitVec 32 := 4#32
  let v41 : BitVec 32 := Scalar.remsi v40 c4_i32_24
  let c2_i32_25 : BitVec 32 := 2#32
  let v42 : BitVec 32 := Scalar.divsi v41 c2_i32_25
  let v46 : BitVec 32 := Scalar.addi v45 v42
  let v47 : BitVec 32 := Scalar.muli c4_i32_28 v46
  let c2_i32_29 : BitVec 32 := 2#32
  let v43 : BitVec 32 := Scalar.addi v41 v42
  let c2_i32_26 : BitVec 32 := 2#32
  let v44 : BitVec 32 := Scalar.remsi v43 c2_i32_26
  let v48 : BitVec 32 := Scalar.muli c2_i32_29 v44
  let v49 : BitVec 32 := Scalar.addi v47 v48
  let v6 : BitVec 32 := Scalar.addi v4 v5
  let c2_i32_1 : BitVec 32 := 2#32
  let v7 : BitVec 32 := Scalar.remsi v6 c2_i32_1
  let v50 : BitVec 32 := Scalar.addi v7 v44
  let c2_i32_30 : BitVec 32 := 2#32
  let v51 : BitVec 32 := Scalar.remsi v50 c2_i32_30
  let v52 : BitVec 32 := Scalar.addi v49 v51
  let c1_i32_436 : BitVec 32 := 1#32
  let v549 : BitVec 32 := Scalar.muli v52 c1_i32_436
  let v550 : BitVec 32 := Scalar.addi c0_i32_437 v549
  v550.toNat
def k0_off6 (d0 : Dev nD) (c0_i32_495 : BitVec 32) : Fin 3 → Nat :=
  let c2_i32_13 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v23 : BitVec 32 := Scalar.muli c2_i32_13 v8
  let c4_i32_0 : BitVec 32 := 4#32
  let v4 : BitVec 32 := Scalar.remsi v2 c4_i32_0
  let c2_i32 : BitVec 32 := 2#32
  let v5 : BitVec 32 := Scalar.divsi v4 c2_i32
  let v24 : BitVec 32 := Scalar.addi v5 v8
  let c2_i32_14 : BitVec 32 := 2#32
  let v25 : BitVec 32 := Scalar.remsi v24 c2_i32_14
  let v26 : BitVec 32 := Scalar.addi v23 v25
  let c1_i32_494 : BitVec 32 := 1#32
  let v628 : BitVec 32 := Scalar.addi v26 c1_i32_494
  let v629 : BitVec 32 := Scalar.addi v628 c0_i32_495
  let c4_i32_496 : BitVec 32 := 4#32
  let v630 : BitVec 32 := Scalar.remsi v629 c4_i32_496
  let v631 : Index := Scalar.indexCast v630
  let c0_497 : Index := 0#32
  let c3584_498 : Index := 3584#32
  ![v631.toNat, 0, 3584]
def k0_dev10 (d0 : Dev nD) : Nat :=
  let c0_i32_510 : BitVec 32 := 0#32
  let c4_i32_43 : BitVec 32 := 4#32
  let c2_i32_42 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v71 : BitVec 32 := Scalar.muli c2_i32_42 v9
  let c2_i32_13 : BitVec 32 := 2#32
  let c2_i32_2 : BitVec 32 := 2#32
  let v8 : BitVec 32 := Scalar.remsi v3 c2_i32_2
  let v23 : BitVec 32 := Scalar.muli c2_i32_13 v8
  let c4_i32_0 : BitVec 32 := 4#32
  let v4 : BitVec 32 := Scalar.remsi v2 c4_i32_0
  let c2_i32 : BitVec 32 := 2#32
  let v5 : BitVec 32 := Scalar.divsi v4 c2_i32
  let v24 : BitVec 32 := Scalar.addi v5 v8
  let c2_i32_14 : BitVec 32 := 2#32
  let v25 : BitVec 32 := Scalar.remsi v24 c2_i32_14
  let v26 : BitVec 32 := Scalar.addi v23 v25
  let c3_i32_38 : BitVec 32 := 3#32
  let v66 : BitVec 32 := Scalar.addi v26 c3_i32_38
  let c4_i32_39 : BitVec 32 := 4#32
  let v67 : BitVec 32 := Scalar.remsi v66 c4_i32_39
  let c2_i32_40 : BitVec 32 := 2#32
  let v68 : BitVec 32 := Scalar.divsi v67 c2_i32_40
  let v72 : BitVec 32 := Scalar.addi v71 v68
  let v73 : BitVec 32 := Scalar.muli c4_i32_43 v72
  let c2_i32_44 : BitVec 32 := 2#32
  let v69 : BitVec 32 := Scalar.addi v67 v68
  let c2_i32_41 : BitVec 32 := 2#32
  let v70 : BitVec 32 := Scalar.remsi v69 c2_i32_41
  let v74 : BitVec 32 := Scalar.muli c2_i32_44 v70
  let v75 : BitVec 32 := Scalar.addi v73 v74
  let v6 : BitVec 32 := Scalar.addi v4 v5
  let c2_i32_1 : BitVec 32 := 2#32
  let v7 : BitVec 32 := Scalar.remsi v6 c2_i32_1
  let v76 : BitVec 32 := Scalar.addi v7 v70
  let c2_i32_45 : BitVec 32 := 2#32
  let v77 : BitVec 32 := Scalar.remsi v76 c2_i32_45
  let v78 : BitVec 32 := Scalar.addi v75 v77
  let c1_i32_509 : BitVec 32 := 1#32
  let v637 : BitVec 32 := Scalar.muli v78 c1_i32_509
  let v638 : BitVec 32 := Scalar.addi c0_i32_510 v637
  v638.toNat
def k0_dev11 (d0 : Dev nD) : Nat :=
  let c0_i32_552 : BitVec 32 := 0#32
  let c4_i32_20 : BitVec 32 := 4#32
  let c2_i32_19 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v32 : BitVec 32 := Scalar.muli c2_i32_19 v9
  let c2_i32_11 : BitVec 32 := 2#32
  let c2_i32_2 : BitVec 32 := 2#32
  let v8 : BitVec 32 := Scalar.remsi v3 c2_i32_2
  let v19 : BitVec 32 := Scalar.muli c2_i32_11 v8
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v20 : BitVec 32 := Scalar.addi v7 v8
  let c2_i32_12 : BitVec 32 := 2#32
  let v21 : BitVec 32 := Scalar.remsi v20 c2_i32_12
  let v22 : BitVec 32 := Scalar.addi v19 v21
  let c1_i32_15 : BitVec 32 := 1#32
  let v27 : BitVec 32 := Scalar.addi v22 c1_i32_15
  let c4_i32_16 : BitVec 32 := 4#32
  let v28 : BitVec 32 := Scalar.remsi v27 c4_i32_16
  let c2_i32_17 : BitVec 32 := 2#32
  let v29 : BitVec 32 := Scalar.divsi v28 c2_i32_17
  let v33 : BitVec 32 := Scalar.addi v32 v29
  let v34 : BitVec 32 := Scalar.muli c4_i32_20 v33
  let c2_i32_21 : BitVec 32 := 2#32
  let v35 : BitVec 32 := Scalar.muli c2_i32_21 v5
  let v36 : BitVec 32 := Scalar.addi v34 v35
  let v30 : BitVec 32 := Scalar.addi v28 v29
  let c2_i32_18 : BitVec 32 := 2#32
  let v31 : BitVec 32 := Scalar.remsi v30 c2_i32_18
  let v37 : BitVec 32 := Scalar.addi v31 v5
  let c2_i32_22 : BitVec 32 := 2#32
  let v38 : BitVec 32 := Scalar.remsi v37 c2_i32_22
  let v39 : BitVec 32 := Scalar.addi v36 v38
  let c1_i32_551 : BitVec 32 := 1#32
  let v668 : BitVec 32 := Scalar.muli v39 c1_i32_551
  let v669 : BitVec 32 := Scalar.addi c0_i32_552 v668
  v669.toNat
def k0_dev12 (d0 : Dev nD) : Nat :=
  let c0_i32_593 : BitVec 32 := 0#32
  let c4_i32_35 : BitVec 32 := 4#32
  let c2_i32_34 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v58 : BitVec 32 := Scalar.muli c2_i32_34 v9
  let c2_i32_11 : BitVec 32 := 2#32
  let c2_i32_2 : BitVec 32 := 2#32
  let v8 : BitVec 32 := Scalar.remsi v3 c2_i32_2
  let v19 : BitVec 32 := Scalar.muli c2_i32_11 v8
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v20 : BitVec 32 := Scalar.addi v7 v8
  let c2_i32_12 : BitVec 32 := 2#32
  let v21 : BitVec 32 := Scalar.remsi v20 c2_i32_12
  let v22 : BitVec 32 := Scalar.addi v19 v21
  let c3_i32 : BitVec 32 := 3#32
  let v53 : BitVec 32 := Scalar.addi v22 c3_i32
  let c4_i32_31 : BitVec 32 := 4#32
  let v54 : BitVec 32 := Scalar.remsi v53 c4_i32_31
  let c2_i32_32 : BitVec 32 := 2#32
  let v55 : BitVec 32 := Scalar.divsi v54 c2_i32_32
  let v59 : BitVec 32 := Scalar.addi v58 v55
  let v60 : BitVec 32 := Scalar.muli c4_i32_35 v59
  let c2_i32_36 : BitVec 32 := 2#32
  let v61 : BitVec 32 := Scalar.muli c2_i32_36 v5
  let v62 : BitVec 32 := Scalar.addi v60 v61
  let v56 : BitVec 32 := Scalar.addi v54 v55
  let c2_i32_33 : BitVec 32 := 2#32
  let v57 : BitVec 32 := Scalar.remsi v56 c2_i32_33
  let v63 : BitVec 32 := Scalar.addi v57 v5
  let c2_i32_37 : BitVec 32 := 2#32
  let v64 : BitVec 32 := Scalar.remsi v63 c2_i32_37
  let v65 : BitVec 32 := Scalar.addi v62 v64
  let c1_i32_592 : BitVec 32 := 1#32
  let v698 : BitVec 32 := Scalar.muli v65 c1_i32_592
  let v699 : BitVec 32 := Scalar.addi c0_i32_593 v698
  v699.toNat
def k0_off7 (d0 : Dev nD) (c0_i32_652 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c8_i32_650 : BitVec 32 := 8#32
  let v777 : BitVec 32 := Scalar.addi v4 c8_i32_650
  let c1_i32_651 : BitVec 32 := 1#32
  let v778 : BitVec 32 := Scalar.subi v777 c1_i32_651
  let v779 : BitVec 32 := Scalar.subi v778 c0_i32_652
  let c4_i32_653 : BitVec 32 := 4#32
  let v780 : BitVec 32 := Scalar.remsi v779 c4_i32_653
  let v781 : Index := Scalar.indexCast v780
  let c0_654 : Index := 0#32
  let c1024_655 : Index := 1024#32
  ![v781.toNat, 0, 1024]
def k0_dev13 (d0 : Dev nD) : Nat :=
  let c0_i32_669 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c4_i32_6 : BitVec 32 := 4#32
  let v12 : BitVec 32 := Scalar.remsi v11 c4_i32_6
  let v13 : BitVec 32 := Scalar.addi v10 v12
  let c1_i32_668 : BitVec 32 := 1#32
  let v787 : BitVec 32 := Scalar.muli v13 c1_i32_668
  let v788 : BitVec 32 := Scalar.addi c0_i32_669 v787
  v788.toNat
def k0_off8 (d0 : Dev nD) (c0_i32_727 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c1_i32_726 : BitVec 32 := 1#32
  let v866 : BitVec 32 := Scalar.addi v4 c1_i32_726
  let v867 : BitVec 32 := Scalar.addi v866 c0_i32_727
  let c4_i32_728 : BitVec 32 := 4#32
  let v868 : BitVec 32 := Scalar.remsi v867 c4_i32_728
  let v869 : Index := Scalar.indexCast v868
  let c0_729 : Index := 0#32
  let c1536_730 : Index := 1536#32
  ![v869.toNat, 0, 1536]
def k0_dev14 (d0 : Dev nD) : Nat :=
  let c0_i32_744 : BitVec 32 := 0#32
  let c4_i32_7 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_7 v3
  let c4_i32_0 : BitVec 32 := 4#32
  let v4 : BitVec 32 := Scalar.remsi v2 c4_i32_0
  let c4_i32_8 : BitVec 32 := 4#32
  let v15 : BitVec 32 := Scalar.addi v4 c4_i32_8
  let c1_i32_9 : BitVec 32 := 1#32
  let v16 : BitVec 32 := Scalar.subi v15 c1_i32_9
  let c4_i32_10 : BitVec 32 := 4#32
  let v17 : BitVec 32 := Scalar.remsi v16 c4_i32_10
  let v18 : BitVec 32 := Scalar.addi v14 v17
  let c1_i32_743 : BitVec 32 := 1#32
  let v875 : BitVec 32 := Scalar.muli v18 c1_i32_743
  let v876 : BitVec 32 := Scalar.addi c0_i32_744 v875
  v876.toNat
def k0_dev15 (d0 : Dev nD) : Nat :=
  let c0_i32_786 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c4_i32_6 : BitVec 32 := 4#32
  let v12 : BitVec 32 := Scalar.remsi v11 c4_i32_6
  let v13 : BitVec 32 := Scalar.addi v10 v12
  let c1_i32_785 : BitVec 32 := 1#32
  let v906 : BitVec 32 := Scalar.muli v13 c1_i32_785
  let v907 : BitVec 32 := Scalar.addi c0_i32_786 v906
  v907.toNat
def k0_dev16 (d0 : Dev nD) : Nat :=
  let c0_i32_827 : BitVec 32 := 0#32
  let c4_i32_7 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_7 v3
  let c4_i32_0 : BitVec 32 := 4#32
  let v4 : BitVec 32 := Scalar.remsi v2 c4_i32_0
  let c4_i32_8 : BitVec 32 := 4#32
  let v15 : BitVec 32 := Scalar.addi v4 c4_i32_8
  let c1_i32_9 : BitVec 32 := 1#32
  let v16 : BitVec 32 := Scalar.subi v15 c1_i32_9
  let c4_i32_10 : BitVec 32 := 4#32
  let v17 : BitVec 32 := Scalar.remsi v16 c4_i32_10
  let v18 : BitVec 32 := Scalar.addi v14 v17
  let c1_i32_826 : BitVec 32 := 1#32
  let v936 : BitVec 32 := Scalar.muli v18 c1_i32_826
  let v937 : BitVec 32 := Scalar.addi c0_i32_827 v936
  v937.toNat
def k0_dev17 (d0 : Dev nD) : Nat :=
  let c0_i32_882 : BitVec 32 := 0#32
  let c4_i32_20 : BitVec 32 := 4#32
  let c2_i32_19 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v32 : BitVec 32 := Scalar.muli c2_i32_19 v9
  let c2_i32_11 : BitVec 32 := 2#32
  let c2_i32_2 : BitVec 32 := 2#32
  let v8 : BitVec 32 := Scalar.remsi v3 c2_i32_2
  let v19 : BitVec 32 := Scalar.muli c2_i32_11 v8
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v20 : BitVec 32 := Scalar.addi v7 v8
  let c2_i32_12 : BitVec 32 := 2#32
  let v21 : BitVec 32 := Scalar.remsi v20 c2_i32_12
  let v22 : BitVec 32 := Scalar.addi v19 v21
  let c1_i32_15 : BitVec 32 := 1#32
  let v27 : BitVec 32 := Scalar.addi v22 c1_i32_15
  let c4_i32_16 : BitVec 32 := 4#32
  let v28 : BitVec 32 := Scalar.remsi v27 c4_i32_16
  let c2_i32_17 : BitVec 32 := 2#32
  let v29 : BitVec 32 := Scalar.divsi v28 c2_i32_17
  let v33 : BitVec 32 := Scalar.addi v32 v29
  let v34 : BitVec 32 := Scalar.muli c4_i32_20 v33
  let c2_i32_21 : BitVec 32 := 2#32
  let v35 : BitVec 32 := Scalar.muli c2_i32_21 v5
  let v36 : BitVec 32 := Scalar.addi v34 v35
  let v30 : BitVec 32 := Scalar.addi v28 v29
  let c2_i32_18 : BitVec 32 := 2#32
  let v31 : BitVec 32 := Scalar.remsi v30 c2_i32_18
  let v37 : BitVec 32 := Scalar.addi v31 v5
  let c2_i32_22 : BitVec 32 := 2#32
  let v38 : BitVec 32 := Scalar.remsi v37 c2_i32_22
  let v39 : BitVec 32 := Scalar.addi v36 v38
  let c1_i32_881 : BitVec 32 := 1#32
  let v973 : BitVec 32 := Scalar.muli v39 c1_i32_881
  let v974 : BitVec 32 := Scalar.addi c0_i32_882 v973
  v974.toNat
def k0_dev18 (d0 : Dev nD) : Nat :=
  let c0_i32_936 : BitVec 32 := 0#32
  let c4_i32_35 : BitVec 32 := 4#32
  let c2_i32_34 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v58 : BitVec 32 := Scalar.muli c2_i32_34 v9
  let c2_i32_11 : BitVec 32 := 2#32
  let c2_i32_2 : BitVec 32 := 2#32
  let v8 : BitVec 32 := Scalar.remsi v3 c2_i32_2
  let v19 : BitVec 32 := Scalar.muli c2_i32_11 v8
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v20 : BitVec 32 := Scalar.addi v7 v8
  let c2_i32_12 : BitVec 32 := 2#32
  let v21 : BitVec 32 := Scalar.remsi v20 c2_i32_12
  let v22 : BitVec 32 := Scalar.addi v19 v21
  let c3_i32 : BitVec 32 := 3#32
  let v53 : BitVec 32 := Scalar.addi v22 c3_i32
  let c4_i32_31 : BitVec 32 := 4#32
  let v54 : BitVec 32 := Scalar.remsi v53 c4_i32_31
  let c2_i32_32 : BitVec 32 := 2#32
  let v55 : BitVec 32 := Scalar.divsi v54 c2_i32_32
  let v59 : BitVec 32 := Scalar.addi v58 v55
  let v60 : BitVec 32 := Scalar.muli c4_i32_35 v59
  let c2_i32_36 : BitVec 32 := 2#32
  let v61 : BitVec 32 := Scalar.muli c2_i32_36 v5
  let v62 : BitVec 32 := Scalar.addi v60 v61
  let v56 : BitVec 32 := Scalar.addi v54 v55
  let c2_i32_33 : BitVec 32 := 2#32
  let v57 : BitVec 32 := Scalar.remsi v56 c2_i32_33
  let v63 : BitVec 32 := Scalar.addi v57 v5
  let c2_i32_37 : BitVec 32 := 2#32
  let v64 : BitVec 32 := Scalar.remsi v63 c2_i32_37
  let v65 : BitVec 32 := Scalar.addi v62 v64
  let c1_i32_935 : BitVec 32 := 1#32
  let v1009 : BitVec 32 := Scalar.muli v65 c1_i32_935
  let v1010 : BitVec 32 := Scalar.addi c0_i32_936 v1009
  v1010.toNat
def k0_dev19 (d0 : Dev nD) : Nat :=
  let c0_i32_978 : BitVec 32 := 0#32
  let c4_i32_28 : BitVec 32 := 4#32
  let c2_i32_27 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v45 : BitVec 32 := Scalar.muli c2_i32_27 v9
  let c2_i32_13 : BitVec 32 := 2#32
  let c2_i32_2 : BitVec 32 := 2#32
  let v8 : BitVec 32 := Scalar.remsi v3 c2_i32_2
  let v23 : BitVec 32 := Scalar.muli c2_i32_13 v8
  let c4_i32_0 : BitVec 32 := 4#32
  let v4 : BitVec 32 := Scalar.remsi v2 c4_i32_0
  let c2_i32 : BitVec 32 := 2#32
  let v5 : BitVec 32 := Scalar.divsi v4 c2_i32
  let v24 : BitVec 32 := Scalar.addi v5 v8
  let c2_i32_14 : BitVec 32 := 2#32
  let v25 : BitVec 32 := Scalar.remsi v24 c2_i32_14
  let v26 : BitVec 32 := Scalar.addi v23 v25
  let c1_i32_23 : BitVec 32 := 1#32
  let v40 : BitVec 32 := Scalar.addi v26 c1_i32_23
  let c4_i32_24 : BitVec 32 := 4#32
  let v41 : BitVec 32 := Scalar.remsi v40 c4_i32_24
  let c2_i32_25 : BitVec 32 := 2#32
  let v42 : BitVec 32 := Scalar.divsi v41 c2_i32_25
  let v46 : BitVec 32 := Scalar.addi v45 v42
  let v47 : BitVec 32 := Scalar.muli c4_i32_28 v46
  let c2_i32_29 : BitVec 32 := 2#32
  let v43 : BitVec 32 := Scalar.addi v41 v42
  let c2_i32_26 : BitVec 32 := 2#32
  let v44 : BitVec 32 := Scalar.remsi v43 c2_i32_26
  let v48 : BitVec 32 := Scalar.muli c2_i32_29 v44
  let v49 : BitVec 32 := Scalar.addi v47 v48
  let v6 : BitVec 32 := Scalar.addi v4 v5
  let c2_i32_1 : BitVec 32 := 2#32
  let v7 : BitVec 32 := Scalar.remsi v6 c2_i32_1
  let v50 : BitVec 32 := Scalar.addi v7 v44
  let c2_i32_30 : BitVec 32 := 2#32
  let v51 : BitVec 32 := Scalar.remsi v50 c2_i32_30
  let v52 : BitVec 32 := Scalar.addi v49 v51
  let c1_i32_977 : BitVec 32 := 1#32
  let v1040 : BitVec 32 := Scalar.muli v52 c1_i32_977
  let v1041 : BitVec 32 := Scalar.addi c0_i32_978 v1040
  v1041.toNat
def k0_dev20 (d0 : Dev nD) : Nat :=
  let c0_i32_1019 : BitVec 32 := 0#32
  let c4_i32_43 : BitVec 32 := 4#32
  let c2_i32_42 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v71 : BitVec 32 := Scalar.muli c2_i32_42 v9
  let c2_i32_13 : BitVec 32 := 2#32
  let c2_i32_2 : BitVec 32 := 2#32
  let v8 : BitVec 32 := Scalar.remsi v3 c2_i32_2
  let v23 : BitVec 32 := Scalar.muli c2_i32_13 v8
  let c4_i32_0 : BitVec 32 := 4#32
  let v4 : BitVec 32 := Scalar.remsi v2 c4_i32_0
  let c2_i32 : BitVec 32 := 2#32
  let v5 : BitVec 32 := Scalar.divsi v4 c2_i32
  let v24 : BitVec 32 := Scalar.addi v5 v8
  let c2_i32_14 : BitVec 32 := 2#32
  let v25 : BitVec 32 := Scalar.remsi v24 c2_i32_14
  let v26 : BitVec 32 := Scalar.addi v23 v25
  let c3_i32_38 : BitVec 32 := 3#32
  let v66 : BitVec 32 := Scalar.addi v26 c3_i32_38
  let c4_i32_39 : BitVec 32 := 4#32
  let v67 : BitVec 32 := Scalar.remsi v66 c4_i32_39
  let c2_i32_40 : BitVec 32 := 2#32
  let v68 : BitVec 32 := Scalar.divsi v67 c2_i32_40
  let v72 : BitVec 32 := Scalar.addi v71 v68
  let v73 : BitVec 32 := Scalar.muli c4_i32_43 v72
  let c2_i32_44 : BitVec 32 := 2#32
  let v69 : BitVec 32 := Scalar.addi v67 v68
  let c2_i32_41 : BitVec 32 := 2#32
  let v70 : BitVec 32 := Scalar.remsi v69 c2_i32_41
  let v74 : BitVec 32 := Scalar.muli c2_i32_44 v70
  let v75 : BitVec 32 := Scalar.addi v73 v74
  let v6 : BitVec 32 := Scalar.addi v4 v5
  let c2_i32_1 : BitVec 32 := 2#32
  let v7 : BitVec 32 := Scalar.remsi v6 c2_i32_1
  let v76 : BitVec 32 := Scalar.addi v7 v70
  let c2_i32_45 : BitVec 32 := 2#32
  let v77 : BitVec 32 := Scalar.remsi v76 c2_i32_45
  let v78 : BitVec 32 := Scalar.addi v75 v77
  let c1_i32_1018 : BitVec 32 := 1#32
  let v1070 : BitVec 32 := Scalar.muli v78 c1_i32_1018
  let v1071 : BitVec 32 := Scalar.addi c0_i32_1019 v1070
  v1071.toNat
def k0_dev21 (d0 : Dev nD) : Nat :=
  let c0_i32_1074 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c4_i32_6 : BitVec 32 := 4#32
  let v12 : BitVec 32 := Scalar.remsi v11 c4_i32_6
  let v13 : BitVec 32 := Scalar.addi v10 v12
  let c1_i32_1073 : BitVec 32 := 1#32
  let v1107 : BitVec 32 := Scalar.muli v13 c1_i32_1073
  let v1108 : BitVec 32 := Scalar.addi c0_i32_1074 v1107
  v1108.toNat
def k0_dev22 (d0 : Dev nD) : Nat :=
  let c0_i32_1128 : BitVec 32 := 0#32
  let c4_i32_7 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_7 v3
  let c4_i32_0 : BitVec 32 := 4#32
  let v4 : BitVec 32 := Scalar.remsi v2 c4_i32_0
  let c4_i32_8 : BitVec 32 := 4#32
  let v15 : BitVec 32 := Scalar.addi v4 c4_i32_8
  let c1_i32_9 : BitVec 32 := 1#32
  let v16 : BitVec 32 := Scalar.subi v15 c1_i32_9
  let c4_i32_10 : BitVec 32 := 4#32
  let v17 : BitVec 32 := Scalar.remsi v16 c4_i32_10
  let v18 : BitVec 32 := Scalar.addi v14 v17
  let c1_i32_1127 : BitVec 32 := 1#32
  let v1143 : BitVec 32 := Scalar.muli v18 c1_i32_1127
  let v1144 : BitVec 32 := Scalar.addi c0_i32_1128 v1143
  v1144.toNat
def k0_dev23 (d0 : Dev nD) : Nat :=
  let c0_i32_1170 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c4_i32_6 : BitVec 32 := 4#32
  let v12 : BitVec 32 := Scalar.remsi v11 c4_i32_6
  let v13 : BitVec 32 := Scalar.addi v10 v12
  let c1_i32_1169 : BitVec 32 := 1#32
  let v1174 : BitVec 32 := Scalar.muli v13 c1_i32_1169
  let v1175 : BitVec 32 := Scalar.addi c0_i32_1170 v1174
  v1175.toNat
def k0_dev24 (d0 : Dev nD) : Nat :=
  let c0_i32_1211 : BitVec 32 := 0#32
  let c4_i32_7 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_7 v3
  let c4_i32_0 : BitVec 32 := 4#32
  let v4 : BitVec 32 := Scalar.remsi v2 c4_i32_0
  let c4_i32_8 : BitVec 32 := 4#32
  let v15 : BitVec 32 := Scalar.addi v4 c4_i32_8
  let c1_i32_9 : BitVec 32 := 1#32
  let v16 : BitVec 32 := Scalar.subi v15 c1_i32_9
  let c4_i32_10 : BitVec 32 := 4#32
  let v17 : BitVec 32 := Scalar.remsi v16 c4_i32_10
  let v18 : BitVec 32 := Scalar.addi v14 v17
  let c1_i32_1210 : BitVec 32 := 1#32
  let v1204 : BitVec 32 := Scalar.muli v18 c1_i32_1210
  let v1205 : BitVec 32 := Scalar.addi c0_i32_1211 v1204
  v1205.toNat
def k0_off9 (d0 : Dev nD) : Fin 3 → Nat :=
  let c4_1244 : Index := 4#32
  let c64_i32 : BitVec 32 := 64#32
  let c1_i32_1243 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v1235 : BitVec 32 := Scalar.subi c1_i32_1243 v5
  let v1236 : BitVec 32 := Scalar.muli c64_i32 v1235
  let v1237 : Index := Scalar.indexCast v1236
  let c0_1245 : Index := 0#32
  ![4, v1237.toNat, 0]
def k0_off10 (d0 : Dev nD) : Fin 3 → Nat :=
  let c4_1251 : Index := 4#32
  let c64_i32_1250 : BitVec 32 := 64#32
  let c1_i32_1243 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v1235 : BitVec 32 := Scalar.subi c1_i32_1243 v5
  let c2_i32_1249 : BitVec 32 := 2#32
  let v1243 : BitVec 32 := Scalar.addi v1235 c2_i32_1249
  let v1244 : BitVec 32 := Scalar.muli c64_i32_1250 v1243
  let v1245 : Index := Scalar.indexCast v1244
  let c0_1252 : Index := 0#32
  ![4, v1245.toNat, 0]
def k0_dev25 (d0 : Dev nD) : Nat :=
  let c0_i32_1261 : BitVec 32 := 0#32
  let c4_i32_49 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v83 : BitVec 32 := Scalar.muli c4_i32_49 v3
  let c2_i32_51 : BitVec 32 := 2#32
  let c1_i32_50 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v84 : BitVec 32 := Scalar.subi c1_i32_50 v5
  let v85 : BitVec 32 := Scalar.muli c2_i32_51 v84
  let v86 : BitVec 32 := Scalar.addi v83 v85
  let v6 : BitVec 32 := Scalar.addi v4 v5
  let c2_i32_1 : BitVec 32 := 2#32
  let v7 : BitVec 32 := Scalar.remsi v6 c2_i32_1
  let c1_i32_52 : BitVec 32 := 1#32
  let v87 : BitVec 32 := Scalar.addi v7 c1_i32_52
  let v88 : BitVec 32 := Scalar.addi v87 v5
  let c2_i32_53 : BitVec 32 := 2#32
  let v89 : BitVec 32 := Scalar.remsi v88 c2_i32_53
  let v90 : BitVec 32 := Scalar.addi v86 v89
  let c1_i32_1260 : BitVec 32 := 1#32
  let v1251 : BitVec 32 := Scalar.muli v90 c1_i32_1260
  let v1252 : BitVec 32 := Scalar.addi c0_i32_1261 v1251
  v1252.toNat
def k0_off11 (d0 : Dev nD) : Fin 3 → Nat :=
  let c5_1294 : Index := 5#32
  let c64_i32_1293 : BitVec 32 := 64#32
  let c1_i32_1292 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v1281 : BitVec 32 := Scalar.subi c1_i32_1292 v5
  let v1282 : BitVec 32 := Scalar.muli c64_i32_1293 v1281
  let v1283 : Index := Scalar.indexCast v1282
  let c0_1295 : Index := 0#32
  ![5, v1283.toNat, 0]
def k0_off12 (d0 : Dev nD) : Fin 3 → Nat :=
  let c5_1301 : Index := 5#32
  let c64_i32_1300 : BitVec 32 := 64#32
  let c1_i32_1292 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v1281 : BitVec 32 := Scalar.subi c1_i32_1292 v5
  let c2_i32_1299 : BitVec 32 := 2#32
  let v1289 : BitVec 32 := Scalar.addi v1281 c2_i32_1299
  let v1290 : BitVec 32 := Scalar.muli c64_i32_1300 v1289
  let v1291 : Index := Scalar.indexCast v1290
  let c0_1302 : Index := 0#32
  ![5, v1291.toNat, 0]
def k0_dev26 (d0 : Dev nD) : Nat :=
  let c0_i32_1311 : BitVec 32 := 0#32
  let c4_i32_49 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v83 : BitVec 32 := Scalar.muli c4_i32_49 v3
  let c2_i32_51 : BitVec 32 := 2#32
  let c1_i32_50 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v84 : BitVec 32 := Scalar.subi c1_i32_50 v5
  let v85 : BitVec 32 := Scalar.muli c2_i32_51 v84
  let v86 : BitVec 32 := Scalar.addi v83 v85
  let v6 : BitVec 32 := Scalar.addi v4 v5
  let c2_i32_1 : BitVec 32 := 2#32
  let v7 : BitVec 32 := Scalar.remsi v6 c2_i32_1
  let c1_i32_52 : BitVec 32 := 1#32
  let v87 : BitVec 32 := Scalar.addi v7 c1_i32_52
  let v88 : BitVec 32 := Scalar.addi v87 v5
  let c2_i32_53 : BitVec 32 := 2#32
  let v89 : BitVec 32 := Scalar.remsi v88 c2_i32_53
  let v90 : BitVec 32 := Scalar.addi v86 v89
  let c1_i32_1310 : BitVec 32 := 1#32
  let v1297 : BitVec 32 := Scalar.muli v90 c1_i32_1310
  let v1298 : BitVec 32 := Scalar.addi c0_i32_1311 v1297
  v1298.toNat
def k0_dev27 (d0 : Dev nD) : Nat :=
  let c0_i32_1366 : BitVec 32 := 0#32
  let c4_i32_28 : BitVec 32 := 4#32
  let c2_i32_27 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v45 : BitVec 32 := Scalar.muli c2_i32_27 v9
  let c2_i32_13 : BitVec 32 := 2#32
  let c2_i32_2 : BitVec 32 := 2#32
  let v8 : BitVec 32 := Scalar.remsi v3 c2_i32_2
  let v23 : BitVec 32 := Scalar.muli c2_i32_13 v8
  let c4_i32_0 : BitVec 32 := 4#32
  let v4 : BitVec 32 := Scalar.remsi v2 c4_i32_0
  let c2_i32 : BitVec 32 := 2#32
  let v5 : BitVec 32 := Scalar.divsi v4 c2_i32
  let v24 : BitVec 32 := Scalar.addi v5 v8
  let c2_i32_14 : BitVec 32 := 2#32
  let v25 : BitVec 32 := Scalar.remsi v24 c2_i32_14
  let v26 : BitVec 32 := Scalar.addi v23 v25
  let c1_i32_23 : BitVec 32 := 1#32
  let v40 : BitVec 32 := Scalar.addi v26 c1_i32_23
  let c4_i32_24 : BitVec 32 := 4#32
  let v41 : BitVec 32 := Scalar.remsi v40 c4_i32_24
  let c2_i32_25 : BitVec 32 := 2#32
  let v42 : BitVec 32 := Scalar.divsi v41 c2_i32_25
  let v46 : BitVec 32 := Scalar.addi v45 v42
  let v47 : BitVec 32 := Scalar.muli c4_i32_28 v46
  let c2_i32_29 : BitVec 32 := 2#32
  let v43 : BitVec 32 := Scalar.addi v41 v42
  let c2_i32_26 : BitVec 32 := 2#32
  let v44 : BitVec 32 := Scalar.remsi v43 c2_i32_26
  let v48 : BitVec 32 := Scalar.muli c2_i32_29 v44
  let v49 : BitVec 32 := Scalar.addi v47 v48
  let v6 : BitVec 32 := Scalar.addi v4 v5
  let c2_i32_1 : BitVec 32 := 2#32
  let v7 : BitVec 32 := Scalar.remsi v6 c2_i32_1
  let v50 : BitVec 32 := Scalar.addi v7 v44
  let c2_i32_30 : BitVec 32 := 2#32
  let v51 : BitVec 32 := Scalar.remsi v50 c2_i32_30
  let v52 : BitVec 32 := Scalar.addi v49 v51
  let c1_i32_1365 : BitVec 32 := 1#32
  let v1334 : BitVec 32 := Scalar.muli v52 c1_i32_1365
  let v1335 : BitVec 32 := Scalar.addi c0_i32_1366 v1334
  v1335.toNat
def k0_dev28 (d0 : Dev nD) : Nat :=
  let c0_i32_1420 : BitVec 32 := 0#32
  let c4_i32_43 : BitVec 32 := 4#32
  let c2_i32_42 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v71 : BitVec 32 := Scalar.muli c2_i32_42 v9
  let c2_i32_13 : BitVec 32 := 2#32
  let c2_i32_2 : BitVec 32 := 2#32
  let v8 : BitVec 32 := Scalar.remsi v3 c2_i32_2
  let v23 : BitVec 32 := Scalar.muli c2_i32_13 v8
  let c4_i32_0 : BitVec 32 := 4#32
  let v4 : BitVec 32 := Scalar.remsi v2 c4_i32_0
  let c2_i32 : BitVec 32 := 2#32
  let v5 : BitVec 32 := Scalar.divsi v4 c2_i32
  let v24 : BitVec 32 := Scalar.addi v5 v8
  let c2_i32_14 : BitVec 32 := 2#32
  let v25 : BitVec 32 := Scalar.remsi v24 c2_i32_14
  let v26 : BitVec 32 := Scalar.addi v23 v25
  let c3_i32_38 : BitVec 32 := 3#32
  let v66 : BitVec 32 := Scalar.addi v26 c3_i32_38
  let c4_i32_39 : BitVec 32 := 4#32
  let v67 : BitVec 32 := Scalar.remsi v66 c4_i32_39
  let c2_i32_40 : BitVec 32 := 2#32
  let v68 : BitVec 32 := Scalar.divsi v67 c2_i32_40
  let v72 : BitVec 32 := Scalar.addi v71 v68
  let v73 : BitVec 32 := Scalar.muli c4_i32_43 v72
  let c2_i32_44 : BitVec 32 := 2#32
  let v69 : BitVec 32 := Scalar.addi v67 v68
  let c2_i32_41 : BitVec 32 := 2#32
  let v70 : BitVec 32 := Scalar.remsi v69 c2_i32_41
  let v74 : BitVec 32 := Scalar.muli c2_i32_44 v70
  let v75 : BitVec 32 := Scalar.addi v73 v74
  let v6 : BitVec 32 := Scalar.addi v4 v5
  let c2_i32_1 : BitVec 32 := 2#32
  let v7 : BitVec 32 := Scalar.remsi v6 c2_i32_1
  let v76 : BitVec 32 := Scalar.addi v7 v70
  let c2_i32_45 : BitVec 32 := 2#32
  let v77 : BitVec 32 := Scalar.remsi v76 c2_i32_45
  let v78 : BitVec 32 := Scalar.addi v75 v77
  let c1_i32_1419 : BitVec 32 := 1#32
  let v1370 : BitVec 32 := Scalar.muli v78 c1_i32_1419
  let v1371 : BitVec 32 := Scalar.addi c0_i32_1420 v1370
  v1371.toNat
def k0_off13 (d0 : Dev nD) : Fin 3 → Nat :=
  let c0_1454 : Index := 0#32
  let c64_i32_1453 : BitVec 32 := 64#32
  let c1_i32_1452 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1401 : BitVec 32 := Scalar.subi c1_i32_1452 v8
  let v1402 : BitVec 32 := Scalar.muli c64_i32_1453 v1401
  let v1403 : Index := Scalar.indexCast v1402
  let c0_1455 : Index := 0#32
  ![0, v1403.toNat, 0]
def k0_off14 (d0 : Dev nD) : Fin 3 → Nat :=
  let c0_1461 : Index := 0#32
  let c64_i32_1460 : BitVec 32 := 64#32
  let c1_i32_1452 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1401 : BitVec 32 := Scalar.subi c1_i32_1452 v8
  let c2_i32_1459 : BitVec 32 := 2#32
  let v1409 : BitVec 32 := Scalar.addi v1401 c2_i32_1459
  let v1410 : BitVec 32 := Scalar.muli c64_i32_1460 v1409
  let v1411 : Index := Scalar.indexCast v1410
  let c0_1462 : Index := 0#32
  ![0, v1411.toNat, 0]
def k0_dev29 (d0 : Dev nD) : Nat :=
  let c0_i32_1471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let c1_i32_47 : BitVec 32 := 1#32
  let c2_i32_46 : BitVec 32 := 2#32
  let c4_i32 : BitVec 32 := 4#32
  let v3 : BitVec 32 := Scalar.divsi v2 c4_i32
  let c2_i32_2 : BitVec 32 := 2#32
  let v8 : BitVec 32 := Scalar.remsi v3 c2_i32_2
  let v79 : BitVec 32 := Scalar.muli c2_i32_46 v8
  let v80 : BitVec 32 := Scalar.subi c1_i32_47 v79
  let v81 : BitVec 32 := Scalar.muli c4_i32_48 v80
  let v82 : BitVec 32 := Scalar.addi v2 v81
  let c1_i32_1470 : BitVec 32 := 1#32
  let v1417 : BitVec 32 := Scalar.muli v82 c1_i32_1470
  let v1418 : BitVec 32 := Scalar.addi c0_i32_1471 v1417
  v1418.toNat
def k0_off15 (d0 : Dev nD) : Fin 3 → Nat :=
  let c1_1504 : Index := 1#32
  let c64_i32_1503 : BitVec 32 := 64#32
  let c1_i32_1502 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1447 : BitVec 32 := Scalar.subi c1_i32_1502 v8
  let v1448 : BitVec 32 := Scalar.muli c64_i32_1503 v1447
  let v1449 : Index := Scalar.indexCast v1448
  let c0_1505 : Index := 0#32
  ![1, v1449.toNat, 0]
def k0_off16 (d0 : Dev nD) : Fin 3 → Nat :=
  let c1_1511 : Index := 1#32
  let c64_i32_1510 : BitVec 32 := 64#32
  let c1_i32_1502 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1447 : BitVec 32 := Scalar.subi c1_i32_1502 v8
  let c2_i32_1509 : BitVec 32 := 2#32
  let v1455 : BitVec 32 := Scalar.addi v1447 c2_i32_1509
  let v1456 : BitVec 32 := Scalar.muli c64_i32_1510 v1455
  let v1457 : Index := Scalar.indexCast v1456
  let c0_1512 : Index := 0#32
  ![1, v1457.toNat, 0]
def k0_dev30 (d0 : Dev nD) : Nat :=
  let c0_i32_1521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let c1_i32_47 : BitVec 32 := 1#32
  let c2_i32_46 : BitVec 32 := 2#32
  let c4_i32 : BitVec 32 := 4#32
  let v3 : BitVec 32 := Scalar.divsi v2 c4_i32
  let c2_i32_2 : BitVec 32 := 2#32
  let v8 : BitVec 32 := Scalar.remsi v3 c2_i32_2
  let v79 : BitVec 32 := Scalar.muli c2_i32_46 v8
  let v80 : BitVec 32 := Scalar.subi c1_i32_47 v79
  let v81 : BitVec 32 := Scalar.muli c4_i32_48 v80
  let v82 : BitVec 32 := Scalar.addi v2 v81
  let c1_i32_1520 : BitVec 32 := 1#32
  let v1463 : BitVec 32 := Scalar.muli v82 c1_i32_1520
  let v1464 : BitVec 32 := Scalar.addi c0_i32_1521 v1463
  v1464.toNat
def k0_dev31 (d0 : Dev nD) : Nat :=
  let c0_i32_1576 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v10 : BitVec 32 := Scalar.muli c4_i32_4 v3
  let c4_i32_0 : BitVec 32 := 4#32
  let v4 : BitVec 32 := Scalar.remsi v2 c4_i32_0
  let c1_i32_5 : BitVec 32 := 1#32
  let v11 : BitVec 32 := Scalar.addi v4 c1_i32_5
  let c4_i32_6 : BitVec 32 := 4#32
  let v12 : BitVec 32 := Scalar.remsi v11 c4_i32_6
  let v13 : BitVec 32 := Scalar.addi v10 v12
  let c1_i32_1575 : BitVec 32 := 1#32
  let v1500 : BitVec 32 := Scalar.muli v13 c1_i32_1575
  let v1501 : BitVec 32 := Scalar.addi c0_i32_1576 v1500
  v1501.toNat
def k0_dev32 (d0 : Dev nD) : Nat :=
  let c0_i32_1630 : BitVec 32 := 0#32
  let c4_i32_7 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_7 v3
  let c4_i32_0 : BitVec 32 := 4#32
  let v4 : BitVec 32 := Scalar.remsi v2 c4_i32_0
  let c4_i32_8 : BitVec 32 := 4#32
  let v15 : BitVec 32 := Scalar.addi v4 c4_i32_8
  let c1_i32_9 : BitVec 32 := 1#32
  let v16 : BitVec 32 := Scalar.subi v15 c1_i32_9
  let c4_i32_10 : BitVec 32 := 4#32
  let v17 : BitVec 32 := Scalar.remsi v16 c4_i32_10
  let v18 : BitVec 32 := Scalar.addi v14 v17
  let c1_i32_1629 : BitVec 32 := 1#32
  let v1536 : BitVec 32 := Scalar.muli v18 c1_i32_1629
  let v1537 : BitVec 32 := Scalar.addi c0_i32_1630 v1536
  v1537.toNat
def k0_off17 (d0 : Dev nD) : Fin 3 → Nat :=
  let c4_1649 : Index := 4#32
  let c64_i32_1648 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v1556 : BitVec 32 := Scalar.muli c64_i32_1648 v5
  let v1557 : Index := Scalar.indexCast v1556
  let c0_1650 : Index := 0#32
  ![4, v1557.toNat, 0]
def k0_off18 (d0 : Dev nD) : Fin 3 → Nat :=
  let c4_1659 : Index := 4#32
  let c64_i32_1658 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let c2_i32_1657 : BitVec 32 := 2#32
  let v1566 : BitVec 32 := Scalar.addi v5 c2_i32_1657
  let v1567 : BitVec 32 := Scalar.muli c64_i32_1658 v1566
  let v1568 : Index := Scalar.indexCast v1567
  let c0_1660 : Index := 0#32
  ![4, v1568.toNat, 0]
def k0_off19 (d0 : Dev nD) : Fin 3 → Nat :=
  let c4_1666 : Index := 4#32
  let c64_i32_1665 : BitVec 32 := 64#32
  let c1_i32_1664 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v1575 : BitVec 32 := Scalar.subi c1_i32_1664 v9
  let v1576 : BitVec 32 := Scalar.muli c64_i32_1665 v1575
  let v1577 : Index := Scalar.indexCast v1576
  let c0_1667 : Index := 0#32
  ![4, v1577.toNat, 0]
def k0_dev33 (d0 : Dev nD) : Nat :=
  let c0_i32_1676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_1675 : BitVec 32 := 1#32
  let v1583 : BitVec 32 := Scalar.muli v101 c1_i32_1675
  let v1584 : BitVec 32 := Scalar.addi c0_i32_1676 v1583
  v1584.toNat
def k0_off20 (d0 : Dev nD) : Fin 3 → Nat :=
  let c5_1695 : Index := 5#32
  let c64_i32_1694 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v1603 : BitVec 32 := Scalar.muli c64_i32_1694 v5
  let v1604 : Index := Scalar.indexCast v1603
  let c0_1696 : Index := 0#32
  ![5, v1604.toNat, 0]
def k0_off21 (d0 : Dev nD) : Fin 3 → Nat :=
  let c5_1705 : Index := 5#32
  let c64_i32_1704 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let c2_i32_1703 : BitVec 32 := 2#32
  let v1613 : BitVec 32 := Scalar.addi v5 c2_i32_1703
  let v1614 : BitVec 32 := Scalar.muli c64_i32_1704 v1613
  let v1615 : Index := Scalar.indexCast v1614
  let c0_1706 : Index := 0#32
  ![5, v1615.toNat, 0]
def k0_off22 (d0 : Dev nD) : Fin 3 → Nat :=
  let c5_1712 : Index := 5#32
  let c64_i32_1711 : BitVec 32 := 64#32
  let c1_i32_1710 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v1622 : BitVec 32 := Scalar.subi c1_i32_1710 v9
  let v1623 : BitVec 32 := Scalar.muli c64_i32_1711 v1622
  let v1624 : Index := Scalar.indexCast v1623
  let c0_1713 : Index := 0#32
  ![5, v1624.toNat, 0]
def k0_dev34 (d0 : Dev nD) : Nat :=
  let c0_i32_1722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_1721 : BitVec 32 := 1#32
  let v1630 : BitVec 32 := Scalar.muli v101 c1_i32_1721
  let v1631 : BitVec 32 := Scalar.addi c0_i32_1722 v1630
  v1631.toNat
def k0_off23 (d0 : Dev nD) : Fin 3 → Nat :=
  let c6_1756 : Index := 6#32
  let c64_i32_1755 : BitVec 32 := 64#32
  let c1_i32_1754 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v1661 : BitVec 32 := Scalar.subi c1_i32_1754 v7
  let v1662 : BitVec 32 := Scalar.muli c64_i32_1755 v1661
  let v1663 : Index := Scalar.indexCast v1662
  let c0_1757 : Index := 0#32
  ![6, v1663.toNat, 0]
def k0_off24 (d0 : Dev nD) : Fin 3 → Nat :=
  let c6_1763 : Index := 6#32
  let c64_i32_1762 : BitVec 32 := 64#32
  let c1_i32_1754 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v1661 : BitVec 32 := Scalar.subi c1_i32_1754 v7
  let c2_i32_1761 : BitVec 32 := 2#32
  let v1669 : BitVec 32 := Scalar.addi v1661 c2_i32_1761
  let v1670 : BitVec 32 := Scalar.muli c64_i32_1762 v1669
  let v1671 : Index := Scalar.indexCast v1670
  let c0_1764 : Index := 0#32
  ![6, v1671.toNat, 0]
def k0_dev35 (d0 : Dev nD) : Nat :=
  let c0_i32_1773 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v91 : BitVec 32 := Scalar.muli c4_i32_54 v3
  let c2_i32_55 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v92 : BitVec 32 := Scalar.muli c2_i32_55 v5
  let v93 : BitVec 32 := Scalar.addi v91 v92
  let c1_i32_56 : BitVec 32 := 1#32
  let v6 : BitVec 32 := Scalar.addi v4 v5
  let c2_i32_1 : BitVec 32 := 2#32
  let v7 : BitVec 32 := Scalar.remsi v6 c2_i32_1
  let v94 : BitVec 32 := Scalar.addi c1_i32_56 v7
  let v95 : BitVec 32 := Scalar.addi v94 v5
  let c2_i32_57 : BitVec 32 := 2#32
  let v96 : BitVec 32 := Scalar.remsi v95 c2_i32_57
  let v97 : BitVec 32 := Scalar.addi v93 v96
  let c1_i32_1772 : BitVec 32 := 1#32
  let v1677 : BitVec 32 := Scalar.muli v97 c1_i32_1772
  let v1678 : BitVec 32 := Scalar.addi c0_i32_1773 v1677
  v1678.toNat
def k0_off25 (d0 : Dev nD) : Fin 3 → Nat :=
  let c7_1806 : Index := 7#32
  let c64_i32_1805 : BitVec 32 := 64#32
  let c1_i32_1804 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v1707 : BitVec 32 := Scalar.subi c1_i32_1804 v7
  let v1708 : BitVec 32 := Scalar.muli c64_i32_1805 v1707
  let v1709 : Index := Scalar.indexCast v1708
  let c0_1807 : Index := 0#32
  ![7, v1709.toNat, 0]
def k0_off26 (d0 : Dev nD) : Fin 3 → Nat :=
  let c7_1813 : Index := 7#32
  let c64_i32_1812 : BitVec 32 := 64#32
  let c1_i32_1804 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v1707 : BitVec 32 := Scalar.subi c1_i32_1804 v7
  let c2_i32_1811 : BitVec 32 := 2#32
  let v1715 : BitVec 32 := Scalar.addi v1707 c2_i32_1811
  let v1716 : BitVec 32 := Scalar.muli c64_i32_1812 v1715
  let v1717 : Index := Scalar.indexCast v1716
  let c0_1814 : Index := 0#32
  ![7, v1717.toNat, 0]
def k0_dev36 (d0 : Dev nD) : Nat :=
  let c0_i32_1823 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v91 : BitVec 32 := Scalar.muli c4_i32_54 v3
  let c2_i32_55 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v92 : BitVec 32 := Scalar.muli c2_i32_55 v5
  let v93 : BitVec 32 := Scalar.addi v91 v92
  let c1_i32_56 : BitVec 32 := 1#32
  let v6 : BitVec 32 := Scalar.addi v4 v5
  let c2_i32_1 : BitVec 32 := 2#32
  let v7 : BitVec 32 := Scalar.remsi v6 c2_i32_1
  let v94 : BitVec 32 := Scalar.addi c1_i32_56 v7
  let v95 : BitVec 32 := Scalar.addi v94 v5
  let c2_i32_57 : BitVec 32 := 2#32
  let v96 : BitVec 32 := Scalar.remsi v95 c2_i32_57
  let v97 : BitVec 32 := Scalar.addi v93 v96
  let c1_i32_1822 : BitVec 32 := 1#32
  let v1723 : BitVec 32 := Scalar.muli v97 c1_i32_1822
  let v1724 : BitVec 32 := Scalar.addi c0_i32_1823 v1723
  v1724.toNat
def k0_off27 (d0 : Dev nD) : Fin 3 → Nat :=
  let c0_1842 : Index := 0#32
  let c64_i32_1841 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1743 : BitVec 32 := Scalar.muli c64_i32_1841 v8
  let v1744 : Index := Scalar.indexCast v1743
  let c0_1843 : Index := 0#32
  ![0, v1744.toNat, 0]
def k0_off28 (d0 : Dev nD) : Fin 3 → Nat :=
  let c0_1852 : Index := 0#32
  let c64_i32_1851 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let c2_i32_1850 : BitVec 32 := 2#32
  let v1753 : BitVec 32 := Scalar.addi v8 c2_i32_1850
  let v1754 : BitVec 32 := Scalar.muli c64_i32_1851 v1753
  let v1755 : Index := Scalar.indexCast v1754
  let c0_1853 : Index := 0#32
  ![0, v1755.toNat, 0]
def k0_off29 (d0 : Dev nD) : Fin 3 → Nat :=
  let c0_1859 : Index := 0#32
  let c64_i32_1858 : BitVec 32 := 64#32
  let c1_i32_1857 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v1762 : BitVec 32 := Scalar.subi c1_i32_1857 v9
  let v1763 : BitVec 32 := Scalar.muli c64_i32_1858 v1762
  let v1764 : Index := Scalar.indexCast v1763
  let c0_1860 : Index := 0#32
  ![0, v1764.toNat, 0]
def k0_dev37 (d0 : Dev nD) : Nat :=
  let c0_i32_1869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_1868 : BitVec 32 := 1#32
  let v1770 : BitVec 32 := Scalar.muli v101 c1_i32_1868
  let v1771 : BitVec 32 := Scalar.addi c0_i32_1869 v1770
  v1771.toNat
def k0_off30 (d0 : Dev nD) : Fin 3 → Nat :=
  let c1_1888 : Index := 1#32
  let c64_i32_1887 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1790 : BitVec 32 := Scalar.muli c64_i32_1887 v8
  let v1791 : Index := Scalar.indexCast v1790
  let c0_1889 : Index := 0#32
  ![1, v1791.toNat, 0]
def k0_off31 (d0 : Dev nD) : Fin 3 → Nat :=
  let c1_1898 : Index := 1#32
  let c64_i32_1897 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let c2_i32_1896 : BitVec 32 := 2#32
  let v1800 : BitVec 32 := Scalar.addi v8 c2_i32_1896
  let v1801 : BitVec 32 := Scalar.muli c64_i32_1897 v1800
  let v1802 : Index := Scalar.indexCast v1801
  let c0_1899 : Index := 0#32
  ![1, v1802.toNat, 0]
def k0_off32 (d0 : Dev nD) : Fin 3 → Nat :=
  let c1_1905 : Index := 1#32
  let c64_i32_1904 : BitVec 32 := 64#32
  let c1_i32_1903 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v1809 : BitVec 32 := Scalar.subi c1_i32_1903 v9
  let v1810 : BitVec 32 := Scalar.muli c64_i32_1904 v1809
  let v1811 : Index := Scalar.indexCast v1810
  let c0_1906 : Index := 0#32
  ![1, v1811.toNat, 0]
def k0_dev38 (d0 : Dev nD) : Nat :=
  let c0_i32_1915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_1914 : BitVec 32 := 1#32
  let v1817 : BitVec 32 := Scalar.muli v101 c1_i32_1914
  let v1818 : BitVec 32 := Scalar.addi c0_i32_1915 v1817
  v1818.toNat
def k0_off33 (d0 : Dev nD) : Fin 3 → Nat :=
  let c2_1949 : Index := 2#32
  let c64_i32_1948 : BitVec 32 := 64#32
  let c1_i32_1947 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1848 : BitVec 32 := Scalar.subi c1_i32_1947 v8
  let v1849 : BitVec 32 := Scalar.muli c64_i32_1948 v1848
  let v1850 : Index := Scalar.indexCast v1849
  let c0_1950 : Index := 0#32
  ![2, v1850.toNat, 0]
def k0_off34 (d0 : Dev nD) : Fin 3 → Nat :=
  let c2_1956 : Index := 2#32
  let c64_i32_1955 : BitVec 32 := 64#32
  let c1_i32_1947 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1848 : BitVec 32 := Scalar.subi c1_i32_1947 v8
  let c2_i32_1954 : BitVec 32 := 2#32
  let v1856 : BitVec 32 := Scalar.addi v1848 c2_i32_1954
  let v1857 : BitVec 32 := Scalar.muli c64_i32_1955 v1856
  let v1858 : Index := Scalar.indexCast v1857
  let c0_1957 : Index := 0#32
  ![2, v1858.toNat, 0]
def k0_dev39 (d0 : Dev nD) : Nat :=
  let c0_i32_1966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let c1_i32_47 : BitVec 32 := 1#32
  let c2_i32_46 : BitVec 32 := 2#32
  let c4_i32 : BitVec 32 := 4#32
  let v3 : BitVec 32 := Scalar.divsi v2 c4_i32
  let c2_i32_2 : BitVec 32 := 2#32
  let v8 : BitVec 32 := Scalar.remsi v3 c2_i32_2
  let v79 : BitVec 32 := Scalar.muli c2_i32_46 v8
  let v80 : BitVec 32 := Scalar.subi c1_i32_47 v79
  let v81 : BitVec 32 := Scalar.muli c4_i32_48 v80
  let v82 : BitVec 32 := Scalar.addi v2 v81
  let c1_i32_1965 : BitVec 32 := 1#32
  let v1864 : BitVec 32 := Scalar.muli v82 c1_i32_1965
  let v1865 : BitVec 32 := Scalar.addi c0_i32_1966 v1864
  v1865.toNat
def k0_off35 (d0 : Dev nD) : Fin 3 → Nat :=
  let c3_1999 : Index := 3#32
  let c64_i32_1998 : BitVec 32 := 64#32
  let c1_i32_1997 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1894 : BitVec 32 := Scalar.subi c1_i32_1997 v8
  let v1895 : BitVec 32 := Scalar.muli c64_i32_1998 v1894
  let v1896 : Index := Scalar.indexCast v1895
  let c0_2000 : Index := 0#32
  ![3, v1896.toNat, 0]
def k0_off36 (d0 : Dev nD) : Fin 3 → Nat :=
  let c3_2006 : Index := 3#32
  let c64_i32_2005 : BitVec 32 := 64#32
  let c1_i32_1997 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v1894 : BitVec 32 := Scalar.subi c1_i32_1997 v8
  let c2_i32_2004 : BitVec 32 := 2#32
  let v1902 : BitVec 32 := Scalar.addi v1894 c2_i32_2004
  let v1903 : BitVec 32 := Scalar.muli c64_i32_2005 v1902
  let v1904 : Index := Scalar.indexCast v1903
  let c0_2007 : Index := 0#32
  ![3, v1904.toNat, 0]
def k0_dev40 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_48 : BitVec 32 := 4#32
  let c1_i32_47 : BitVec 32 := 1#32
  let c2_i32_46 : BitVec 32 := 2#32
  let c4_i32 : BitVec 32 := 4#32
  let v3 : BitVec 32 := Scalar.divsi v2 c4_i32
  let c2_i32_2 : BitVec 32 := 2#32
  let v8 : BitVec 32 := Scalar.remsi v3 c2_i32_2
  let v79 : BitVec 32 := Scalar.muli c2_i32_46 v8
  let v80 : BitVec 32 := Scalar.subi c1_i32_47 v79
  let v81 : BitVec 32 := Scalar.muli c4_i32_48 v80
  let v82 : BitVec 32 := Scalar.addi v2 v81
  let c1_i32_2015 : BitVec 32 := 1#32
  let v1910 : BitVec 32 := Scalar.muli v82 c1_i32_2015
  let v1911 : BitVec 32 := Scalar.addi c0_i32_2016 v1910
  v1911.toNat
def k0_off37 (d0 : Dev nD) : Fin 3 → Nat :=
  let c4_2035 : Index := 4#32
  let c64_i32_2034 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v1931 : BitVec 32 := Scalar.muli c64_i32_2034 v9
  let v1932 : Index := Scalar.indexCast v1931
  let c0_2036 : Index := 0#32
  ![4, v1932.toNat, 0]
def k0_off38 (d0 : Dev nD) : Fin 3 → Nat :=
  let c5_2053 : Index := 5#32
  let c64_i32_2052 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v1949 : BitVec 32 := Scalar.muli c64_i32_2052 v9
  let v1950 : Index := Scalar.indexCast v1949
  let c0_2054 : Index := 0#32
  ![5, v1950.toNat, 0]
def k0_off39 (d0 : Dev nD) : Fin 3 → Nat :=
  let c6_2071 : Index := 6#32
  let c64_i32_2070 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v1966 : BitVec 32 := Scalar.muli c64_i32_2070 v7
  let v1967 : Index := Scalar.indexCast v1966
  let c0_2072 : Index := 0#32
  ![6, v1967.toNat, 0]
def k0_off40 (d0 : Dev nD) : Fin 3 → Nat :=
  let c6_2081 : Index := 6#32
  let c64_i32_2080 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c2_i32_2079 : BitVec 32 := 2#32
  let v1976 : BitVec 32 := Scalar.addi v7 c2_i32_2079
  let v1977 : BitVec 32 := Scalar.muli c64_i32_2080 v1976
  let v1978 : Index := Scalar.indexCast v1977
  let c0_2082 : Index := 0#32
  ![6, v1978.toNat, 0]
def k0_off41 (d0 : Dev nD) : Fin 3 → Nat :=
  let c6_2088 : Index := 6#32
  let c64_i32_2087 : BitVec 32 := 64#32
  let c1_i32_2086 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v1985 : BitVec 32 := Scalar.subi c1_i32_2086 v9
  let v1986 : BitVec 32 := Scalar.muli c64_i32_2087 v1985
  let v1987 : Index := Scalar.indexCast v1986
  let c0_2089 : Index := 0#32
  ![6, v1987.toNat, 0]
def k0_dev41 (d0 : Dev nD) : Nat :=
  let c0_i32_2098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_2097 : BitVec 32 := 1#32
  let v1993 : BitVec 32 := Scalar.muli v101 c1_i32_2097
  let v1994 : BitVec 32 := Scalar.addi c0_i32_2098 v1993
  v1994.toNat
def k0_off42 (d0 : Dev nD) : Fin 3 → Nat :=
  let c7_2117 : Index := 7#32
  let c64_i32_2116 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let v2013 : BitVec 32 := Scalar.muli c64_i32_2116 v7
  let v2014 : Index := Scalar.indexCast v2013
  let c0_2118 : Index := 0#32
  ![7, v2014.toNat, 0]
def k0_off43 (d0 : Dev nD) : Fin 3 → Nat :=
  let c7_2127 : Index := 7#32
  let c64_i32_2126 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c2_i32_2125 : BitVec 32 := 2#32
  let v2023 : BitVec 32 := Scalar.addi v7 c2_i32_2125
  let v2024 : BitVec 32 := Scalar.muli c64_i32_2126 v2023
  let v2025 : Index := Scalar.indexCast v2024
  let c0_2128 : Index := 0#32
  ![7, v2025.toNat, 0]
def k0_off44 (d0 : Dev nD) : Fin 3 → Nat :=
  let c7_2134 : Index := 7#32
  let c64_i32_2133 : BitVec 32 := 64#32
  let c1_i32_2132 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2032 : BitVec 32 := Scalar.subi c1_i32_2132 v9
  let v2033 : BitVec 32 := Scalar.muli c64_i32_2133 v2032
  let v2034 : Index := Scalar.indexCast v2033
  let c0_2135 : Index := 0#32
  ![7, v2034.toNat, 0]
def k0_dev42 (d0 : Dev nD) : Nat :=
  let c0_i32_2144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_2143 : BitVec 32 := 1#32
  let v2040 : BitVec 32 := Scalar.muli v101 c1_i32_2143
  let v2041 : BitVec 32 := Scalar.addi c0_i32_2144 v2040
  v2041.toNat
def k0_off45 (d0 : Dev nD) : Fin 3 → Nat :=
  let c0_2163 : Index := 0#32
  let c64_i32_2162 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2061 : BitVec 32 := Scalar.muli c64_i32_2162 v9
  let v2062 : Index := Scalar.indexCast v2061
  let c0_2164 : Index := 0#32
  ![0, v2062.toNat, 0]
def k0_off46 (d0 : Dev nD) : Fin 3 → Nat :=
  let c1_2181 : Index := 1#32
  let c64_i32_2180 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2079 : BitVec 32 := Scalar.muli c64_i32_2180 v9
  let v2080 : Index := Scalar.indexCast v2079
  let c0_2182 : Index := 0#32
  ![1, v2080.toNat, 0]
def k0_off47 (d0 : Dev nD) : Fin 3 → Nat :=
  let c2_2199 : Index := 2#32
  let c64_i32_2198 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v2096 : BitVec 32 := Scalar.muli c64_i32_2198 v8
  let v2097 : Index := Scalar.indexCast v2096
  let c0_2200 : Index := 0#32
  ![2, v2097.toNat, 0]
def k0_off48 (d0 : Dev nD) : Fin 3 → Nat :=
  let c2_2209 : Index := 2#32
  let c64_i32_2208 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let c2_i32_2207 : BitVec 32 := 2#32
  let v2106 : BitVec 32 := Scalar.addi v8 c2_i32_2207
  let v2107 : BitVec 32 := Scalar.muli c64_i32_2208 v2106
  let v2108 : Index := Scalar.indexCast v2107
  let c0_2210 : Index := 0#32
  ![2, v2108.toNat, 0]
def k0_off49 (d0 : Dev nD) : Fin 3 → Nat :=
  let c2_2216 : Index := 2#32
  let c64_i32_2215 : BitVec 32 := 64#32
  let c1_i32_2214 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2115 : BitVec 32 := Scalar.subi c1_i32_2214 v9
  let v2116 : BitVec 32 := Scalar.muli c64_i32_2215 v2115
  let v2117 : Index := Scalar.indexCast v2116
  let c0_2217 : Index := 0#32
  ![2, v2117.toNat, 0]
def k0_dev43 (d0 : Dev nD) : Nat :=
  let c0_i32_2226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_2225 : BitVec 32 := 1#32
  let v2123 : BitVec 32 := Scalar.muli v101 c1_i32_2225
  let v2124 : BitVec 32 := Scalar.addi c0_i32_2226 v2123
  v2124.toNat
def k0_off50 (d0 : Dev nD) : Fin 3 → Nat :=
  let c3_2245 : Index := 3#32
  let c64_i32_2244 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let v2143 : BitVec 32 := Scalar.muli c64_i32_2244 v8
  let v2144 : Index := Scalar.indexCast v2143
  let c0_2246 : Index := 0#32
  ![3, v2144.toNat, 0]
def k0_off51 (d0 : Dev nD) : Fin 3 → Nat :=
  let c3_2255 : Index := 3#32
  let c64_i32_2254 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_2 : BitVec 32 := 2#32
  let v8 : BitVec 32 := Scalar.remsi v3 c2_i32_2
  let c2_i32_2253 : BitVec 32 := 2#32
  let v2153 : BitVec 32 := Scalar.addi v8 c2_i32_2253
  let v2154 : BitVec 32 := Scalar.muli c64_i32_2254 v2153
  let v2155 : Index := Scalar.indexCast v2154
  let c0_2256 : Index := 0#32
  ![3, v2155.toNat, 0]
def k0_off52 (d0 : Dev nD) : Fin 3 → Nat :=
  let c3_2262 : Index := 3#32
  let c64_i32_2261 : BitVec 32 := 64#32
  let c1_i32_2260 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2162 : BitVec 32 := Scalar.subi c1_i32_2260 v9
  let v2163 : BitVec 32 := Scalar.muli c64_i32_2261 v2162
  let v2164 : Index := Scalar.indexCast v2163
  let c0_2263 : Index := 0#32
  ![3, v2164.toNat, 0]
def k0_dev44 (d0 : Dev nD) : Nat :=
  let c0_i32_2272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let c1_i32_59 : BitVec 32 := 1#32
  let c2_i32_58 : BitVec 32 := 2#32
  let c4_i32 : BitVec 32 := 4#32
  let v3 : BitVec 32 := Scalar.divsi v2 c4_i32
  let c2_i32_3 : BitVec 32 := 2#32
  let v9 : BitVec 32 := Scalar.divsi v3 c2_i32_3
  let v98 : BitVec 32 := Scalar.muli c2_i32_58 v9
  let v99 : BitVec 32 := Scalar.subi c1_i32_59 v98
  let v100 : BitVec 32 := Scalar.muli c8_i32 v99
  let v101 : BitVec 32 := Scalar.addi v2 v100
  let c1_i32_2271 : BitVec 32 := 1#32
  let v2170 : BitVec 32 := Scalar.muli v101 c1_i32_2271
  let v2171 : BitVec 32 := Scalar.addi c0_i32_2272 v2170
  v2171.toNat
def k0_off53 (d0 : Dev nD) : Fin 3 → Nat :=
  let c6_2291 : Index := 6#32
  let c64_i32_2290 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2191 : BitVec 32 := Scalar.muli c64_i32_2290 v9
  let v2192 : Index := Scalar.indexCast v2191
  let c0_2292 : Index := 0#32
  ![6, v2192.toNat, 0]
def k0_off54 (d0 : Dev nD) : Fin 3 → Nat :=
  let c7_2309 : Index := 7#32
  let c64_i32_2308 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2209 : BitVec 32 := Scalar.muli c64_i32_2308 v9
  let v2210 : Index := Scalar.indexCast v2209
  let c0_2310 : Index := 0#32
  ![7, v2210.toNat, 0]
def k0_off55 (d0 : Dev nD) : Fin 3 → Nat :=
  let c2_2327 : Index := 2#32
  let c64_i32_2326 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2227 : BitVec 32 := Scalar.muli c64_i32_2326 v9
  let v2228 : Index := Scalar.indexCast v2227
  let c0_2328 : Index := 0#32
  ![2, v2228.toNat, 0]
def k0_off56 (d0 : Dev nD) : Fin 3 → Nat :=
  let c3_2345 : Index := 3#32
  let c64_i32_2344 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_3 : BitVec 32 := 2#32
  let v9 : BitVec 32 := Scalar.divsi v3 c2_i32_3
  let v2245 : BitVec 32 := Scalar.muli c64_i32_2344 v9
  let v2246 : Index := Scalar.indexCast v2245
  let c0_2346 : Index := 0#32
  ![3, v2246.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x1024 : Shape := ⟨2, ![16384, 1024]⟩
abbrev S16384x4096 : Shape := ⟨2, ![16384, 4096]⟩
abbrev S1024x16384 : Shape := ⟨2, ![1024, 16384]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x16384, .bf16⟩
  | .hbm, ⟨3, _⟩ => ⟨S1024x4096, .f32⟩
  | .hbm, ⟨4, _⟩ => ⟨S1024x4096, .bf16⟩
  | .hbm, ⟨5, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Program.lean ====
/-
The kernel's body, written once as a program over the eight column groups: one definition per kind of step
(product and first send, the three ring hops, the fold between pairs, the last addition, the final
waits), each for any column group, and the equation that the printed body is the sequence of them.
-/
module

public import proofs.«01_k».proof.Proof.Gen.KernelIdeal.Skeleton
public import proofs.«01_k».proof.Proof.Gen.KernelIdeal.Points
public import Idealize.ShloMosaic.Lib.Pipeline.Regions

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

/-! ## The scratch buffers -/

/-- The kernel's copy of its block of `x`. -/
abbrev mXb : Memref sig .tc .vmem S1024x1024 .bf16 := Memref.whole cc0_scratch0
/-- The device's own product, its rows arranged by ring position and slot. -/
abbrev mArr : Memref sig .tc .vmem S4x256x4096 .bf16 := Memref.whole cc0_scratch1
/-- The two ring send slots of each column group. -/
abbrev mSa : Memref sig .tc .vmem S8x2x256x512 .bf16 := Memref.whole cc0_scratch2
/-- The three ring landing slots of each column group. -/
abbrev mCa : Memref sig .tc .vmem S8x3x256x512 .bf16 := Memref.whole cc0_scratch3
/-- The ring sums of each column group. -/
abbrev mRa : Memref sig .tc .vmem S8x256x512 .bf16 := Memref.whole cc0_scratch4
/-- The sums after the first exchange between pairs. -/
abbrev mRb : Memref sig .tc .vmem S8x128x512 .bf16 := Memref.whole cc0_scratch5
/-- What the first exchange sends. -/
abbrev mSb1 : Memref sig .tc .vmem S8x128x512 .bf16 := Memref.whole cc0_scratch6
/-- Where the first exchange lands. -/
abbrev mCb1 : Memref sig .tc .vmem S8x128x512 .bf16 := Memref.whole cc0_scratch7
/-- What the second exchange sends. -/
abbrev mSb2 : Memref sig .tc .vmem S8x64x512 .bf16 := Memref.whole cc0_scratch8
/-- Where the second exchange lands. -/
abbrev mCb2 : Memref sig .tc .vmem S8x64x512 .bf16 := Memref.whole cc0_scratch9

/-! ## The windows, for any column group -/

/-- Which of the three families of rings column group `j` runs on. -/
def grp : Fin 8 → Fin 3 := ![0, 0, 0, 0, 1, 1, 2, 2]

/-- The row block (a device's number) at ring position `u`, slot `w` of family `g`. -/
def blk (g : Fin 3) (u w : Fin 4) : Nat :=
  match g with
  | 0 => 4 * w.val + u.val
  | 1 => 4 * (2 * (w.val / 2) + u.val / 2) + 2 * (w.val % 2) + ((u.val % 2 + u.val / 2) % 2 + w.val % 2) % 2
  | 2 => 4 * (2 * (w.val / 2) + u.val / 2) + 2 * ((u.val % 2 + u.val / 2) % 2) + (w.val % 2 + (u.val % 2 + u.val / 2) % 2) % 2

theorem blk_inb (j : Fin 8) (u w : Fin 4) : S1024x512.Slices ![64 * blk (grp j) u w, 0] S64x512 := by
  revert j u w; decide

theorem inbDy (j : Fin 8) : ∀ a, (![0, 512 * j.val] : Fin 2 → Nat) a + S1024x512.size a ≤ S1024x4096.size a := by
  revert j; decide
theorem inbArr (j : Fin 8) (u w : Fin 4) :
    ∀ a, (![u.val, 64 * w.val, 512 * j.val] : Fin 3 → Nat) a + S1x64x512.size a ≤ S4x256x4096.size a := by
  revert j u w; decide
theorem inbSa (j : Fin 8) (s : Fin 2) :
    ∀ a, (![j.val, s.val, 0, 0] : Fin 4 → Nat) a + S1x1x256x512.size a ≤ S8x2x256x512.size a := by
  revert j s; decide
theorem inbCa (j : Fin 8) (s : Fin 3) :
    ∀ a, (![j.val, s.val, 0, 0] : Fin 4 → Nat) a + S1x1x256x512.size a ≤ S8x3x256x512.size a := by
  revert j s; decide
theorem inbRa (j : Fin 8) : ∀ a, (![j.val, 0, 0] : Fin 3 → Nat) a + S1x256x512.size a ≤ S8x256x512.size a := by
  revert j; decide
theorem inbRb (j : Fin 8) (h : Fin 2) :
    ∀ a, (![j.val, 64 * h.val, 0] : Fin 3 → Nat) a + S1x64x512.size a ≤ S8x128x512.size a := by
  revert j h; decide
theorem inbB1 (j : Fin 8) : ∀ a, (![j.val, 0, 0] : Fin 3 → Nat) a + S1x128x512.size a ≤ S8x128x512.size a := by
  revert j; decide
theorem inbB2 (j : Fin 8) : ∀ a, (![j.val, 0, 0] : Fin 3 → Nat) a + S1x64x512.size a ≤ S8x64x512.size a := by
  revert j; decide
theorem inbOut (j : Fin 8) : ∀ a, (![0, 512 * j.val] : Fin 2 → Nat) a + S64x512.size a ≤ S64x4096.size a := by
  revert j; decide
theorem inbSem2 (j : Fin 8) (s : Fin 2) : ∀ a, (![j.val, s.val] : Fin 2 → Nat) a + S1x1.size a ≤ S8x2.size a := by
  revert j s; decide
theorem inbSem3 (j : Fin 8) (s : Fin 3) : ∀ a, (![j.val, s.val] : Fin 2 → Nat) a + S1x1.size a ≤ S8x3.size a := by
  revert j s; decide
theorem inbSem1 (j : Fin 8) : ∀ a, (![j.val] : Fin 1 → Nat) a + S1.size a ≤ S8.size a := by
  revert j; decide

abbrev rXb : Rect S1024x1024 := Rect.unit (s := S1024x1024) ![0, 0] S1024x1024.size inb_S1024x1024_S1024x1024_0_0
abbrev rDy (j : Fin 8) : Rect S1024x4096 := Rect.unit (s := S1024x4096) ![0, 512 * j.val] S1024x512.size (inbDy j)
abbrev rArr (j : Fin 8) (u w : Fin 4) : Rect S4x256x4096 :=
  Rect.unit (s := S4x256x4096) ![u.val, 64 * w.val, 512 * j.val] S1x64x512.size (inbArr j u w)
abbrev rSa (j : Fin 8) (s : Fin 2) : Rect S8x2x256x512 :=
  Rect.unit (s := S8x2x256x512) ![j.val, s.val, 0, 0] S1x1x256x512.size (inbSa j s)
abbrev rCa (j : Fin 8) (s : Fin 3) : Rect S8x3x256x512 :=
  Rect.unit (s := S8x3x256x512) ![j.val, s.val, 0, 0] S1x1x256x512.size (inbCa j s)
abbrev rRa (j : Fin 8) : Rect S8x256x512 := Rect.unit (s := S8x256x512) ![j.val, 0, 0] S1x256x512.size (inbRa j)
abbrev rRb (j : Fin 8) (h : Fin 2) : Rect S8x128x512 :=
  Rect.unit (s := S8x128x512) ![j.val, 64 * h.val, 0] S1x64x512.size (inbRb j h)
abbrev rB1 (j : Fin 8) : Rect S8x128x512 := Rect.unit (s := S8x128x512) ![j.val, 0, 0] S1x128x512.size (inbB1 j)
abbrev rB2 (j : Fin 8) : Rect S8x64x512 := Rect.unit (s := S8x64x512) ![j.val, 0, 0] S1x64x512.size (inbB2 j)
abbrev rOut (j : Fin 8) : Rect S64x4096 := Rect.unit (s := S64x4096) ![0, 512 * j.val] S64x512.size (inbOut j)

theorem pkArr (j : Fin 8) (u w : Fin 4) : (rArr j u w).PackedRows (EltTy.packing .bf16) := by
  revert j u w; decide
theorem pkSa (j : Fin 8) (s : Fin 2) : (rSa j s).PackedRows (EltTy.packing .bf16) := by revert j s; decide
theorem pkRa (j : Fin 8) : (rRa j).PackedRows (EltTy.packing .bf16) := by revert j; decide
theorem pkRb (j : Fin 8) (h : Fin 2) : (rRb j h).PackedRows (EltTy.packing .bf16) := by revert j h; decide
theorem pkB2 (j : Fin 8) : (rB2 j).PackedRows (EltTy.packing .bf16) := by revert j; decide
theorem wwSa (j : Fin 8) (s : Fin 2) : (rSa j s).WholeWords (EltTy.packing .bf16) := by revert j s; decide
theorem wwCa (j : Fin 8) (s : Fin 3) : (rCa j s).WholeWords (EltTy.packing .bf16) := by revert j s; decide
theorem wwB1 (j : Fin 8) : (rB1 j).WholeWords (EltTy.packing .bf16) := by revert j; decide
theorem wwB2 (j : Fin 8) : (rB2 j).WholeWords (EltTy.packing .bf16) := by revert j; decide

/-! ## The transfers' ends and semaphores -/

/-- Ring send slot `s` of column group `j`, as a transfer names it. -/
abbrev vSa (j : Fin 8) (s : Fin 2) : Memref sig .tc .vmem S256x512 .bf16 :=
  (mSa.slice (rSa j s) (fun _ => rfl)).squeeze S256x512 squeezes_S1x1x256x512_S256x512
/-- Ring landing slot `s` of column group `j`. -/
abbrev vCa (j : Fin 8) (s : Fin 3) : Memref sig .tc .vmem S256x512 .bf16 :=
  (mCa.slice (rCa j s) (fun _ => rfl)).squeeze S256x512 squeezes_S1x1x256x512_S256x512
abbrev vSb1 (j : Fin 8) : Memref sig .tc .vmem S128x512 .bf16 :=
  (mSb1.slice (rB1 j) (fun _ => rfl)).squeeze S128x512 squeezes_S1x128x512_S128x512
abbrev vCb1 (j : Fin 8) : Memref sig .tc .vmem S128x512 .bf16 :=
  (mCb1.slice (rB1 j) (fun _ => rfl)).squeeze S128x512 squeezes_S1x128x512_S128x512
abbrev vSb2 (j : Fin 8) : Memref sig .tc .vmem S64x512 .bf16 :=
  (mSb2.slice (rB2 j) (fun _ => rfl)).squeeze S64x512 squeezes_S1x64x512_S64x512
abbrev vCb2 (j : Fin 8) : Memref sig .tc .vmem S64x512 .bf16 :=
  (mCb2.slice (rB2 j) (fun _ => rfl)).squeeze S64x512 squeezes_S1x64x512_S64x512

theorem xSa (j : Fin 8) (s : Fin 2) : (vSa j s).view.WordExact :=
  ((Memref.isWhole_whole cc0_scratch2).wordExact_slice rfl _ (wwSa j s)).reshape _ _
theorem xCa (j : Fin 8) (s : Fin 3) : (vCa j s).view.WordExact :=
  ((Memref.isWhole_whole cc0_scratch3).wordExact_slice rfl _ (wwCa j s)).reshape _ _
theorem xSb1 (j : Fin 8) : (vSb1 j).view.WordExact :=
  ((Memref.isWhole_whole cc0_scratch6).wordExact_slice rfl _ (wwB1 j)).reshape _ _
theorem xCb1 (j : Fin 8) : (vCb1 j).view.WordExact :=
  ((Memref.isWhole_whole cc0_scratch7).wordExact_slice rfl _ (wwB1 j)).reshape _ _
theorem xSb2 (j : Fin 8) : (vSb2 j).view.WordExact :=
  ((Memref.isWhole_whole cc0_scratch8).wordExact_slice rfl _ (wwB2 j)).reshape _ _
theorem xCb2 (j : Fin 8) : (vCb2 j).view.WordExact :=
  ((Memref.isWhole_whole cc0_scratch9).wordExact_slice rfl _ (wwB2 j)).reshape _ _

/-- The send semaphore of ring slot `s` of column group `j`. -/
abbrev sSa (j : Fin 8) (s : Fin 2) : DmaSem sig :=
  ((cc0_scratch10.slice (Rect.unit (s := S8x2) ![j.val, s.val] S1x1.size (inbSem2 j s))).squeeze S_ squeezes_S1x1_S_).sem
/-- The landing semaphore of ring hop `s` of column group `j`. -/
abbrev sCa (j : Fin 8) (s : Fin 3) : DmaSem sig :=
  ((cc0_scratch11.slice (Rect.unit (s := S8x3) ![j.val, s.val] S1x1.size (inbSem3 j s))).squeeze S_ squeezes_S1x1_S_).sem
abbrev sSb1 (j : Fin 8) : DmaSem sig :=
  ((cc0_scratch12.slice (Rect.unit (s := S8) ![j.val] S1.size (inbSem1 j))).squeeze S_ squeezes_S1_S_).sem
abbrev sCb1 (j : Fin 8) : DmaSem sig :=
  ((cc0_scratch13.slice (Rect.unit (s := S8) ![j.val] S1.size (inbSem1 j))).squeeze S_ squeezes_S1_S_).sem
abbrev sSb2 (j : Fin 8) : DmaSem sig :=
  ((cc0_scratch14.slice (Rect.unit (s := S8) ![j.val] S1.size (inbSem1 j))).squeeze S_ squeezes_S1_S_).sem
abbrev sCb2 (j : Fin 8) : DmaSem sig :=
  ((cc0_scratch15.slice (Rect.unit (s := S8) ![j.val] S1.size (inbSem1 j))).squeeze S_ squeezes_S1_S_).sem
/-- The barrier semaphore. -/
abbrev barS : Sem sig := (SemArray.scalar (sig.barrier 0 rfl) : Sems sig S_).sem

/-! ## The steps -/

/-- A TensorCore program of this kernel. -/
abbrev PT (F : FTy → Type) := Prog (TpuEff nD τ sig (Elt F) Λ₀ .tc) PUnit

/-- One of each of `l`, in order. -/
def inOrder {ι : Type} (f : ι → PT F) : List ι → PT F
  | [] => pure ⟨⟩
  | i :: l => f i >>= fun _ => inOrder f l

/-- The device's product for one column group, rounded. -/
def prodOf (x : Vec F S1024x1024 .bf16) (y : Vec F S1024x512 .bf16) : FVec F S1024x512 .bf16 :=
  truncf .bf16 (matmul dot_S1024x1024_S1024x512_S1024x512_0_0_1_1_n_n none x
    (shapeCast S1024x512 y shapeCasts_S1024x512_S1024x512) (constant S1024x512 .f32 0x00000000#32)) bitsLt_bf16_f32

/-- What slot `w` of ring position `u` takes of the product `v`. -/
def slotOf (j : Fin 8) (v : FVec F S1024x512 .bf16) (p : Fin 4 × Fin 4) : FVec F S1x64x512 .bf16 :=
  shapeCast S1x64x512 (extractStridedSlice S64x512 ![64 * blk (grp j) p.1 p.2, 0] v (blk_inb j p.1 p.2)) shapeCasts_S64x512_S1x64x512

/-- Store one slot of the product. -/
def slotStep (j : Fin 8) (v : FVec F S1024x512 .bf16) (p : Fin 4 × Fin 4) : PT F := do
  let _ : Vec F S1x64x512 .bf16 ← Prog.lift (.load mArr (rArr j p.1 p.2).toLoadRect (View.loadsAt_vmem h_S1x64x512))
  Prog.lift (.store mArr (rArr j p.1 p.2) (slotOf j v p) Finset.univ
    (View.stores_vmem h_S1x64x512 ((Memref.isWhole_whole cc0_scratch1).storeExact_slice rfl _ (pkArr j p.1 p.2)) (fun _ => rfl)) (.inl rfl))

/-- The sixteen slots in the order they are stored. -/
def slots : List (Fin 4 × Fin 4) :=
  [(0, 0), (0, 1), (0, 2), (0, 3), (1, 0), (1, 1), (1, 2), (1, 3),
   (2, 0), (2, 1), (2, 2), (2, 3), (3, 0), (3, 1), (3, 2), (3, 3)]

abbrev rAt (off : Fin 3 → Nat) (inb : ∀ a, off a + S1x256x512.size a ≤ S4x256x4096.size a) : Rect S4x256x4096 :=
  Rect.unit (s := S4x256x4096) off S1x256x512.size inb
abbrev rRaAt (off : Fin 3 → Nat) (inb : ∀ a, off a + S1x64x512.size a ≤ S8x256x512.size a) : Rect S8x256x512 :=
  Rect.unit (s := S8x256x512) off S1x64x512.size inb
abbrev rRbAt (off : Fin 3 → Nat) (inb : ∀ a, off a + S1x64x512.size a ≤ S8x128x512.size a) : Rect S8x128x512 :=
  Rect.unit (s := S8x128x512) off S1x64x512.size inb

/-- Put `v` into ring send slot `s`. -/
def putSa (j : Fin 8) (s : Fin 2) (v : FVec F S256x512 .bf16) : PT F := do
  let _ : Vec F S1x1x256x512 .bf16 ← Prog.lift (.load mSa (rSa j s).toLoadRect (View.loadsAt_vmem h_S1x1x256x512))
  Prog.lift (.store mSa (rSa j s) (shapeCast S1x1x256x512 v shapeCasts_S256x512_S1x1x256x512) Finset.univ
    (View.stores_vmem h_S1x1x256x512 ((Memref.isWhole_whole cc0_scratch2).storeExact_slice rfl _ (pkSa j s)) (fun _ => rfl)) (.inl rfl))

/-- Send ring slot `s` into landing slot `s'` of device `n`. -/
def sendSa (j : Fin 8) (s : Fin 2) (s' : Fin 3) (n : Dev nD) : PT F :=
  Prog.lift (.enqueueDma (vSa j s) (.remote (Dev.tc n) (vCa j s') (.dma (sSa j s))) (.dma (sCa j s')) (xSa j s) (xCa j s') ⟨⟨rfl, Or.inl rfl⟩, trivial⟩)

/-- The product of one column group, its sixteen slots, and the first send of its ring. -/
def gemmStep (a1 : Memref sig .tc .vmem S1024x4096 .bf16) (j : Fin 8) (off : Fin 3 → Nat)
    (inb : ∀ a, off a + S1x256x512.size a ≤ S4x256x4096.size a) (n : Dev nD) : PT F := do
  let x : Vec F S1024x1024 .bf16 ← Prog.lift (.load mXb rXb.toLoadRect (View.loadsAt_vmem h_S1024x1024))
  let y : Vec F S1024x512 .bf16 ← Prog.lift (.load a1 (rDy j).toLoadRect (View.loadsAt_vmem h_S1024x512))
  inOrder (slotStep j (prodOf x y)) slots
  let v : Vec F S1x256x512 .bf16 ← Prog.lift (.load mArr (rAt off inb).toLoadRect (View.loadsAt_vmem h_S1x256x512))
  putSa j 0 (shapeCast S256x512 v shapeCasts_S1x256x512_S256x512)
  sendSa j 0 0 n

/-- Wait for hop `s` of the ring and read the landed partial sum, added to the own part at `off`. -/
def recvSa (j : Fin 8) (s' : Fin 2) (s : Fin 3) (off : Fin 3 → Nat)
    (inb : ∀ a, off a + S1x256x512.size a ≤ S4x256x4096.size a) : Prog (TpuEff nD τ sig (Elt F) Λ₀ .tc) (FVec F S256x512 .bf16) := do
  Prog.lift (.waitDma2 (sCa j s) (vSa j s') (vCa j s) (xSa j s') (xCa j s))
  let a : Vec F S1x1x256x512 .bf16 ← Prog.lift (.load mCa (rCa j s).toLoadRect (View.loadsAt_vmem h_S1x1x256x512))
  let b : Vec F S1x256x512 .bf16 ← Prog.lift (.load mArr (rAt off inb).toLoadRect (View.loadsAt_vmem h_S1x256x512))
  pure (addf (shapeCast S256x512 a shapeCasts_S1x1x256x512_S256x512) (shapeCast S256x512 b shapeCasts_S1x256x512_S256x512))

/-- The first ring hop. -/
def hop0Step (j : Fin 8) (off : Fin 3 → Nat) (inb : ∀ a, off a + S1x256x512.size a ≤ S4x256x4096.size a) (n : Dev nD) : PT F := do
  let v ← recvSa j 0 0 off inb
  putSa j 1 v
  sendSa j 1 1 n

/-- The second ring hop: the first send must have left its slot before it is used again. -/
def hop1Step (j : Fin 8) (off : Fin 3 → Nat) (inb : ∀ a, off a + S1x256x512.size a ≤ S4x256x4096.size a) (n : Dev nD) : PT F := do
  let v ← recvSa j 1 1 off inb
  Prog.lift (.waitDma2 (sSa j 0) (vCa j 0) (vSa j 0) (xCa j 0) (xSa j 0))
  putSa j 0 v
  sendSa j 0 2 n

/-- Copy the block at `off` of the ring sums into half `h` of the first exchange's send slot. -/
def putSb1 (j : Fin 8) (h : Fin 2) (off : Fin 3 → Nat) (inb : ∀ a, off a + S1x64x512.size a ≤ S8x256x512.size a) : PT F := do
  let v : Vec F S1x64x512 .bf16 ← Prog.lift (.load mRa (rRaAt off inb).toLoadRect (View.loadsAt_vmem h_S1x64x512))
  let _ : Vec F S1x64x512 .bf16 ← Prog.lift (.load mSb1 (rRb j h).toLoadRect (View.loadsAt_vmem h_S1x64x512))
  Prog.lift (.store mSb1 (rRb j h) (shapeCast S1x64x512 (shapeCast S64x512 v shapeCasts_S1x64x512_S64x512) shapeCasts_S64x512_S1x64x512) Finset.univ
    (View.stores_vmem h_S1x64x512 ((Memref.isWhole_whole cc0_scratch6).storeExact_slice rfl _ (pkRb j h)) (fun _ => rfl)) (.inl rfl))

/-- The last ring hop, and the first exchange's send. -/
def hop2Step (j : Fin 8) (off : Fin 3 → Nat) (inb : ∀ a, off a + S1x256x512.size a ≤ S4x256x4096.size a)
    (o0 : Fin 3 → Nat) (i0 : ∀ a, o0 a + S1x64x512.size a ≤ S8x256x512.size a)
    (o1 : Fin 3 → Nat) (i1 : ∀ a, o1 a + S1x64x512.size a ≤ S8x256x512.size a) (n : Dev nD) : PT F := do
  let v ← recvSa j 0 2 off inb
  let _ : Vec F S1x256x512 .bf16 ← Prog.lift (.load mRa (rRa j).toLoadRect (View.loadsAt_vmem h_S1x256x512))
  Prog.lift (.store mRa (rRa j) (shapeCast S1x256x512 v shapeCasts_S256x512_S1x256x512) Finset.univ
    (View.stores_vmem h_S1x256x512 ((Memref.isWhole_whole cc0_scratch4).storeExact_slice rfl _ (pkRa j)) (fun _ => rfl)) (.inl rfl))
  putSb1 j 0 o0 i0
  putSb1 j 1 o1 i1
  Prog.lift (.enqueueDma (vSb1 j) (.remote (Dev.tc n) (vCb1 j) (.dma (sSb1 j))) (.dma (sCb1 j)) (xSb1 j) (xCb1 j) ⟨⟨rfl, Or.inl rfl⟩, trivial⟩)

/-- Add half `h` of what the first exchange landed to the block at `off` of the ring sums. -/
def foldHalf (j : Fin 8) (h : Fin 2) (off : Fin 3 → Nat) (inb : ∀ a, off a + S1x64x512.size a ≤ S8x256x512.size a) : PT F := do
  let a : Vec F S1x64x512 .bf16 ← Prog.lift (.load mCb1 (rRb j h).toLoadRect (View.loadsAt_vmem h_S1x64x512))
  let b : Vec F S1x64x512 .bf16 ← Prog.lift (.load mRa (rRaAt off inb).toLoadRect (View.loadsAt_vmem h_S1x64x512))
  let _ : Vec F S1x64x512 .bf16 ← Prog.lift (.load mRb (rRb j h).toLoadRect (View.loadsAt_vmem h_S1x64x512))
  Prog.lift (.store mRb (rRb j h) (shapeCast S1x64x512 (addf (shapeCast S64x512 a shapeCasts_S1x64x512_S64x512)
      (shapeCast S64x512 b shapeCasts_S1x64x512_S64x512)) shapeCasts_S64x512_S1x64x512) Finset.univ
    (View.stores_vmem h_S1x64x512 ((Memref.isWhole_whole cc0_scratch5).storeExact_slice rfl _ (pkRb j h)) (fun _ => rfl)) (.inl rfl))

/-- The first exchange lands and is folded in; the second exchange's send. -/
def foldStep (j : Fin 8) (o0 : Fin 3 → Nat) (i0 : ∀ a, o0 a + S1x64x512.size a ≤ S8x256x512.size a)
    (o1 : Fin 3 → Nat) (i1 : ∀ a, o1 a + S1x64x512.size a ≤ S8x256x512.size a)
    (o2 : Fin 3 → Nat) (i2 : ∀ a, o2 a + S1x64x512.size a ≤ S8x128x512.size a) (n : Dev nD) : PT F := do
  Prog.lift (.waitDma2 (sCb1 j) (vSb1 j) (vCb1 j) (xSb1 j) (xCb1 j))
  foldHalf j 0 o0 i0
  foldHalf j 1 o1 i1
  let v : Vec F S1x64x512 .bf16 ← Prog.lift (.load mRb (rRbAt o2 i2).toLoadRect (View.loadsAt_vmem h_S1x64x512))
  let _ : Vec F S1x64x512 .bf16 ← Prog.lift (.load mSb2 (rB2 j).toLoadRect (View.loadsAt_vmem h_S1x64x512))
  Prog.lift (.store mSb2 (rB2 j) (shapeCast S1x64x512 (shapeCast S64x512 v shapeCasts_S1x64x512_S64x512) shapeCasts_S64x512_S1x64x512) Finset.univ
    (View.stores_vmem h_S1x64x512 ((Memref.isWhole_whole cc0_scratch8).storeExact_slice rfl _ (pkB2 j)) (fun _ => rfl)) (.inl rfl))
  Prog.lift (.enqueueDma (vSb2 j) (.remote (Dev.tc n) (vCb2 j) (.dma (sSb2 j))) (.dma (sCb2 j)) (xSb2 j) (xCb2 j) ⟨⟨rfl, Or.inl rfl⟩, trivial⟩)

/-- The sum of the two halves of the reduction, in single precision. -/
def lastOf (a b : Vec F S1x64x512 .bf16) : FVec F S64x512 .f32 :=
  addf (extf .f32 (shapeCast S64x512 a shapeCasts_S1x64x512_S64x512) bitsLt_bf16_f32)
    (extf .f32 (shapeCast S64x512 b shapeCasts_S1x64x512_S64x512) bitsLt_bf16_f32)

/-- The second exchange lands and the column group of the result is stored. -/
def lastStep (a2 : Memref sig .tc .vmem S64x4096 .f32) (h2 : a2.IsWhole) (j : Fin 8) (off : Fin 3 → Nat)
    (inb : ∀ a, off a + S1x64x512.size a ≤ S8x128x512.size a) : PT F := do
  Prog.lift (.waitDma2 (sCb2 j) (vSb2 j) (vCb2 j) (xSb2 j) (xCb2 j))
  let a : Vec F S1x64x512 .bf16 ← Prog.lift (.load mCb2 (rB2 j).toLoadRect (View.loadsAt_vmem h_S1x64x512))
  let b : Vec F S1x64x512 .bf16 ← Prog.lift (.load mRb (rRbAt off inb).toLoadRect (View.loadsAt_vmem h_S1x64x512))
  let _ : Vec F S64x512 .f32 ← Prog.lift (.load a2 (rOut j).toLoadRect (View.loadsAt_vmem h_S64x512))
  Prog.lift (.store a2 (rOut j) (lastOf a b) Finset.univ (View.stores_vmem_bits_univ h_S64x512 rfl) (.inl rfl))

/-- The last waits of one column group: every send has left its slot. -/
def drainStep (j : Fin 8) : PT F := do
  Prog.lift (.waitDma2 (sSa j 1) (vCa j 1) (vSa j 1) (xCa j 1) (xSa j 1))
  Prog.lift (.waitDma2 (sSa j 0) (vCa j 2) (vSa j 0) (xCa j 2) (xSa j 0))
  Prog.lift (.waitDma2 (sSb1 j) (vCb1 j) (vSb1 j) (xCb1 j) (xSb1 j))
  Prog.lift (.waitDma2 (sSb2 j) (vCb2 j) (vSb2 j) (xCb2 j) (xSb2 j))

/-- The barrier with the four neighbours, and the copy of `x`. -/
def headStep (a0 : Memref sig .tc .vmem S1024x1024 .bf16) (d : Dev nD) : PT F := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semWaitWord barS 4#32
  let v : Vec F S1024x1024 .bf16 ← Prog.lift (.load a0 rXb.toLoadRect (View.loadsAt_vmem h_S1024x1024))
  let _ : Vec F S1024x1024 .bf16 ← Prog.lift (.load mXb rXb.toLoadRect (View.loadsAt_vmem h_S1024x1024))
  Prog.lift (.store mXb rXb (shapeCast S1024x1024 (shapeCast S1024x1024 v shapeCasts_S1024x1024_S1024x1024) shapeCasts_S1024x1024_S1024x1024) Finset.univ
    (View.stores_vmem h_S1024x1024 ((Memref.isWhole_whole cc0_scratch0).storeExact_slice rfl _ packedbf16_S1024x1024_S1024x1024_0_0) (fun _ => rfl)) (.inl rfl))

/-- The whole body on device `d`. -/
def steps (a0 : Memref sig .tc .vmem S1024x1024 .bf16) (a1 : Memref sig .tc .vmem S1024x4096 .bf16)
    (a2 : Memref sig .tc .vmem S64x4096 .f32) (h2 : a2.IsWhole) (d : Dev nD) : PT F := do
  headStep a0 d
  gemmStep a1 4 (k0_off1 d (BitVec.ofNat 32 0)) (k0_off1_inb d 0) ⟨k0_dev5 d, k0_dev5_lt d⟩
  gemmStep a1 5 (k0_off2 d (BitVec.ofNat 32 0)) (k0_off2_inb d 0) ⟨k0_dev6 d, k0_dev6_lt d⟩
  gemmStep a1 0 (k0_off3 d (BitVec.ofNat 32 0)) (k0_off3_inb d 0) ⟨k0_dev7 d, k0_dev7_lt d⟩
  gemmStep a1 1 (k0_off4 d (BitVec.ofNat 32 0)) (k0_off4_inb d 0) ⟨k0_dev8 d, k0_dev8_lt d⟩
  gemmStep a1 6 (k0_off5 d (BitVec.ofNat 32 0)) (k0_off5_inb d 0) ⟨k0_dev9 d, k0_dev9_lt d⟩
  gemmStep a1 7 (k0_off6 d (BitVec.ofNat 32 0)) (k0_off6_inb d 0) ⟨k0_dev10 d, k0_dev10_lt d⟩
  hop0Step 4 (k0_off1 d (BitVec.ofNat 32 1)) (k0_off1_inb d 1) ⟨k0_dev11 d, k0_dev11_lt d⟩
  hop0Step 5 (k0_off2 d (BitVec.ofNat 32 1)) (k0_off2_inb d 1) ⟨k0_dev12 d, k0_dev12_lt d⟩
  gemmStep a1 2 (k0_off7 d (BitVec.ofNat 32 0)) (k0_off7_inb d 0) ⟨k0_dev13 d, k0_dev13_lt d⟩
  gemmStep a1 3 (k0_off8 d (BitVec.ofNat 32 0)) (k0_off8_inb d 0) ⟨k0_dev14 d, k0_dev14_lt d⟩
  hop0Step 0 (k0_off3 d (BitVec.ofNat 32 1)) (k0_off3_inb d 1) ⟨k0_dev15 d, k0_dev15_lt d⟩
  hop0Step 1 (k0_off4 d (BitVec.ofNat 32 1)) (k0_off4_inb d 1) ⟨k0_dev16 d, k0_dev16_lt d⟩
  hop1Step 4 (k0_off1 d (BitVec.ofNat 32 2)) (k0_off1_inb d 2) ⟨k0_dev17 d, k0_dev17_lt d⟩
  hop1Step 5 (k0_off2 d (BitVec.ofNat 32 2)) (k0_off2_inb d 2) ⟨k0_dev18 d, k0_dev18_lt d⟩
  hop0Step 6 (k0_off5 d (BitVec.ofNat 32 1)) (k0_off5_inb d 1) ⟨k0_dev19 d, k0_dev19_lt d⟩
  hop0Step 7 (k0_off6 d (BitVec.ofNat 32 1)) (k0_off6_inb d 1) ⟨k0_dev20 d, k0_dev20_lt d⟩
  hop1Step 0 (k0_off3 d (BitVec.ofNat 32 2)) (k0_off3_inb d 2) ⟨k0_dev21 d, k0_dev21_lt d⟩
  hop1Step 1 (k0_off4 d (BitVec.ofNat 32 2)) (k0_off4_inb d 2) ⟨k0_dev22 d, k0_dev22_lt d⟩
  hop0Step 2 (k0_off7 d (BitVec.ofNat 32 1)) (k0_off7_inb d 1) ⟨k0_dev23 d, k0_dev23_lt d⟩
  hop0Step 3 (k0_off8 d (BitVec.ofNat 32 1)) (k0_off8_inb d 1) ⟨k0_dev24 d, k0_dev24_lt d⟩
  hop2Step 4 (k0_off1 d (BitVec.ofNat 32 3)) (k0_off1_inb d 3) (k0_off9 d) (k0_off9_inb d) (k0_off10 d) (k0_off10_inb d) ⟨k0_dev25 d, k0_dev25_lt d⟩
  hop2Step 5 (k0_off2 d (BitVec.ofNat 32 3)) (k0_off2_inb d 3) (k0_off11 d) (k0_off11_inb d) (k0_off12 d) (k0_off12_inb d) ⟨k0_dev26 d, k0_dev26_lt d⟩
  hop1Step 6 (k0_off5 d (BitVec.ofNat 32 2)) (k0_off5_inb d 2) ⟨k0_dev27 d, k0_dev27_lt d⟩
  hop1Step 7 (k0_off6 d (BitVec.ofNat 32 2)) (k0_off6_inb d 2) ⟨k0_dev28 d, k0_dev28_lt d⟩
  hop2Step 0 (k0_off3 d (BitVec.ofNat 32 3)) (k0_off3_inb d 3) (k0_off13 d) (k0_off13_inb d) (k0_off14 d) (k0_off14_inb d) ⟨k0_dev29 d, k0_dev29_lt d⟩
  hop2Step 1 (k0_off4 d (BitVec.ofNat 32 3)) (k0_off4_inb d 3) (k0_off15 d) (k0_off15_inb d) (k0_off16 d) (k0_off16_inb d) ⟨k0_dev30 d, k0_dev30_lt d⟩
  hop1Step 2 (k0_off7 d (BitVec.ofNat 32 2)) (k0_off7_inb d 2) ⟨k0_dev31 d, k0_dev31_lt d⟩
  hop1Step 3 (k0_off8 d (BitVec.ofNat 32 2)) (k0_off8_inb d 2) ⟨k0_dev32 d, k0_dev32_lt d⟩
  foldStep 4 (k0_off17 d) (k0_off17_inb d) (k0_off18 d) (k0_off18_inb d) (k0_off19 d) (k0_off19_inb d) ⟨k0_dev33 d, k0_dev33_lt d⟩
  foldStep 5 (k0_off20 d) (k0_off20_inb d) (k0_off21 d) (k0_off21_inb d) (k0_off22 d) (k0_off22_inb d) ⟨k0_dev34 d, k0_dev34_lt d⟩
  hop2Step 6 (k0_off5 d (BitVec.ofNat 32 3)) (k0_off5_inb d 3) (k0_off23 d) (k0_off23_inb d) (k0_off24 d) (k0_off24_inb d) ⟨k0_dev35 d, k0_dev35_lt d⟩
  hop2Step 7 (k0_off6 d (BitVec.ofNat 32 3)) (k0_off6_inb d 3) (k0_off25 d) (k0_off25_inb d) (k0_off26 d) (k0_off26_inb d) ⟨k0_dev36 d, k0_dev36_lt d⟩
  foldStep 0 (k0_off27 d) (k0_off27_inb d) (k0_off28 d) (k0_off28_inb d) (k0_off29 d) (k0_off29_inb d) ⟨k0_dev37 d, k0_dev37_lt d⟩
  foldStep 1 (k0_off30 d) (k0_off30_inb d) (k0_off31 d) (k0_off31_inb d) (k0_off32 d) (k0_off32_inb d) ⟨k0_dev38 d, k0_dev38_lt d⟩
  hop2Step 2 (k0_off7 d (BitVec.ofNat 32 3)) (k0_off7_inb d 3) (k0_off33 d) (k0_off33_inb d) (k0_off34 d) (k0_off34_inb d) ⟨k0_dev39 d, k0_dev39_lt d⟩
  hop2Step 3 (k0_off8 d (BitVec.ofNat 32 3)) (k0_off8_inb d 3) (k0_off35 d) (k0_off35_inb d) (k0_off36 d) (k0_off36_inb d) ⟨k0_dev40 d, k0_dev40_lt d⟩
  lastStep a2 h2 4 (k0_off37 d) (k0_off37_inb d)
  lastStep a2 h2 5 (k0_off38 d) (k0_off38_inb d)
  foldStep 6 (k0_off39 d) (k0_off39_inb d) (k0_off40 d) (k0_off40_inb d) (k0_off41 d) (k0_off41_inb d) ⟨k0_dev41 d, k0_dev41_lt d⟩
  foldStep 7 (k0_off42 d) (k0_off42_inb d) (k0_off43 d) (k0_off43_inb d) (k0_off44 d) (k0_off44_inb d) ⟨k0_dev42 d, k0_dev42_lt d⟩
  lastStep a2 h2 0 (k0_off45 d) (k0_off45_inb d)
  lastStep a2 h2 1 (k0_off46 d) (k0_off46_inb d)
  foldStep 2 (k0_off47 d) (k0_off47_inb d) (k0_off48 d) (k0_off48_inb d) (k0_off49 d) (k0_off49_inb d) ⟨k0_dev43 d, k0_dev43_lt d⟩
  foldStep 3 (k0_off50 d) (k0_off50_inb d) (k0_off51 d) (k0_off51_inb d) (k0_off52 d) (k0_off52_inb d) ⟨k0_dev44 d, k0_dev44_lt d⟩
  lastStep a2 h2 6 (k0_off53 d) (k0_off53_inb d)
  lastStep a2 h2 7 (k0_off54 d) (k0_off54_inb d)
  lastStep a2 h2 2 (k0_off55 d) (k0_off55_inb d)
  lastStep a2 h2 3 (k0_off56 d) (k0_off56_inb d)
  drainStep 0
  drainStep 1
  drainStep 2
  drainStep 3
  drainStep 4
  drainStep 5
  drainStep 6
  drainStep 7

/-- The printed body is the sequence of steps on the device it reads. -/
theorem body_eq (a0 : Memref sig .tc .vmem S1024x1024 .bf16) (h0 : a0.IsWhole) (a1 : Memref sig .tc .vmem S1024x4096 .bf16)
    (h1 : a1.IsWhole) (a2 : Memref sig .tc .vmem S64x4096 .f32) (h2 : a2.IsWhole) :
    (cc0_body a0 h0 a1 h1 a2 h2 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 : PT F)
      = (Prog.lift .deviceId >>= fun d => steps a0 a1 a2 h2 d) := by
  chain_rfl

end Cert.Proof

end
-- ==== Proof.Topology.lean ====
/-
The neighbours of each device: its ring position and lane in each of the three families of rings, the
device each transfer goes to and comes from, the part of the product each ring hop adds, and the blocks
the two exchanges keep and send. Every equation is over the sixteen devices and decided.
-/
module

public import proofs.«01_k».proof.Proof.Program

@[expose] public section

noncomputable section

namespace Cert.Proof

open Cert.KernelIdeal Cert.KernelIdeal.Gen
open Idealize.ShloMosaic Idealize.ShloMosaic.TcCoe

/-- A transfer: its column group, and its stage (three ring hops, then the two exchanges). -/
abbrev Xf := Fin 8 × Fin 5
/-- A send slot: its column group, and its kind (two ring slots, then the two exchanges' slots). -/
abbrev Sd := Fin 8 × Fin 4

theorem blk_lt (g : Fin 3) (u w : Fin 4) : blk g u w < nD := by revert g u w; decide
/-- The device at ring position `u`, lane `w` of family `g`. -/
def dv (g : Fin 3) (u w : Fin 4) : Dev nD := ⟨blk g u w, blk_lt g u w⟩

/-- The ring position of device `c` in family `g`. -/
def pos (g : Fin 3) (c : Dev nD) : Fin 4 :=
  match g with
  | 0 => ⟨c.val % 4, by omega⟩
  | 1 => ⟨2 * (c.val / 4 % 2) + ((c.val % 4 + c.val % 4 / 2) % 2 + c.val / 4 % 2) % 2, by omega⟩
  | 2 => ⟨2 * (c.val / 4 % 2) + (c.val % 4 / 2 + c.val / 4 % 2) % 2, by omega⟩

/-- The lane of device `c` in family `g`: which of the four rings it is on. -/
def lane (g : Fin 3) (c : Dev nD) : Fin 4 :=
  match g with
  | 0 => ⟨c.val / 4 % 4, by omega⟩
  | 1 => ⟨2 * (c.val / 8 % 2) + c.val % 4 / 2, by omega⟩
  | 2 => ⟨2 * (c.val / 8 % 2) + (c.val % 4 + c.val % 4 / 2) % 2, by omega⟩

theorem dv_pos_lane : ∀ (g : Fin 3) (c : Dev nD), dv g (pos g c) (lane g c) = c := by decide +kernel
theorem pos_dv : ∀ (g : Fin 3) (u w : Fin 4), pos g (dv g u w) = u := by decide +kernel
theorem lane_dv : ∀ (g : Fin 3) (u w : Fin 4), lane g (dv g u w) = w := by decide +kernel

/-- Ring position one hop on, in the direction column group `j` goes round. -/
def onward (j : Fin 8) (u : Fin 4) : Fin 4 := if j.val % 2 = 0 then u + 1 else u + 3
/-- Ring position one hop back. -/
def back (j : Fin 8) (u : Fin 4) : Fin 4 := if j.val % 2 = 0 then u + 3 else u + 1
/-- The lane whose parity is flipped. -/
def flipLow (w : Fin 4) : Fin 4 := ![1, 0, 3, 2] w

/-- The device transfer `i` of device `c` goes to. -/
def tgt (i : Xf) (c : Dev nD) : Dev nD :=
  if i.2.val < 3 then dv (grp i.1) (onward i.1 (pos (grp i.1) c)) (lane (grp i.1) c)
  else if i.2.val = 3 then dv (grp i.1) (pos (grp i.1) c) (flipLow (lane (grp i.1) c))
  else dv (grp i.1) (pos (grp i.1) c) (lane (grp i.1) c + 2)

/-- The device transfer `i` comes to device `c` from. -/
def src (i : Xf) (c : Dev nD) : Dev nD :=
  if i.2.val < 3 then dv (grp i.1) (back i.1 (pos (grp i.1) c)) (lane (grp i.1) c)
  else if i.2.val = 3 then dv (grp i.1) (pos (grp i.1) c) (flipLow (lane (grp i.1) c))
  else dv (grp i.1) (pos (grp i.1) c) (lane (grp i.1) c + 2)

theorem src_tgt : ∀ (i : Xf) (c : Dev nD), src i (tgt i c) = c := by decide +kernel
theorem tgt_src : ∀ (i : Xf) (c : Dev nD), tgt i (src i c) = c := by decide +kernel

theorem lt16 (c : Dev nD) {n : Nat} (h : c.val < 16 → n < 16) : n < nD := h c.isLt

/-- The four devices whose barrier a device signals. -/
def nb (k : Fin 4) (c : Dev nD) : Dev nD :=
  match k with
  | 0 => ⟨4 * (c.val / 4) + (c.val % 4 + 3) % 4, lt16 c (by omega)⟩
  | 1 => ⟨4 * (c.val / 4) + (c.val % 4 + 1) % 4, lt16 c (by omega)⟩
  | 2 => ⟨8 * (c.val / 8) + (c.val % 8 + 4) % 8, lt16 c (by omega)⟩
  | 3 => ⟨(c.val + 8) % 16, lt16 c (by omega)⟩
/-- The device whose `k`-th signal reaches `c`. -/
def bn (k : Fin 4) (c : Dev nD) : Dev nD := nb (![1, 0, 2, 3] k) c

theorem bn_nb : ∀ (k : Fin 4) (c : Dev nD), bn k (nb k c) = c := by decide +kernel
theorem nb_bn : ∀ (k : Fin 4) (c : Dev nD), nb k (bn k c) = c := by decide +kernel
theorem nb_inj : ∀ (c : Dev nD) (k k' : Fin 4), nb k c = nb k' c → k = k' := by decide +kernel
theorem src_nb : ∀ (i : Xf) (c : Dev nD), ∃ k, src i c = nb k c := by decide +kernel
theorem tgt_bn : ∀ (i : Xf) (c : Dev nD), ∃ k, tgt i c = bn k c := by decide +kernel

/-- The ring index of the part of its own product a device adds at step `s` of the ring. -/
def sidx (j : Fin 8) (c : Dev nD) (s : Fin 4) : Fin 4 :=
  if j.val % 2 = 0 then pos (grp j) c + 3 - s else pos (grp j) c + 1 + s

/-- The parity of the lane: which blocks of the ring sums a device keeps at the first exchange. -/
def low (j : Fin 8) (c : Dev nD) : Fin 2 := ⟨(lane (grp j) c).val % 2, by omega⟩
/-- Which block a device keeps at the second exchange. -/
def high (c : Dev nD) : Fin 2 := ⟨c.val / 8 % 2, by omega⟩

theorem lane_eq : ∀ (j : Fin 8) (c : Dev nD), (lane (grp j) c).val = 2 * (high c).val + (low j c).val := by decide +kernel

/-- Where the part with ring index `u` of the product lies. -/
abbrev arrOff (j : Fin 8) (u : Fin 4) : Fin 3 → Nat := ![u.val, 0, 512 * j.val]
/-- Where 64-row block `b` of the ring sums lies. -/
abbrev blkOff (j : Fin 8) (b : Fin 4) : Fin 3 → Nat := ![j.val, 64 * b.val, 0]
/-- Where half `h` of a pair of blocks lies. -/
abbrev halfOff (j : Fin 8) (h : Fin 2) : Fin 3 → Nat := ![j.val, 64 * h.val, 0]

/-- The block of the ring sums half `h` of the first exchange sends. -/
def sendBlk (j : Fin 8) (c : Dev nD) (h : Fin 2) : Fin 4 := ⟨2 * h.val + (1 - (low j c).val), by omega⟩
/-- The block of the ring sums half `h` of the first exchange is added to. -/
def keepBlk (j : Fin 8) (c : Dev nD) (h : Fin 2) : Fin 4 := ⟨2 * h.val + (low j c).val, by omega⟩
/-- The half the second exchange sends. -/
def sendHalf (c : Dev nD) : Fin 2 := ⟨1 - (high c).val, by omega⟩

theorem inbArrOff (j : Fin 8) (u : Fin 4) : ∀ a, arrOff j u a + S1x256x512.size a ≤ S4x256x4096.size a := by
  revert j u; decide
theorem inbBlkOff (j : Fin 8) (b : Fin 4) : ∀ a, blkOff j b a + S1x64x512.size a ≤ S8x256x512.size a := by
  revert j b; decide
theorem inbHalfOff (j : Fin 8) (h : Fin 2) : ∀ a, halfOff j h a + S1x64x512.size a ≤ S8x128x512.size a := by
  revert j h; decide

/-! ## The printed devices of the barrier -/

theorem nb_0 (c : Dev nD) : (⟨k0_dev1 c, k0_dev1_lt c⟩ : Dev nD) = nb 0 c := by revert c; decide +kernel
theorem nb_1 (c : Dev nD) : (⟨k0_dev2 c, k0_dev2_lt c⟩ : Dev nD) = nb 1 c := by revert c; decide +kernel
theorem nb_2 (c : Dev nD) : (⟨k0_dev3 c, k0_dev3_lt c⟩ : Dev nD) = nb 2 c := by revert c; decide +kernel
theorem nb_3 (c : Dev nD) : (⟨k0_dev4 c, k0_dev4_lt c⟩ : Dev nD) = nb 3 c := by revert c; decide +kernel

end Cert.Proof

end
-- ==== Proof.Contents.lean ====
/-
What each buffer of each device holds at each step, as a function of the blocks of `x` and `dy` the
devices start from: the products, the partial sums going round the rings, the two exchanges and the result.
-/
module

public import proofs.«01_k».proof.Proof.Topology
public import Idealize.ShloMosaic.Lib.ValueIdxCore

@[expose] public section

noncomputable section

namespace Cert.Proof

open Cert.KernelIdeal Cert.KernelIdeal.Gen
open Idealize.ShloMosaic Idealize.ShloMosaic.TcCoe Idealize.ShloMosaic.ValueIdx

variable {F : FTy → Type} [FloatOps F]

/-- The columns of `dy` of column group `j`. -/
def dyCol (j : Fin 8) (y : S1024x4096.Idx → Elt F .bf16) : Vec F S1024x512 .bf16 := fun i => y ((rDy j).idx i)

/-- The 256 rows of a product that ring index `u` stands for: its four slots, one below the other. -/
def part (j : Fin 8) (v : FVec F S1024x512 .bf16) (u : Fin 4) : Vec F S1x256x512 .bf16 := fun i =>
  slotOf j v (u, ⟨(i 1).val / 64, by have : (i 1).val < 256 := (i 1).isLt; omega⟩)
    (ix3 (0 : Fin 1) (⟨(i 1).val % 64, by omega⟩ : Fin 64) (i 2))

/-- Row `64 b + r` of the ring sums, for `r` below 64: their block `b`. -/
def blockOf (v : FVec F S256x512 .bf16) (b : Fin 4) : Vec F S1x64x512 .bf16 := fun i =>
  v (ix2 (⟨64 * b.val + (i 1).val, by have : (i 1).val < 64 := (i 1).isLt; omega⟩ : Fin 256) (i 2))

/-- Two blocks of 64 rows, one below the other. -/
def pairOf (a : Fin 2 → Vec F S1x64x512 .bf16) : Vec F S1x128x512 .bf16 := fun i =>
  a ⟨(i 1).val / 64, by have : (i 1).val < 128 := (i 1).isLt; omega⟩
    (ix3 (0 : Fin 1) (⟨(i 1).val % 64, by omega⟩ : Fin 64) (i 2))

variable (X : Dev nD → S1024x1024.Idx → Elt F .bf16) (Y : Dev nD → S1024x4096.Idx → Elt F .bf16)

/-- Device `c`'s own product for column group `j`. -/
def own (c : Dev nD) (j : Fin 8) : FVec F S1024x512 .bf16 := prodOf (X c) (dyCol j (Y c))

/-- The part of its own product device `c` adds at step `s` of the ring. -/
def partOf (c : Dev nD) (j : Fin 8) (s : Fin 4) : FVec F S256x512 .bf16 :=
  shapeCast S256x512 (part j (own X Y c j) (sidx j c s)) shapeCasts_S1x256x512_S256x512

/-- The partial sum device `c` has made after step `s` of the ring. -/
def ring (j : Fin 8) : Nat → Dev nD → FVec F S256x512 .bf16
  | 0, c => partOf X Y c j 0
  | s + 1, c => addf (ring j s (src (j, 0) c)) (partOf X Y c j (Fin.ofNat 4 (s + 1)))

/-- What the first exchange brings device `c`. -/
def cross1 (c : Dev nD) (j : Fin 8) (h : Fin 2) : Vec F S1x64x512 .bf16 :=
  blockOf (ring X Y j 3 (src (j, 3) c)) (sendBlk j (src (j, 3) c) h)

/-- Device `c`'s sums after the first exchange. -/
def fold1 (c : Dev nD) (j : Fin 8) (h : Fin 2) : Vec F S1x64x512 .bf16 :=
  shapeCast S1x64x512 (addf (shapeCast S64x512 (cross1 X Y c j h) shapeCasts_S1x64x512_S64x512)
    (shapeCast S64x512 (blockOf (ring X Y j 3 c) (keepBlk j c h)) shapeCasts_S1x64x512_S64x512) : FVec F S64x512 .bf16)
    shapeCasts_S64x512_S1x64x512

/-- What the second exchange brings device `c`. -/
def cross2 (c : Dev nD) (j : Fin 8) : Vec F S1x64x512 .bf16 := fold1 X Y (src (j, 4) c) j (sendHalf (src (j, 4) c))

/-- Device `c`'s columns of the result, of column group `j`. -/
def resultCol (c : Dev nD) (j : Fin 8) : FVec F S64x512 .f32 := lastOf (cross2 X Y c j) (fold1 X Y c j (high c))

/-- Device `c`'s block of the result. -/
def result (c : Dev nD) : S64x4096.Idx → Elt F .f32 := fun i =>
  resultCol X Y c ⟨(i 1).val / 512, by have : (i 1).val < 4096 := (i 1).isLt; omega⟩
    (ix2 (i 0) (⟨(i 1).val % 512, by omega⟩ : Fin 512))

end Cert.Proof

end
-- ==== Proof.Windows.lean ====
/-
What a device holds through a window of one of its buffers: the window's elements at stated contents
(`holds`) or at any (`owned`), and the rules by which a load, a store and a change of window act on it.
-/
module

public import proofs.«01_k».proof.Proof.Program
public import Idealize.ShloMosaic.Lib.Pipeline.Kit
public import Idealize.ShloMosaic.Lib.Pipeline.Value
public import Idealize.ShloMosaic.Lib.Tactic
public import Idealize.ShloMosaic.Lib.Pipeline.Launch

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's ghost state: cells in rounds, up to four duties in each. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program of this kernel on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Holds
variable {sp : Space} {s s' : Shape} {e : EltTy}

/-- Device `c` holds the elements of view `v`, which read `V`. -/
def holds (c : Dev nD) (v : View sig .tc sp s e) (V : s.Idx → Elt F e) : sProp 𝕄 :=
  iprop(∃ f : Buf (Elt F) (v.loc (c : Thread nD τ)), ⌜v.read (Elt F) f = V⌝ ∗ (v.loc (c : Thread nD τ) ↦[v.set]{fullShare} f))

/-- Device `c` holds the elements of view `v`. -/
def owned (c : Dev nD) (v : View sig .tc sp s e) : sProp 𝕄 :=
  iprop(∃ f : Buf (Elt F) (v.loc (c : Thread nD τ)), (v.loc (c : Thread nD τ) ↦[v.set]{fullShare} f))

instance holds_storable (c : Dev nD) (v : View sig .tc sp s e) (V : s.Idx → Elt F e) :
    BI.Storable (upEmb : UEmb _ 𝕄) (holds c v V) := by unfold holds; infer_instance
instance owned_storable (c : Dev nD) (v : View sig .tc sp s e) :
    BI.Storable (upEmb : UEmb _ 𝕄) (owned (F := F) c v) := by unfold owned; infer_instance

omit [FloatOps F] in
/-- What is held at stated contents is held. -/
theorem holds_owned (c : Dev nD) (v : View sig .tc sp s e) (V : s.Idx → Elt F e) : holds c v V ⊢ owned c v := by
  unfold holds owned
  iintro ⟨%f, -, H⟩
  iexists f; iexact H

omit [FloatOps F] in
/-- A window re-shaped holds the same elements, its contents read in the new shape. -/
theorem holds_reshape (c : Dev nD) (v : View sig .tc sp s e) (h : s'.numel = s.numel) (V : s'.Idx → Elt F e) (hc : s'.ShapeCasts s) :
    holds c (v.reshape s' h) V = holds c v (shapeCast s V hc) := by
  unfold holds
  have hr : ∀ f : Buf (Elt F) (v.loc (c : Thread nD τ)),
      ((v.reshape s' h).read (Elt F) f = V) ↔ (v.read (Elt F) f = shapeCast s V hc) := by
    intro f
    constructor
    · rintro rfl
      funext x
      show _ = (v.read (Elt F) f) (Shape.reshapeEquiv h (Shape.reshapeEquiv hc x))
      rw [Shape.reshapeEquiv_reshapeEquiv, Shape.reshapeEquiv_self]
    · intro hf
      funext x
      show (v.read (Elt F) f) (Shape.reshapeEquiv h x) = _
      rw [hf]
      show V (Shape.reshapeEquiv hc (Shape.reshapeEquiv h x)) = _
      rw [Shape.reshapeEquiv_reshapeEquiv, Shape.reshapeEquiv_self]
  refine congrArg _ (funext fun f => ?_)
  rw [View.set_reshape, propext (hr f)]

omit [FloatOps F] in
theorem owned_reshape (c : Dev nD) (v : View sig .tc sp s e) (h : s'.numel = s.numel) :
    owned (F := F) c (v.reshape s' h) = owned c v := by
  unfold owned; rw [View.set_reshape]

omit [FloatOps F] in
/-- What is held is held at some contents. -/
theorem owned_holds (c : Dev nD) (v : View sig .tc sp s e) : owned (F := F) c v ⊢ iprop(∃ V, holds c v V) := by
  unfold holds owned
  iintro ⟨%f, H⟩
  iexists (v.read (Elt F) f); iexists f
  isplitr; · ipureintro; rfl
  iexact H

end Holds

section Access
variable {cs : CoreSpace} {s : Shape} {e : EltTy}

/-- Every element of rectangle `r'` is the element of rectangle `r` that `sub` names. -/
def Within (r r' : Rect s) (sub : r'.shape.Idx → r.shape.Idx) : Prop := ∀ i, r.idx (sub i) = r'.idx i

theorem Within.refl (r : Rect s) : Within r r id := fun _ => rfl

theorem Within.subset {sp : Space} {r r' : Rect s} {sub} (h : Within r r' sub) (m : Memref sig .tc sp s e) :
    (m.access r').set ⊆ (m.access r).set := by
  intro x hx
  obtain ⟨i, -, rfl⟩ := Finset.mem_map.mp hx
  have : (m.access r').emb i = (m.access r).emb (sub i) := congrArg m.view.emb (h i).symm
  rw [this]; exact View.emb_mem_set _ _

theorem Within.read {sp : Space} {Val : EltTy → Type} {r r' : Rect s} {sub} (h : Within r r' sub) (m : Memref sig .tc sp s e)
    (f : m.view.ty.Contents Val) : (m.access r').read Val f = fun i => (m.access r).read Val f (sub i) := by
  funext i
  have : (m.access r').emb i = (m.access r).emb (sub i) := congrArg m.view.emb (h i).symm
  rw [View.read_apply, View.read_apply]
  exact eq_of_heq ((cast_heq _ _).trans ((by rw [this] : HEq _ _).trans (cast_heq _ _).symm))

variable {α : Type} (c : Dev nD) (m : Memref sig .tc cs s e)

/-- A load through a rectangle inside a held window reads that part of its contents. -/
theorem wp_load_in (Q : α → sProp 𝕄) {r r' : Rect s} {sub} (h : Within r r' sub) {hl : m.view.LoadsAt r'.toLoadRect}
    {k : (r'.shape.Idx → Elt F e) → Prog (TpuEff nD τ sig (Elt F) Λ₀ .tc) α} (V : r.shape.Idx → Elt F e) :
    holds c (m.access r) V ⊢ iprop((holds c (m.access r) V -∗ wpc c (k (fun i => V (sub i))) Q)
      -∗ wpc c (.op (.load m r'.toLoadRect hl) k) Q) := by
  unfold holds
  iintro ⟨%f, %hf, H⟩ Hk
  iapply (wp_load_rect 𝒱₀ (c : Thread nD τ) none Set.univ (m := m) (r := r') (f := f) (h.subset m)) $$ H
  iintro H
  have hv : (fun i => V (sub i)) = (m.access r').read (Elt F) f := by rw [h.read m f, hf]
  rw [hv]
  iapply Hk
  iexists f
  isplitr; · ipureintro; exact hf
  iexact H

/-- A load of a held window reads its contents. -/
theorem wp_load_all (Q : α → sProp 𝕄) {r : Rect s} {hl : m.view.LoadsAt r.toLoadRect}
    {k : (r.shape.Idx → Elt F e) → Prog (TpuEff nD τ sig (Elt F) Λ₀ .tc) α} (V : r.shape.Idx → Elt F e) :
    holds c (m.access r) V ⊢ iprop((holds c (m.access r) V -∗ wpc c (k V) Q)
      -∗ wpc c (.op (.load m r.toLoadRect hl) k) Q) :=
  wp_load_in c m Q (Within.refl r) V

/-- A store over a held window leaves it at the stored contents. -/
theorem wp_store_all (Q : α → sProp 𝕄) {r : Rect s} {w : r.shape.Idx → Elt F e} {hx : (m.access r).Stores Finset.univ} {hm}
    {k : PUnit → Prog (TpuEff nD τ sig (Elt F) Λ₀ .tc) α} :
    owned c (m.access r) ⊢ iprop((holds c (m.access r) w -∗ wpc c (k ⟨⟩) Q)
      -∗ wpc c (.op (.store m r w Finset.univ hx hm) k) Q) := by
  unfold owned holds
  iintro ⟨%f, H⟩ Hk
  iapply (wp_store 𝒱₀ (c : Thread nD τ) none Set.univ (m := m) (r := r) (f := f) (Mk := Finset.univ)
    (S := (m.access r).set) (Finset.Subset.refl _)) $$ H
  iintro H
  iapply Hk
  iexists _
  isplitr; · ipureintro; exact View.read_write_univ f w
  iexact H

/-- A load whose value is not used, then a store over the same window. -/
theorem wp_put (Q : α → sProp 𝕄) {r : Rect s} {w : r.shape.Idx → Elt F e} {hl : m.view.LoadsAt r.toLoadRect} {hx : (m.access r).Stores Finset.univ} {hm}
    {k : PUnit → Prog (TpuEff nD τ sig (Elt F) Λ₀ .tc) α} :
    owned c (m.access r) ⊢ iprop((holds c (m.access r) w -∗ wpc c (k ⟨⟩) Q)
      -∗ wpc c (.op (.load m r.toLoadRect hl) fun _ => .op (.store m r w Finset.univ hx hm) k) Q) := by
  iintro H Hk
  ihave H := (owned_holds c (m.access r)) $$ H
  icases H with ⟨%V, H⟩
  iapply (wp_load_all c m Q V) $$ H
  iintro H
  ihave H := (holds_owned c (m.access r) V) $$ H
  iapply (wp_store_all c m Q) $$ H
  iexact Hk

end Access

end Cert.Proof

end
-- ==== Proof.Protocol.lean ====
/-
The protocol between the devices, as cells in rounds.

* The barrier cell of a device: one round of four units, one from each neighbour; the neighbour's unit
  hands over its landing slots for the transfers that come from this device.
* The landing cell of each transfer: one round, the transfer's credit; it hands over the slot with what was sent.
* The send cell of each slot: a round per send from it (two for ring slot 0), handing the slot back.
-/
module

public import proofs.«01_k».proof.Proof.Contents
public import proofs.«01_k».proof.Proof.Windows

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The semaphore a transfer lands on. -/
def recvSem (i : Xf) : DmaSem sig :=
  match i.2 with
  | 0 => sCa i.1 0
  | 1 => sCa i.1 1
  | 2 => sCa i.1 2
  | 3 => sCb1 i.1
  | 4 => sCb2 i.1
/-- The semaphore that tells a send slot is free. -/
def sendSem (i : Sd) : DmaSem sig :=
  match i.2 with
  | 0 => sSa i.1 0
  | 1 => sSa i.1 1
  | 2 => sSb1 i.1
  | 3 => sSb2 i.1

/-- The kernel's own semaphores: landing and send. -/
abbrev Own := Xf ⊕ Sd
def ownSem : Own → DmaSem sig
  | .inl i => recvSem i
  | .inr i => sendSem i

/-- Which of them a semaphore number is. -/
def dec (n : Nat) : Option Own :=
  if n < 3 then none
  else if n < 19 then some (.inr (Fin.ofNat 8 ((n - 3) / 2), Fin.ofNat 4 ((n - 3) % 2)))
  else if n < 43 then some (.inl (Fin.ofNat 8 ((n - 19) / 3), Fin.ofNat 5 ((n - 19) % 3)))
  else if n < 51 then some (.inr (Fin.ofNat 8 (n - 43), 2))
  else if n < 59 then some (.inl (Fin.ofNat 8 (n - 51), 3))
  else if n < 67 then some (.inr (Fin.ofNat 8 (n - 59), 3))
  else some (.inl (Fin.ofNat 8 (n - 67), 4))

theorem dec_own : ∀ k : Own, dec (ownSem k).val = some k := by decide +kernel

abbrev barCell (c : Dev nD) : GSem nD τ sig := ((c : Thread nD τ), .reg barS)
abbrev recvCell (c : Dev nD) (i : Xf) : GSem nD τ sig := ((c : Thread nD τ), .dma (recvSem i))
abbrev sendCell (c : Dev nD) (i : Sd) : GSem nD τ sig := ((c : Thread nD τ), .dma (sendSem i))

/-! ## Amounts -/

abbrev NA : ℕ := (vCa 0 0).view.dmaCredit
abbrev NB : ℕ := (vCb1 0).view.dmaCredit
abbrev NC : ℕ := (vCb2 0).view.dmaCredit
theorem NA_pos : 0 < NA := View.dmaCredit_pos _ (by decide)
theorem NB_pos : 0 < NB := View.dmaCredit_pos _ (by decide)
theorem NC_pos : 0 < NC := View.dmaCredit_pos _ (by decide)

/-- The credit of a transfer, by its stage. -/
def amtR (st : Fin 5) : ℕ := match st with | 0 => NA | 1 => NA | 2 => NA | 3 => NB | 4 => NC
/-- The credit of a send, by its slot. -/
def amtS (k : Fin 4) : ℕ := match k with | 0 => NA | 1 => NA | 2 => NB | 3 => NC
theorem amtR_pos (st : Fin 5) : 0 < amtR st := by
  fin_cases st <;> first | exact NA_pos | exact NB_pos | exact NC_pos
theorem amtS_pos (k : Fin 4) : 0 < amtS k := by
  fin_cases k <;> first | exact NA_pos | exact NB_pos | exact NC_pos

theorem creditSa : ∀ (j : Fin 8) (s : Fin 2), (vSa j s).view.dmaCredit = NA := fun _ _ => rfl
theorem creditCa : ∀ (j : Fin 8) (s : Fin 3), (vCa j s).view.dmaCredit = NA := fun _ _ => rfl
theorem creditSb1 : ∀ j : Fin 8, (vSb1 j).view.dmaCredit = NB := fun _ => rfl
theorem creditCb1 : ∀ j : Fin 8, (vCb1 j).view.dmaCredit = NB := fun _ => rfl
theorem creditSb2 : ∀ j : Fin 8, (vSb2 j).view.dmaCredit = NC := fun _ => rfl
theorem creditCb2 : ∀ j : Fin 8, (vCb2 j).view.dmaCredit = NC := fun _ => rfl

/-! ## What the cells hand over -/

/-- The landing slot of a transfer on device `c`. -/
def landing (c : Dev nD) (i : Xf) : sProp 𝕄 :=
  match i.2 with
  | 0 => owned c (vCa i.1 0).view
  | 1 => owned c (vCa i.1 1).view
  | 2 => owned c (vCa i.1 2).view
  | 3 => owned c (vCb1 i.1).view
  | 4 => owned c (vCb2 i.1).view

/-- A send slot of device `c`. -/
def sendSlot (c : Dev nD) (i : Sd) : sProp 𝕄 :=
  match i.2 with
  | 0 => owned c (vSa i.1 0).view
  | 1 => owned c (vSa i.1 1).view
  | 2 => owned c (vSb1 i.1).view
  | 3 => owned c (vSb2 i.1).view

instance landing_storable (c : Dev nD) (i : Xf) : BI.Storable (upEmb : UEmb _ 𝕄) (landing (F := F) c i) := by
  unfold landing; split <;> infer_instance
instance sendSlot_storable (c : Dev nD) (i : Sd) : BI.Storable (upEmb : UEmb _ 𝕄) (sendSlot (F := F) c i) := by
  unfold sendSlot; split <;> infer_instance

/-- What device `e`'s signal hands device `c`: `e`'s landing slots for the transfers from `c`. -/
def barPay (c e : Dev nD) : sProp 𝕄 := bigSep (Finset.univ.filter fun i : Xf => src i e = c) fun i => landing e i

instance barPay_storable (c e : Dev nD) : BI.Storable (upEmb : UEmb _ 𝕄) (barPay (F := F) c e) := by
  unfold barPay; infer_instance

variable (X : Dev nD → S1024x1024.Idx → Elt F .bf16) (Y : Dev nD → S1024x4096.Idx → Elt F .bf16)

/-- The landing slot of a transfer on device `c`, holding what was sent. -/
def landed (c : Dev nD) (i : Xf) : sProp 𝕄 :=
  match i.2 with
  | 0 => holds c (vCa i.1 0).view (ring X Y i.1 0 (src (i.1, 0) c))
  | 1 => holds c (vCa i.1 1).view (ring X Y i.1 1 (src (i.1, 0) c))
  | 2 => holds c (vCa i.1 2).view (ring X Y i.1 2 (src (i.1, 0) c))
  | 3 => holds c (vCb1 i.1).view (shapeCast S128x512 (pairOf (cross1 X Y c i.1)) (by decide))
  | 4 => holds c (vCb2 i.1).view (shapeCast S64x512 (cross2 X Y c i.1) shapeCasts_S1x64x512_S64x512)

instance landed_storable (c : Dev nD) (i : Xf) : BI.Storable (upEmb : UEmb _ 𝕄) (landed X Y c i) := by
  unfold landed; split <;> infer_instance

/-! ## The schedule -/

/-- The duties of a semaphore in round `r`. -/
def dutiesOf (sm : SemLoc sig) (r : ℕ) : Finset (Fin 4) :=
  match sm with
  | .reg _ => if r = 0 then Finset.univ else ∅
  | .dma n => match dec n.val with
    | none => ∅
    | some (.inl i) => if r = 0 then {0} else ∅
    | some (.inr i) => if r = 0 ∨ (r = 1 ∧ i.2 = 0) then {0} else ∅

def amountOf (sm : SemLoc sig) : ℕ :=
  match sm with
  | .reg _ => 1
  | .dma n => match dec n.val with
    | none => 1
    | some (.inl i) => amtR i.2
    | some (.inr i) => amtS i.2

def payloadOf (c : Dev nD) (sm : SemLoc sig) (d : Fin 4) : sProp 𝕄 :=
  match sm with
  | .reg _ => barPay c (bn d c)
  | .dma n => match dec n.val with
    | none => iprop(emp)
    | some (.inl i) => landed X Y c i
    | some (.inr i) => sendSlot c i

theorem amountOf_pos (sm : SemLoc sig) : 0 < amountOf sm := by
  unfold amountOf
  split
  · exact Nat.one_pos
  · split
    · exact Nat.one_pos
    · exact amtR_pos _
    · exact amtS_pos _

def rd : Rounds.Schedule (GSem nD τ sig) (Fin 4) 𝕄 where
  duties g r := dutiesOf g.2 r
  unitless _ := False
  amount g _ _ := amountOf g.2
  payload g _ d := payloadOf X Y g.1.1 g.2 d
  amount_pos g _ _ _ := amountOf_pos g.2

instance rd_payload_storable (g : GSem nD τ sig) (r : ℕ) (d : Fin 4) :
    BI.Storable (upEmb : UEmb _ 𝕄) ((rd X Y).payload g r d) := by
  show BI.Storable upEmb (payloadOf X Y g.1.1 g.2 d)
  unfold payloadOf
  split
  · infer_instance
  · split <;> infer_instance

section Sched
variable (c : Dev nD)

theorem dec_recv (i : Xf) : dec (recvSem i).val = some (.inl i) := dec_own (.inl i)
theorem dec_send (i : Sd) : dec (sendSem i).val = some (.inr i) := dec_own (.inr i)

omit [FloatOps F] in
theorem duties_bar [FloatOps F] : (rd X Y).duties (barCell c) 0 = Finset.univ := rfl
theorem duties_recv (i : Xf) : (rd X Y).duties (recvCell c i) 0 = {0} := by
  show dutiesOf (.dma (recvSem i)) 0 = _
  simp only [dutiesOf, dec_recv, if_true]
theorem duties_send (i : Sd) : (rd X Y).duties (sendCell c i) 0 = {0} := by
  show dutiesOf (.dma (sendSem i)) 0 = _
  simp only [dutiesOf, dec_send, true_or, if_true]
theorem duties_send1 (j : Fin 8) : (rd X Y).duties (sendCell c (j, 0)) 1 = {0} := by
  show dutiesOf (.dma (sendSem (j, 0))) 1 = _
  simp only [dutiesOf, dec_send]; rfl

theorem amount_bar (d : Fin 4) : (rd X Y).amount (barCell c) 0 d = 1 := rfl
theorem amount_recv (i : Xf) (r : ℕ) (d : Fin 4) : (rd X Y).amount (recvCell c i) r d = amtR i.2 := by
  show amountOf (.dma (recvSem i)) = _
  simp only [amountOf, dec_recv]
theorem amount_send (i : Sd) (r : ℕ) (d : Fin 4) : (rd X Y).amount (sendCell c i) r d = amtS i.2 := by
  show amountOf (.dma (sendSem i)) = _
  simp only [amountOf, dec_send]

theorem payload_bar (d : Fin 4) : (rd X Y).payload (barCell c) 0 d = barPay c (bn d c) := rfl
theorem payload_recv (i : Xf) (r : ℕ) (d : Fin 4) : (rd X Y).payload (recvCell c i) r d = landed X Y c i := by
  show payloadOf X Y c (.dma (recvSem i)) d = _
  simp only [payloadOf, dec_recv]
theorem payload_send (i : Sd) (r : ℕ) (d : Fin 4) : (rd X Y).payload (sendCell c i) r d = sendSlot c i := by
  show payloadOf X Y c (.dma (sendSem i)) d = _
  simp only [payloadOf, dec_send]

theorem expect_bar : (rd X Y).expect (barCell c) 0 = 4 := by
  unfold Schedule.expect Schedule.amountOf
  rw [duties_bar, Finset.sum_congr rfl fun d _ => amount_bar X Y c d]
  rfl
theorem expect_recv (i : Xf) : (rd X Y).expect (recvCell c i) 0 = amtR i.2 := by
  unfold Schedule.expect Schedule.amountOf; rw [duties_recv, Finset.sum_singleton, amount_recv]
theorem expect_send (i : Sd) : (rd X Y).expect (sendCell c i) 0 = amtS i.2 := by
  unfold Schedule.expect Schedule.amountOf; rw [duties_send, Finset.sum_singleton, amount_send]
theorem expect_send1 (j : Fin 8) : (rd X Y).expect (sendCell c (j, 0)) 1 = amtS 0 := by
  unfold Schedule.expect Schedule.amountOf; rw [duties_send1, Finset.sum_singleton, amount_send]

theorem rest_recv (i : Xf) : bigSep ((rd X Y).duties (recvCell c i) 0 \ ∅) (fun d => (rd X Y).payload (recvCell c i) 0 d) = landed X Y c i := by
  rw [Finset.sdiff_empty, duties_recv, bigSep_singleton, payload_recv]
theorem rest_send (i : Sd) : bigSep ((rd X Y).duties (sendCell c i) 0 \ ∅) (fun d => (rd X Y).payload (sendCell c i) 0 d) = sendSlot c i := by
  rw [Finset.sdiff_empty, duties_send, bigSep_singleton, payload_send]
theorem rest_send1 (j : Fin 8) : bigSep ((rd X Y).duties (sendCell c (j, 0)) 1 \ ∅) (fun d => (rd X Y).payload (sendCell c (j, 0)) 1 d) = sendSlot c (j, 0) := by
  rw [Finset.sdiff_empty, duties_send1, bigSep_singleton, payload_send]
theorem rest_bar : bigSep ((rd X Y).duties (barCell c) 0 \ ∅) (fun d => (rd X Y).payload (barCell c) 0 d)
    = bigSep Finset.univ fun d : Fin 4 => barPay c (bn d c) := by
  rw [Finset.sdiff_empty, duties_bar]
  rfl

theorem duties_bar_later : ∀ r, 1 ≤ r → (rd X Y).duties (barCell c) r = ∅ := fun r hr => if_neg (by omega)
theorem duties_recv_later (i : Xf) : ∀ r, 1 ≤ r → (rd X Y).duties (recvCell c i) r = ∅ := fun r hr => by
  show dutiesOf (.dma (recvSem i)) r = _
  simp only [dutiesOf, dec_recv]; exact if_neg (by omega)
theorem duties_send_later (i : Sd) (hi : i.2 ≠ 0) : ∀ r, 1 ≤ r → (rd X Y).duties (sendCell c i) r = ∅ := fun r hr => by
  show dutiesOf (.dma (sendSem i)) r = _
  simp only [dutiesOf, dec_send]; exact if_neg (by rintro (h | h); · omega
                                                   · exact hi h.2)
theorem duties_send0_later (j : Fin 8) : ∀ r, 2 ≤ r → (rd X Y).duties (sendCell c (j, 0)) r = ∅ := fun r hr => by
  show dutiesOf (.dma (sendSem (j, 0))) r = _
  simp only [dutiesOf, dec_send]; exact if_neg (by rintro (h | h); · omega
                                                   · omega)

end Sched

/-! ## What each device owes, and the levels -/

/-- What device `c` owes for the transfers `R`, still to be sent. -/
def owedFor (c : Dev nD) (R : Finset Xf) : CellTallies nD τ sig Unit :=
  ∑ i ∈ R, tallyAt (recvCell (tgt i c) i) () (amtR i.2)
/-- What device `c` owes its neighbours' barriers, for the signals `S`. -/
def owedBar (c : Dev nD) (S : Finset (Fin 4)) : CellTallies nD τ sig Unit :=
  ∑ k ∈ S, tallyAt (barCell (nb k c)) () 1
/-- What device `c` owes at launch. -/
def O₀ (c : Dev nD) : CellTallies nD τ sig Unit := owedFor c Finset.univ + owedBar c Finset.univ

theorem owedFor_erase (c : Dev nD) {R : Finset Xf} {i : Xf} (hi : i ∈ R) :
    owedFor c R = owedFor c (R.erase i) + tallyAt (recvCell (tgt i c) i) () (amtR i.2) :=
  (Finset.sum_erase_add _ _ hi).symm

/-- When each column group starts. -/
def start0 : Fin 8 → ℕ := ![1, 1, 2, 2, 0, 0, 1, 1]
/-- The level of a transfer's landing cell. -/
def rlev (i : Xf) : ℕ := 2 + start0 i.1 + i.2.val

def L (g : GSem nD τ sig) : Finset Unit := if g.1.2 = .tc then {()} else ∅
/-- Barrier cells at 1, a landing cell at its transfer's level, everything else at 0. -/
def levOf (sm : SemLoc sig) : ℕ :=
  match sm with
  | .reg _ => 1
  | .dma n => match dec n.val with
    | some (.inl i) => rlev i
    | _ => 0
def lv (g : GSem nD τ sig) (_ : Unit) : ℕ := levOf g.2

theorem L_of_ne (g : GSem nD τ sig) (h : g.1.2 ≠ .tc) : L g = ∅ := if_neg h
theorem L_tc (c : Dev nD) (sm : SemLoc sig) : L ((c : Thread nD τ), sm) = {()} := if_pos rfl

theorem levOf_recv (i : Xf) : levOf (.dma (recvSem i)) = rlev i := by simp only [levOf, dec_recv]
theorem levOf_send (i : Sd) : levOf (.dma (sendSem i)) = 0 := by simp only [levOf, dec_send]
theorem lv_recv (c : Dev nD) (i : Xf) (u : Unit) : lv (recvCell c i) u = rlev i := levOf_recv i
theorem lv_send (c : Dev nD) (i : Sd) (u : Unit) : lv (sendCell c i) u = 0 := levOf_send i
theorem lv_bar (c : Dev nD) (u : Unit) : lv (barCell c) u = 1 := rfl
theorem two_le_rlev (i : Xf) : 2 ≤ rlev i := by unfold rlev; omega

/-- A cell owed for transfers is the landing cell of one of them. -/
theorem owedFor_pos {c : Dev nD} {R : Finset Xf} {g : GSem nD τ sig} {u : Unit} (h : 0 < owedFor c R g u) :
    ∃ i ∈ R, g = recvCell (tgt i c) i := by
  unfold owedFor at h
  rw [Finset.sum_apply, Finsupp.finset_sum_apply] at h
  obtain ⟨i, hi, hne⟩ := Finset.exists_ne_zero_of_sum_ne_zero h.ne'
  refine ⟨i, hi, ?_⟩
  rw [tallyAt_apply] at hne
  by_contra hn
  exact hne (if_neg fun h' => hn h'.1)
theorem owedBar_pos {c : Dev nD} {S : Finset (Fin 4)} {g : GSem nD τ sig} {u : Unit} (h : 0 < owedBar c S g u) :
    ∃ k ∈ S, g = barCell (nb k c) := by
  unfold owedBar at h
  rw [Finset.sum_apply, Finsupp.finset_sum_apply] at h
  obtain ⟨i, hi, hne⟩ := Finset.exists_ne_zero_of_sum_ne_zero h.ne'
  refine ⟨i, hi, ?_⟩
  rw [tallyAt_apply] at hne
  by_contra hn
  exact hne (if_neg fun h' => hn h'.1)

/-- The levels of all cells. -/
def levels : sProp 𝕄 := levAts L lv
instance levels_persistent : Persistent (levels : sProp 𝕄) := by unfold levels; infer_instance

/-- A device may wait on any of its cells whose level is below those of the transfers it still owes. -/
theorem mayWait_owed (c : Dev nD) (sm : SemLoc sig) (R : Finset Xf) (cut : ℕ) (hsm : levOf sm ≤ cut)
    (hR : ∀ i ∈ R, cut < rlev i) :
    (levels : sProp 𝕄) ⊢ MayWait (c : Thread nD τ) sm () (owedFor c R) :=
  MayOwe.of_cut (L := L) (lev := lv) cut (fun p hp => by rw [Finset.mem_singleton.mp hp, L_tc]; exact Finset.mem_singleton_self _)
    (fun g u hg => by obtain ⟨i, hi, rfl⟩ := owedFor_pos hg; exact Finset.mem_singleton_self _)
    (fun p hp => by rw [Finset.mem_singleton.mp hp]; exact hsm)
    (fun g u hg => by obtain ⟨i, hi, rfl⟩ := owedFor_pos hg; rw [lv_recv]; exact hR i hi)

theorem mayWait_recv (c : Dev nD) (i : Xf) (R : Finset Xf) (hR : ∀ i' ∈ R, rlev i < rlev i') :
    (levels : sProp 𝕄) ⊢ MayWait (c : Thread nD τ) (.dma (recvSem i)) () (owedFor c R) :=
  mayWait_owed c _ R (rlev i) (by rw [levOf_recv]) hR
theorem mayWait_send (c : Dev nD) (k : Sd) (R : Finset Xf) :
    (levels : sProp 𝕄) ⊢ MayWait (c : Thread nD τ) (.dma (sendSem k)) () (owedFor c R) :=
  mayWait_owed c _ R 0 (by rw [levOf_send]) fun i _ => lt_of_lt_of_le (by decide) (two_le_rlev i)

/-- At its staging waits a device owes everything or nothing: every owed cell is above level 0. -/
theorem mayWait_stage (c : Dev nD) (q : DmaSem sig) (hq : levOf (.dma q) = 0) (O : CellTallies nD τ sig Unit) (hO : O = O₀ c ∨ O = 0) :
    (levels : sProp 𝕄) ⊢ MayWait (c : Thread nD τ) (.dma q) () O := by
  rcases hO with rfl | rfl
  · have key : ∀ {g : GSem nD τ sig} {u : Unit}, 0 < O₀ c g u → (∃ i, g = recvCell (tgt i c) i) ∨ ∃ k, g = barCell (nb k c) := by
      intro g u h
      unfold O₀ at h
      rw [Pi.add_apply, Finsupp.add_apply] at h
      rcases Nat.eq_zero_or_pos (owedFor c Finset.univ g u) with h0 | h0
      · rw [h0, Nat.zero_add] at h
        obtain ⟨k, -, e⟩ := owedBar_pos h; exact .inr ⟨k, e⟩
      · obtain ⟨i, -, e⟩ := owedFor_pos h0; exact .inl ⟨i, e⟩
    refine MayOwe.of_cut (L := L) (lev := lv) 0 (fun p hp => by rw [Finset.mem_singleton.mp hp, L_tc]; exact Finset.mem_singleton_self _)
      (fun g u hg => by rcases key hg with ⟨i, rfl⟩ | ⟨k, rfl⟩ <;> exact Finset.mem_singleton_self _)
      (fun p hp => by rw [Finset.mem_singleton.mp hp]; exact hq.le)
      (fun g u hg => by
        rcases key hg with ⟨i, rfl⟩ | ⟨k, rfl⟩
        · rw [lv_recv]; exact lt_of_lt_of_le (by decide) (two_le_rlev i)
        · rw [lv_bar]; decide)
  · rw [MayWait_zero]; iintro -; iempintro

end Cert.Proof

end
-- ==== Proof.Moves.lean ====
/-
The rules of the protocol's three moves, for any of its cells: sending a slot, waiting for a landing and
waiting for a slot to be free again. Each takes the persistent records of all cells and what it spends.
-/
module

public import proofs.«01_k».proof.Proof.Protocol

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)

/-- The cells of one device: its barrier, its landing cells and its send cells. -/
abbrev Ck := Option Own
/-- Their addresses. -/
def kcell (p : Dev nD × Ck) : GSem nD τ sig :=
  match p.2 with
  | none => barCell p.1
  | some (.inl i) => recvCell p.1 i
  | some (.inr i) => sendCell p.1 i

variable (K : Dev nD × Ck → ℕ)

/-- What is known of every cell from the launch on, and the levels. -/
def records : sProp 𝕄 :=
  iprop((bigSep Finset.univ fun p : Dev nD × Ck => cellInv ER (rd X Y) (K p) (kcell p))
    ∗ (bigSep Finset.univ fun p : Dev nD × Ck => reached ER (kcell p) 0) ∗ levels)

instance records_persistent : Persistent (records X Y K) := by unfold records; infer_instance

theorem rec_inv (p : Dev nD × Ck) : records X Y K ⊢ cellInv ER (rd X Y) (K p) (kcell p) := by
  unfold records
  iintro ⟨#H, -, -⟩
  iapply (show iprop(bigSep Finset.univ fun p : Dev nD × Ck => cellInv ER (rd X Y) (K p) (kcell p)) ⊢ cellInv ER (rd X Y) (K p) (kcell p)
    from bigSep_elim (Finset.mem_univ p)) $$ H
theorem rec_reached (p : Dev nD × Ck) : records X Y K ⊢ reached ER (kcell p) 0 := by
  unfold records
  iintro ⟨-, #H, -⟩
  iapply (show (bigSep Finset.univ fun p : Dev nD × Ck => (reached ER (kcell p) 0 : sProp 𝕄)) ⊢ reached ER (kcell p) 0
    from bigSep_elim (Finset.mem_univ p)) $$ H
theorem rec_lev : records X Y K ⊢ levels := by
  unfold records
  iintro ⟨-, -, #H⟩
  iexact H

variable (c : Dev nD)

/-- What device `c` needs to send transfer `i` from slot `k` for the `r`-th time. -/
def sendKit (i : Xf) (k : Sd) (r : ℕ) : sProp 𝕄 :=
  iprop(dutyTok ER (recvCell (tgt i c) i) 0 0 ∗ landing (tgt i c) i ∗ dutyTok ER (sendCell c k) r 0)
/-- What it needs to wait for transfer `i`. -/
def recvKit (i : Xf) : sProp 𝕄 :=
  iprop(cred (tallyAt (recvCell c i) () (amtR i.2)) ∗ atPos ER (recvCell c i) 0 ∅ 0)
/-- What it has of a landing cell once it has waited. -/
def recvDone (i : Xf) : sProp 𝕄 := atPos ER (recvCell c i) 1 ∅ 0
/-- The credit of a send under way. -/
def sendCred (k : Sd) : sProp 𝕄 := cred (tallyAt (sendCell c k) () (amtS k.2))
/-- Where it is on a send cell. -/
def sendPos (k : Sd) (r : ℕ) : sProp 𝕄 := atPos ER (sendCell c k) r ∅ 0

variable {α : Type}

/-- Sending the held contents of a slot into the landing slot of transfer `i`. -/
theorem wp_send (Q : α → sProp 𝕄) (i : Xf) (k : Sd) (r : ℕ) (n : Dev nD) (hn : n = tgt i c) {sR sS : DmaSem sig} (hsR : sR = recvSem i) (hsS : sS = sendSem k) {s : Shape}
    {src : Memref sig .tc .vmem s .bf16} {dst : Memref sig .tc .vmem s .bf16} {V : s.Idx → Elt F .bf16}
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α}
    (hN : dst.view.amount (.dma sR) = amtR i.2) (ha : amtS k.2 = amtR i.2)
    (hr : (rd X Y).duties (sendCell c k) r = {0})
    (hs : sendSlot (F := F) c k = owned c src.view) (hl : landing (F := F) (tgt i c) i = owned (tgt i c) dst.view)
    (hL : landed X Y (tgt i c) i = holds (tgt i c) dst.view V)
    (R : Finset Xf) (hi : i ∈ R) (W : Waits sig Unit) :
    iprop(records X Y K ∗ reached ER (sendCell c k) r ∗ holds c src.view V ∗ sendKit c i k r ∗ owes (c : Thread nD τ) (owedFor c R) W)
      ⊢ iprop((sendCred c k ∗ owes (c : Thread nD τ) (owedFor c (R.erase i)) W -∗ wpc c (kk ⟨⟩) Q)
          -∗ wpc c (.op (.enqueueDma src (.remote (Dev.tc n : Thread nD τ) dst (.dma sS) hsc) (.dma sR) hsrc hdst hsem) kk) Q) := by
  subst hn hsR hsS
  unfold sendKit sendCred
  rw [hl, owedFor_erase c hi, ha]
  unfold owned holds
  iintro ⟨#HR, #Hr, ⟨%f, %hf, Hs⟩, ⟨Ht, ⟨%fd, Hd⟩, HtS⟩, HO⟩ Hk
  iapply (Rounds.wp_send_pointsTo 𝒱₀ ER (rd X Y) (c : Thread nD τ) none (κ₁ := K (c, some (.inr k))) (κ₂ := K (tgt i c, some (.inl i)))
    (r₁ := r) (r₂ := 0) (d₁ := 0) (d₂ := 0) (fs := f) (fd := fd)
    (by rw [hr]; exact Finset.mem_singleton_self _) (by rw [duties_recv]; exact Finset.mem_singleton_self _)
    () () (amtR i.2) hN ((amount_send X Y c k r 0).trans ha) (amount_recv X Y (tgt i c) i 0 0) (owedFor c (R.erase i)) rfl (W := W)
    (by
      rw [payload_send, hs]; unfold owned
      iintro H; iexists f; iexact H)
    (by
      rw [payload_recv, hL]; unfold holds
      iintro H; iexists (dst.view.write (Elt F) fd (src.view.read (Elt F) f) Finset.univ)
      isplitr
      · ipureintro
        exact (View.read_write_univ _ _).trans hf
      iexact H)) $$ [Hs Ht Hd HtS HO]
  · isplitr; · iapply (rec_inv X Y K (c, some (.inr k))); iexact HR
    isplitr; · iapply (rec_inv X Y K (tgt i c, some (.inl i))); iexact HR
    isplitl [Hs]; · iexact Hs
    isplitl [Hd]; · iexact Hd
    isplitl [HO]; · iexact HO
    isplitl [HtS]; · iexact HtS
    isplitr; · iexact Hr
    isplitl [Ht]; · iexact Ht
    iapply (rec_reached X Y K (tgt i c, some (.inl i))); iexact HR
  iexact Hk

/-- Waiting for transfer `i`, of the stated credit. -/
theorem wp_recv (Q : α → sProp 𝕄) (i : Xf) {sR : DmaSem sig} (hsR : sR = recvSem i) {s : Shape} {src : Memref sig .tc .vmem s .bf16} {dst : Memref sig .tc .vmem s .bf16}
    {hsrc : src.view.WordExact} {hdst : dst.view.WordExact}
    {kk : PUnit → Prog (TpuEff nD τ sig (Elt F) Λ₀ .tc) α}
    (hN : dst.view.dmaCredit = amtR i.2) (R : Finset Xf) (hR : ∀ i' ∈ R, rlev i < rlev i') (W : Waits sig Unit) :
    iprop(records X Y K ∗ recvKit c i ∗ owes (c : Thread nD τ) (owedFor c R) W)
      ⊢ iprop((recvDone c i ∗ landed X Y c i ∗ owes (c : Thread nD τ) (owedFor c R) (insert (SemLoc.dma sR, ()) W) -∗ wpc c (kk ⟨⟩) Q)
          -∗ wpc c (.op (.waitDma2 sR src dst hsrc hdst) kk) Q) := by
  subst hsR
  unfold recvKit recvDone
  rw [← rest_recv X Y c i, ← hN]
  iintro ⟨#HR, ⟨Hc, Hat⟩, HO⟩ Hk
  iapply (Rounds.wp_wait_rest_token 𝒱₀ ER (rd X Y) (c : Thread nD τ) none (κ := K (c, some (.inl i)))
      (wpE_waitDma2_eq 𝒱₀ (c : Thread nD τ) none Set.univ) (Set.mem_univ _) () (O := owedFor c R) (W := W) (R := 0) (m := 0) (T := ∅)
      (by rw [Nat.zero_add, expect_recv, hN])) $$ [Hc HO Hat]
  · isplitr; · iapply (rec_inv X Y K (c, some (.inl i))); iexact HR
    isplitl [Hc]; · iexact Hc
    isplitl [HO]; · iexact HO
    isplitr
    · ihave Hl := (@rec_lev F _ X Y K) $$ HR
      ihave Hm := (mayWait_recv c i R hR) $$ Hl
      iexact Hm
    iexact Hat
  iintro ⟨HO, Hat, -, Hp⟩
  iapply Hk
  isplitl [Hat]; · iexact Hat
  isplitl [Hp]; · iexact Hp
  iexact HO

/-- Waiting for send slot `k` to be free after its `r`-th send. -/
theorem wp_free (Q : α → sProp 𝕄) (k : Sd) (r : ℕ) {sS : DmaSem sig} (hsS : sS = sendSem k) {s : Shape} {src : Memref sig .tc .vmem s .bf16} {dst : Memref sig .tc .vmem s .bf16}
    {hsrc : src.view.WordExact} {hdst : dst.view.WordExact}
    {kk : PUnit → Prog (TpuEff nD τ sig (Elt F) Λ₀ .tc) α}
    (hN : dst.view.dmaCredit = amtS k.2) (hr : (rd X Y).duties (sendCell c k) r = {0}) (R : Finset Xf) (W : Waits sig Unit) :
    iprop(records X Y K ∗ sendCred c k ∗ sendPos c k r ∗ owes (c : Thread nD τ) (owedFor c R) W)
      ⊢ iprop((sendPos c k (r + 1) ∗ reached ER (sendCell c k) (r + 1) ∗ sendSlot c k
            ∗ owes (c : Thread nD τ) (owedFor c R) (insert (SemLoc.dma sS, ()) W) -∗ wpc c (kk ⟨⟩) Q)
          -∗ wpc c (.op (.waitDma2 sS src dst hsrc hdst) kk) Q) := by
  subst hsS
  unfold sendCred sendPos
  rw [← hN]
  have hrest : bigSep ((rd X Y).duties (sendCell c k) r \ ∅) (fun d => (rd X Y).payload (sendCell c k) r d) = sendSlot c k := by
    rw [Finset.sdiff_empty, hr, bigSep_singleton, payload_send]
  rw [← hrest]
  iintro ⟨#HR, Hc, Hat, HO⟩ Hk
  iapply (Rounds.wp_wait_rest_token 𝒱₀ ER (rd X Y) (c : Thread nD τ) none (κ := K (c, some (.inr k)))
      (wpE_waitDma2_eq 𝒱₀ (c : Thread nD τ) none Set.univ) (Set.mem_univ _) () (O := owedFor c R) (W := W) (R := r) (m := 0) (T := ∅)
      (by
        rw [Nat.zero_add, hN]
        unfold Schedule.expect Schedule.amountOf
        rw [hr, Finset.sum_singleton, amount_send])) $$ [Hc HO Hat]
  · isplitr; · iapply (rec_inv X Y K (c, some (.inr k))); iexact HR
    isplitl [Hc]; · iexact Hc
    isplitl [HO]; · iexact HO
    isplitr
    · ihave Hl := (@rec_lev F _ X Y K) $$ HR
      ihave Hm := (mayWait_send c k R) $$ Hl
      iexact Hm
    iexact Hat
  iintro ⟨HO, Hat, Hr, Hp⟩
  iapply Hk
  isplitl [Hat]; · iexact Hat
  isplitl [Hr]; · iexact Hr
  isplitl [Hp]; · iexact Hp
  iexact HO

end Cert.Proof

end
-- ==== Proof.Parts.lean ====
/-
Parts of windows: storing over a part of a held window, and cutting a window into a family of windows that
tile it and putting it together again.
-/
module

public import proofs.«01_k».proof.Proof.Windows

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Store
variable {cs : CoreSpace} {s : Shape} {e : EltTy} {α : Type} (c : Dev nD) (m : Memref sig .tc cs s e)

/-- `V'` is `V` with the part `sub` names replaced by `w`. -/
def Over {ι κ β : Type} (sub : κ → ι) (w : κ → β) (V V' : ι → β) : Prop :=
  (∀ k, V' (sub k) = w k) ∧ ∀ i, (∀ k, sub k ≠ i) → V' i = V i

/-- A store through a rectangle inside a held window replaces that part of its contents. -/
theorem wp_store_in (Q : α → sProp 𝕄) {r r' : Rect s} {sub} (h : Within r r' sub) {w : r'.shape.Idx → Elt F e}
    {hx : (m.access r').Stores Finset.univ} {hm}
    {k : PUnit → Prog (TpuEff nD τ sig (Elt F) Λ₀ .tc) α} (V : r.shape.Idx → Elt F e) :
    holds c (m.access r) V ⊢ iprop(((∃ V', ⌜Over sub w V V'⌝ ∗ holds c (m.access r) V') -∗ wpc c (k ⟨⟩) Q)
      -∗ wpc c (.op (.store m r' w Finset.univ hx hm) k) Q) := by
  unfold holds
  iintro ⟨%f, %hf, H⟩ Hk
  iapply (wp_store 𝒱₀ (c : Thread nD τ) none Set.univ (m := m) (r := r') (f := f) (Mk := Finset.univ)
    (S := (m.access r).set) (h.subset m)) $$ H
  iintro H
  iapply Hk
  iexists (m.access r).read (Elt F) ((m.access r').write (Elt F) f w Finset.univ)
  isplitr
  · ipureintro
    refine ⟨fun k => ?_, fun i hi => ?_⟩
    · rw [← congrFun (h.read m ((m.access r').write (Elt F) f w Finset.univ)) k, View.read_write_univ]
    · rw [View.read_apply, View.write_of_not_mem, ← View.read_apply, hf]
      intro hmem
      obtain ⟨k, -, hk⟩ := Finset.mem_map.mp hmem
      have : (m.access r').emb k = (m.access r).emb (sub k) := congrArg m.view.emb (h k).symm
      exact hi k ((m.access r).emb.injective (this.symm.trans hk))
  iexists _
  isplitr; · ipureintro; rfl
  iexact H

/-- A load whose value is not used, then a store over the same part of a held window. -/
theorem wp_put_in (Q : α → sProp 𝕄) {r r' : Rect s} {sub} (h : Within r r' sub) {w : r'.shape.Idx → Elt F e}
    {hl : m.view.LoadsAt r'.toLoadRect} {hx : (m.access r').Stores Finset.univ} {hm}
    {k : PUnit → Prog (TpuEff nD τ sig (Elt F) Λ₀ .tc) α} (V : r.shape.Idx → Elt F e) :
    holds c (m.access r) V ⊢ iprop(((∃ V', ⌜Over sub w V V'⌝ ∗ holds c (m.access r) V') -∗ wpc c (k ⟨⟩) Q)
      -∗ wpc c (.op (.load m r'.toLoadRect hl) fun _ => .op (.store m r' w Finset.univ hx hm) k) Q) := by
  iintro H Hk
  iapply (wp_load_in c m Q h V) $$ H
  iintro H
  iapply (wp_store_in c m Q h V) $$ H
  iexact Hk

end Store

section Tile
variable {sp : Space} {s : Shape} {e : EltTy} {ι : Type} [Fintype ι] [DecidableEq ι]

/-- The rectangles `r` cover a shape, no element twice. -/
structure Tile (r : ι → Rect s) : Prop where
  apart : ∀ i j x y, (r i).idx x = (r j).idx y → i = j
  cover : ∀ x : s.Idx, ∃ i k, (r i).idx k = x

theorem Tile.disjoint {r : ι → Rect s} (h : Tile r) (m : Memref sig .tc sp s e) :
    ∀ i ∈ (Finset.univ : Finset ι), ∀ j ∈ (Finset.univ : Finset ι), i ≠ j → Disjoint (m.access (r i)).set (m.access (r j)).set := by
  intro i _ j _ hij
  rw [Finset.disjoint_left]
  intro x hx hy
  obtain ⟨a, -, rfl⟩ := Finset.mem_map.mp hx
  obtain ⟨b, -, hb⟩ := Finset.mem_map.mp hy
  exact hij (h.apart i j a b (m.view.emb.injective hb.symm))

theorem Tile.set {r : ι → Rect s} (h : Tile r) (m : Memref sig .tc sp s e) :
    m.view.set = Finset.univ.biUnion fun i => (m.access (r i)).set := by
  ext x
  constructor
  · intro hx
    obtain ⟨a, -, rfl⟩ := Finset.mem_map.mp hx
    obtain ⟨i, k, rfl⟩ := h.cover a
    exact Finset.mem_biUnion.mpr ⟨i, Finset.mem_univ _, View.emb_mem_set (m.access (r i)) k⟩
  · intro hx
    obtain ⟨i, -, hi⟩ := Finset.mem_biUnion.mp hx
    obtain ⟨k, -, rfl⟩ := Finset.mem_map.mp hi
    exact View.emb_mem_set m.view _

omit [FloatOps F] in
theorem tiles_split {r : ι → Rect s} (h : Tile r) (c : Dev nD) (m : Memref sig .tc sp s e) (f : Buf (Elt F) (m.view.loc (c : Thread nD τ)))
    (S : Finset m.view.ty.Idx) (hS : S = Finset.univ.biUnion fun i => (m.access (r i)).set) :
    (m.view.loc (c : Thread nD τ) ↦[S]{fullShare} f : sProp 𝕄)
      ⊢ bigSep Finset.univ fun i => (m.view.loc (c : Thread nD τ) ↦[(m.access (r i)).set]{fullShare} f : sProp 𝕄) := by
  subst hS
  exact Entails.of_eq (pointsTo_biUnion _ _ (h.disjoint m))

/-- A held buffer is its tiles. -/
theorem owned_split {r : ι → Rect s} (h : Tile r) (c : Dev nD) (m : Memref sig .tc sp s e) :
    owned (F := F) c m.view ⊢ bigSep Finset.univ fun i => owned c (m.access (r i)) := by
  rw [show owned (F := F) c m.view = iprop(∃ f : Buf (Elt F) (m.view.loc (c : Thread nD τ)), (m.view.loc (c : Thread nD τ) ↦[m.view.set]{fullShare} f)) from rfl]
  iintro ⟨%f, H⟩
  have key : ∀ i, (m.view.loc (c : Thread nD τ) ↦[(m.access (r i)).set]{fullShare} f : sProp 𝕄) ⊢ owned c (m.access (r i)) := fun i => by
    unfold owned
    iintro H
    iexists f; iexact H
  have all := (tiles_split h c m f _ (h.set m)).trans (bigSep_mono (s := Finset.univ) fun i _ => key i)
  iapply all $$ H

variable [∀ e, Nonempty (Elt F e)]

omit [FloatOps F] in
theorem tiles_join {r : ι → Rect s} (h : Tile r) (c : Dev nD) (m : Memref sig .tc sp s e) (fs : ι → Buf (Elt F) (m.view.loc (c : Thread nD τ)))
    (S : Finset m.view.ty.Idx) (hS : S = Finset.univ.biUnion fun i => (m.access (r i)).set) :
    (bigSep Finset.univ fun i => (m.view.loc (c : Thread nD τ) ↦[(m.access (r i)).set]{fullShare} fs i : sProp 𝕄))
      ⊢ iprop(∃ g : Buf (Elt F) (m.view.loc (c : Thread nD τ)), ⌜∀ i ∈ (Finset.univ : Finset ι), ∀ x ∈ (m.access (r i)).set, g x = fs i x⌝
          ∗ (m.view.loc (c : Thread nD τ) ↦[S]{fullShare} g)) := by
  subst hS
  have f₀ : Buf (Elt F) (m.view.loc (c : Thread nD τ)) := fun _ => Classical.choice (‹∀ e, Nonempty (Elt F e)› _)
  exact pointsTo_biUnion_join (ℓ := m.view.loc (c : Thread nD τ)) (q := fullShare) (Finset.univ : Finset ι) (fun i => (m.access (r i)).set) fs f₀ (h.disjoint m)

/-- Tiles held at stated contents are the buffer held at contents that agree with them. -/
theorem holds_join {r : ι → Rect s} (h : Tile r) (c : Dev nD) (m : Memref sig .tc sp s e) (V : ∀ i, (r i).shape.Idx → Elt F e)
    (W : s.Idx → Elt F e) (hW : ∀ i k, W ((r i).idx k) = V i k) :
    (bigSep Finset.univ fun i => holds c (m.access (r i)) (V i)) ⊢ holds c m.view W := by
  unfold holds
  have : ∀ i, Nonempty (Buf (Elt F) ((m.access (r i)).loc (c : Thread nD τ))) := fun i => ⟨fun _ => Classical.choice inferInstance⟩
  iintro H
  ihave H := (bigSep_exists_pi (M := MT nD τ sig Unit (Elt F) ℕ UU ℕ) Finset.univ _) $$ H
  icases H with ⟨%fs, H⟩
  ihave H := (bigSep_pure_sep (M := MT nD τ sig Unit (Elt F) ℕ UU ℕ) (Finset.univ : Finset ι)
    (fun i => (m.access (r i)).read (Elt F) (fs i) = V i)
    (fun i => ((m.access (r i)).loc (c : Thread nD τ) ↦[(m.access (r i)).set]{fullShare} fs i))) $$ H
  icases H with ⟨%hp, H⟩
  ihave H := (tiles_join h c m fs _ (h.set m)) $$ H
  icases H with ⟨%g, %hg, H⟩
  iexists g
  isplitr
  · ipureintro
    funext x
    obtain ⟨i, k, rfl⟩ := h.cover x
    rw [hW i k, ← hp i (Finset.mem_univ i), View.read_apply, View.read_apply]
    have := hg i (Finset.mem_univ i) ((m.access (r i)).emb k) (View.emb_mem_set _ _)
    exact congrArg _ this
  iexact H

/-- Tiles held are the buffer held. -/
theorem owned_join {r : ι → Rect s} (h : Tile r) (c : Dev nD) (m : Memref sig .tc sp s e) :
    (bigSep Finset.univ fun i => owned (F := F) c (m.access (r i))) ⊢ owned c m.view := by
  unfold owned
  have : ∀ i, Nonempty (Buf (Elt F) ((m.access (r i)).loc (c : Thread nD τ))) := fun i => ⟨fun _ => Classical.choice inferInstance⟩
  iintro H
  ihave H := (bigSep_exists_pi (M := MT nD τ sig Unit (Elt F) ℕ UU ℕ) Finset.univ _) $$ H
  icases H with ⟨%fs, H⟩
  ihave H := (tiles_join h c m fs _ (h.set m)) $$ H
  icases H with ⟨%g, -, H⟩
  iexists g
  iexact H

end Tile

end Cert.Proof

end
-- ==== Proof.Regions.lean ====
/-
The kernel's windows as held pieces: a column group of the product buffer and its sixteen slots, blocks of
the ring sums, halves of the exchange buffers, and the views transfers name as windows of their buffers.
-/
module

public import proofs.«01_k».proof.Proof.Parts
public import proofs.«01_k».proof.Proof.Contents
public import Idealize.ShloMosaic.Lib.ValueLayout

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A column group of the product buffer -/

theorem inbCol (j : Fin 8) : ∀ a, (![0, 0, 512 * j.val] : Fin 3 → Nat) a + (![4, 256, 512] : Fin 3 → Nat) a ≤ S4x256x4096.size a := by
  revert j; decide
/-- All rows of the product buffer, the columns of group `j`. -/
abbrev rCol (j : Fin 8) : Rect S4x256x4096 := Rect.unit (s := S4x256x4096) ![0, 0, 512 * j.val] ![4, 256, 512] (inbCol j)

/-- The place of slot `p`'s elements in its column group. -/
def slotIn (j : Fin 8) (p : Fin 4 × Fin 4) (i : (rArr j p.1 p.2).shape.Idx) : (rCol j).shape.Idx :=
  ix3 p.1 (⟨64 * p.2.val + (i 1).val, by have : (i 1).val < 64 := (i 1).isLt; omega⟩ : Fin 256) (i 2)
/-- The place of a ring index's rows in their column group. -/
def rowsIn (j : Fin 8) (u : Fin 4) (inb) (i : (rAt (arrOff j u) inb).shape.Idx) : (rCol j).shape.Idx := ix3 u (i 1) (i 2)

theorem within_slot (j : Fin 8) (p : Fin 4 × Fin 4) : Within (rCol j) (rArr j p.1 p.2) (slotIn j p) := by
  intro i
  have h0 : (i 0).val < 1 := (i 0).isLt
  funext a
  match a with
  | ⟨0, _⟩ => apply Fin.ext; show 0 + 1 * p.1.val = p.1.val + 1 * (i 0).val; omega
  | ⟨1, _⟩ => apply Fin.ext; show 0 + 1 * (64 * p.2.val + (i 1).val) = 64 * p.2.val + 1 * (i 1).val; omega
  | ⟨2, _⟩ => rfl
theorem within_rows (j : Fin 8) (u : Fin 4) (inb) : Within (rCol j) (rAt (arrOff j u) inb) (rowsIn j u inb) := by
  intro i
  have h0 : (i 0).val < 1 := (i 0).isLt
  funext a
  match a with
  | ⟨0, _⟩ => apply Fin.ext; show 0 + 1 * u.val = u.val + 1 * (i 0).val; omega
  | ⟨1, _⟩ => rfl
  | ⟨2, _⟩ => rfl

/-- A column group's contents once its sixteen slots are stored. -/
def colOf (j : Fin 8) (v : FVec F S1024x512 .bf16) : (rCol j).shape.Idx → Elt F .bf16 := fun i =>
  slotOf j v (i 0, ⟨(i 1).val / 64, by have : (i 1).val < 256 := (i 1).isLt; omega⟩)
    (ix3 (0 : Fin 1) (⟨(i 1).val % 64, by omega⟩ : Fin 64) (i 2))

theorem colOf_rows (j : Fin 8) (v : FVec F S1024x512 .bf16) (u : Fin 4) (inb) :
    (fun i => colOf j v (rowsIn j u inb i)) = part j v u := rfl

/-- Contents that agree with every slot are the column group's. -/
theorem colOf_eq (j : Fin 8) (v : FVec F S1024x512 .bf16) (V : (rCol j).shape.Idx → Elt F .bf16)
    (h : ∀ p ∈ slots, ∀ k, V (slotIn j p k) = slotOf j v p k) : V = colOf j v := by
  funext i
  have h1 : (i 1).val < 256 := (i 1).isLt
  have hp : ∀ p : Fin 4 × Fin 4, p ∈ slots := by decide
  have hi : i = slotIn j (i 0, ⟨(i 1).val / 64, by omega⟩) (ix3 (0 : Fin 1) (⟨(i 1).val % 64, by omega⟩ : Fin 64) (i 2)) := by
    funext a
    match a with
    | ⟨0, _⟩ => rfl
    | ⟨1, _⟩ => apply Fin.ext; show (i 1).val = 64 * ((i 1).val / 64) + (i 1).val % 64; omega
    | ⟨2, _⟩ => rfl
  conv_lhs => rw [hi]
  exact h _ (hp _) _

/-- Two slots have no element in common. -/
theorem slotIn_ne (j : Fin 8) {p q : Fin 4 × Fin 4} (hpq : p ≠ q) (k l) : slotIn j p k ≠ slotIn j q l := by
  intro h
  have hk : (k 1).val < 64 := (k 1).isLt
  have hl : (l 1).val < 64 := (l 1).isLt
  have e0 : p.1 = q.1 := congrFun h 0
  have e1 : 64 * p.2.val + (k 1).val = 64 * q.2.val + (l 1).val := congrArg Fin.val (congrFun h 1)
  exact hpq (Prod.ext e0 (Fin.ext (by omega)))

variable (c : Dev nD)

/-- Storing the slots of `l` leaves the column group agreeing with them and with what it agreed with before. -/
theorem wp_slots (j : Fin 8) (v : FVec F S1024x512 .bf16) (Q : PUnit → sProp 𝕄) : ∀ (l : List (Fin 4 × Fin 4)) (V : (rCol j).shape.Idx → Elt F .bf16)
    (done : List (Fin 4 × Fin 4)), (∀ p ∈ done, ∀ k, V (slotIn j p k) = slotOf j v p k) →
    holds c (mArr.access (rCol j)) V ⊢ iprop(((∃ V', ⌜∀ p, p ∈ done ∨ p ∈ l → ∀ k, V' (slotIn j p k) = slotOf j v p k⌝ ∗ holds c (mArr.access (rCol j)) V') -∗ Q ⟨⟩)
      -∗ wpc c (inOrder (slotStep j v) l) Q)
  | [], V, done, hd => by
      unfold inOrder
      simp only [Prog.pure_eq_ret, wp_ret]
      iintro H Hk
      imodintro
      iapply Hk
      iexists V
      isplitr
      · ipureintro
        rintro p (hp | hp)
        · exact hd p hp
        · exact absurd hp (List.not_mem_nil)
      iexact H
  | p :: l, V, done, hd => by
      unfold inOrder slotStep
      simp only [Prog.lift, Prog.bind_op, Prog.bind_ret]
      iintro H Hk
      iapply (wp_put_in c mArr Q (within_slot j p) V) $$ H
      iintro ⟨%V', %hV, H⟩
      iapply (wp_slots j v Q l V' (p :: done) (fun q hq k => by
        by_cases hqp : q = p
        · subst hqp; exact hV.1 k
        · rw [hV.2 _ fun k' => slotIn_ne j (Ne.symm hqp) k' k]
          rcases List.mem_cons.mp hq with h | h
          · exact absurd h hqp
          · exact hd q h k)) $$ H
      iintro ⟨%V'', %hV'', H⟩
      iapply Hk
      iexists V''
      isplitr
      · ipureintro
        rintro q (hq | hq)
        · exact hV'' q (.inl (List.mem_cons_of_mem _ hq))
        · rcases List.mem_cons.mp hq with h | h
          · exact hV'' q (.inl (List.mem_cons.mpr (.inl h)))
          · exact hV'' q (.inr h)
      iexact H

/-- The sixteen slots of a product. -/
theorem wp_product (j : Fin 8) (v : FVec F S1024x512 .bf16) (Q : PUnit → sProp 𝕄) :
    owned c (mArr.access (rCol j)) ⊢ iprop((holds c (mArr.access (rCol j)) (colOf j v) -∗ Q ⟨⟩) -∗ wpc c (inOrder (slotStep j v) slots) Q) := by
  iintro H Hk
  ihave H := (owned_holds c (mArr.access (rCol j))) $$ H
  icases H with ⟨%V, H⟩
  iapply (wp_slots c j v Q slots V [] (fun p hp => absurd hp (List.not_mem_nil))) $$ H
  iintro ⟨%V', %hV, H⟩
  rw [colOf_eq j v V' fun p hp => hV p (.inr hp)]
  iapply Hk
  iexact H

/-! ## The blocks of the ring sums, the halves of the exchange buffers -/

def blockIn (j : Fin 8) (b : Fin 4) (inb) (i : (rRaAt (blkOff j b) inb).shape.Idx) : (rRa j).shape.Idx :=
  ix3 (0 : Fin 1) (⟨64 * b.val + (i 1).val, by have : (i 1).val < 64 := (i 1).isLt; omega⟩ : Fin 256) (i 2)
def halfIn (j : Fin 8) (h : Fin 2) (i : (rRb j h).shape.Idx) : (rB1 j).shape.Idx :=
  ix3 (0 : Fin 1) (⟨64 * h.val + (i 1).val, by have : (i 1).val < 64 := (i 1).isLt; omega⟩ : Fin 128) (i 2)

theorem within_block (j : Fin 8) (b : Fin 4) (inb) : Within (rRa j) (rRaAt (blkOff j b) inb) (blockIn j b inb) := by
  intro i
  have h0 : (i 0).val < 1 := (i 0).isLt
  funext a
  match a with
  | ⟨0, _⟩ => apply Fin.ext; show j.val + 1 * 0 = j.val + 1 * (i 0).val; omega
  | ⟨1, _⟩ => apply Fin.ext; show 0 + 1 * (64 * b.val + (i 1).val) = 64 * b.val + 1 * (i 1).val; omega
  | ⟨2, _⟩ => rfl
theorem within_half (j : Fin 8) (h : Fin 2) : Within (rB1 j) (rRb j h) (halfIn j h) := by
  intro i
  have h0 : (i 0).val < 1 := (i 0).isLt
  funext a
  match a with
  | ⟨0, _⟩ => apply Fin.ext; show j.val + 1 * 0 = j.val + 1 * (i 0).val; omega
  | ⟨1, _⟩ => apply Fin.ext; show 0 + 1 * (64 * h.val + (i 1).val) = 64 * h.val + 1 * (i 1).val; omega
  | ⟨2, _⟩ => rfl

/-- Reading a block of the ring sums. -/
theorem read_block (j : Fin 8) (b : Fin 4) (inb) (v : FVec F S256x512 .bf16) :
    (fun i => shapeCast S1x256x512 v shapeCasts_S256x512_S1x256x512 (blockIn j b inb i)) = blockOf v b := by
  funext i
  exact shapeCast_ab_1ab_apply v _ _ _ _

/-- Reading a half of two blocks one below the other. -/
theorem read_half (j : Fin 8) (h : Fin 2) (a : Fin 2 → Vec F S1x64x512 .bf16) : (fun i => pairOf a (halfIn j h i)) = a h := by
  funext i
  have h1 : (i 1).val < 64 := (i 1).isLt
  have h0 : (i 0).val < 1 := (i 0).isLt
  show a ⟨(64 * h.val + (i 1).val) / 64, _⟩ (ix3 (0 : Fin 1) (⟨(64 * h.val + (i 1).val) % 64, _⟩ : Fin 64) (i 2)) = a h i
  have e1 : (⟨(64 * h.val + (i 1).val) / 64, by omega⟩ : Fin 2) = h := Fin.ext (by show _ / 64 = _; omega)
  rw [e1]
  congr 1
  funext d
  match d with
  | ⟨0, _⟩ => apply Fin.ext; show 0 = (i 0).val; omega
  | ⟨1, _⟩ => apply Fin.ext; show (64 * h.val + (i 1).val) % 64 = (i 1).val; omega
  | ⟨2, _⟩ => rfl

/-- Both halves stored, whatever was there before. -/
theorem pair_eq (j : Fin 8) (a : Fin 2 → Vec F S1x64x512 .bf16) (V V' V'' : (rB1 j).shape.Idx → Elt F .bf16)
    (h0 : Over (halfIn j 0) (a 0) V V') (h1 : Over (halfIn j 1) (a 1) V' V'') : V'' = pairOf a := by
  funext i
  have hi1 : (i 1).val < 128 := (i 1).isLt
  have hi0 : (i 0).val < 1 := (i 0).isLt
  have key : ∀ h : Fin 2, ∀ k, V'' (halfIn j h k) = a h k := by
    intro h k
    match h with
    | 0 =>
      rw [h1.2, h0.1]
      intro k' he
      have hk : (k 1).val < 64 := (k 1).isLt
      have : 64 * 1 + (k' 1).val = 64 * 0 + (k 1).val := congrArg Fin.val (congrFun he 1)
      omega
    | 1 => exact h1.1 k
  have hi : i = halfIn j ⟨(i 1).val / 64, by omega⟩ (ix3 (0 : Fin 1) (⟨(i 1).val % 64, by omega⟩ : Fin 64) (i 2)) := by
    funext d
    match d with
    | ⟨0, _⟩ => apply Fin.ext; show (i 0).val = 0; omega
    | ⟨1, _⟩ => apply Fin.ext; show (i 1).val = 64 * ((i 1).val / 64) + (i 1).val % 64; omega
    | ⟨2, _⟩ => rfl
  conv_lhs => rw [hi]
  exact key _ _

/-! ## The views transfers name -/

theorem holds_vSa (j : Fin 8) (s : Fin 2) (V : Vec F S256x512 .bf16) :
    holds c (vSa j s).view V = holds c (mSa.access (rSa j s)) (shapeCast S1x1x256x512 V shapeCasts_S256x512_S1x1x256x512) :=
  holds_reshape c (mSa.access (rSa j s)) _ V _
theorem owned_vSa (j : Fin 8) (s : Fin 2) : owned (F := F) c (vSa j s).view = owned c (mSa.access (rSa j s)) :=
  owned_reshape c (mSa.access (rSa j s)) _
theorem holds_vCa (j : Fin 8) (s : Fin 3) (V : Vec F S256x512 .bf16) :
    holds c (vCa j s).view V = holds c (mCa.access (rCa j s)) (shapeCast S1x1x256x512 V shapeCasts_S256x512_S1x1x256x512) :=
  holds_reshape c (mCa.access (rCa j s)) _ V _
theorem owned_vCa (j : Fin 8) (s : Fin 3) : owned (F := F) c (vCa j s).view = owned c (mCa.access (rCa j s)) :=
  owned_reshape c (mCa.access (rCa j s)) _

theorem castsB1 : S1x128x512.ShapeCasts S128x512 := by decide
theorem castsB1' : S128x512.ShapeCasts S1x128x512 := by decide

theorem holds_vSb1 (j : Fin 8) (V : Vec F S1x128x512 .bf16) :
    holds c (vSb1 j).view (shapeCast S128x512 V castsB1) = holds c (mSb1.access (rB1 j)) V :=
  (holds_reshape c (mSb1.access (rB1 j)) _ _ castsB1').trans (by rw [shapeCast_shapeCast])
theorem owned_vSb1 (j : Fin 8) : owned (F := F) c (vSb1 j).view = owned c (mSb1.access (rB1 j)) :=
  owned_reshape c (mSb1.access (rB1 j)) _
theorem holds_vCb1 (j : Fin 8) (V : Vec F S1x128x512 .bf16) :
    holds c (vCb1 j).view (shapeCast S128x512 V castsB1) = holds c (mCb1.access (rB1 j)) V :=
  (holds_reshape c (mCb1.access (rB1 j)) _ _ castsB1').trans (by rw [shapeCast_shapeCast])
theorem owned_vCb1 (j : Fin 8) : owned (F := F) c (vCb1 j).view = owned c (mCb1.access (rB1 j)) :=
  owned_reshape c (mCb1.access (rB1 j)) _
theorem holds_vSb2 (j : Fin 8) (V : Vec F S1x64x512 .bf16) :
    holds c (vSb2 j).view (shapeCast S64x512 V shapeCasts_S1x64x512_S64x512) = holds c (mSb2.access (rB2 j)) V :=
  (holds_reshape c (mSb2.access (rB2 j)) _ _ shapeCasts_S64x512_S1x64x512).trans (by rw [shapeCast_shapeCast])
theorem owned_vSb2 (j : Fin 8) : owned (F := F) c (vSb2 j).view = owned c (mSb2.access (rB2 j)) :=
  owned_reshape c (mSb2.access (rB2 j)) _
theorem holds_vCb2 (j : Fin 8) (V : Vec F S1x64x512 .bf16) :
    holds c (vCb2 j).view (shapeCast S64x512 V shapeCasts_S1x64x512_S64x512) = holds c (mCb2.access (rB2 j)) V :=
  (holds_reshape c (mCb2.access (rB2 j)) _ _ shapeCasts_S64x512_S1x64x512).trans (by rw [shapeCast_shapeCast])
theorem owned_vCb2 (j : Fin 8) : owned (F := F) c (vCb2 j).view = owned c (mCb2.access (rB2 j)) :=
  owned_reshape c (mCb2.access (rB2 j)) _

end Cert.Proof

end
-- ==== Proof.Steps.lean ====
/-
The steps of one column group, each from what it needs to what it leaves, for any column group.
-/
module

public import proofs.«01_k».proof.Proof.Moves
public import proofs.«01_k».proof.Proof.Regions

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)
variable (K : Dev nD × Ck → ℕ) (c : Dev nD)

abbrev rFull : Rect S1024x4096 := Rect.unit (s := S1024x4096) ![0, 0] S1024x4096.size (by decide)
theorem within_dy (j : Fin 8) : Within rFull (rDy j) (rDy j).idx := by
  intro i
  funext a
  match a with
  | ⟨0, _⟩ => apply Fin.ext; show 0 + 1 * (0 + 1 * (i 0).val) = 0 + 1 * (i 0).val; omega
  | ⟨1, _⟩ => apply Fin.ext; show 0 + 1 * (512 * j.val + 1 * (i 1).val) = 512 * j.val + 1 * (i 1).val; omega

/-! ## Pieces of the steps -/

theorem wpc_ret {α : Type} (a : α) (Q : α → sProp 𝕄) : Q a ⊢ wpc c (.ret a) Q := by
  iintro H
  iapply (Entails.of_eq (wp_ret frame (wpE (defs₀ (F := F)) 𝒱₀ (c : Thread nD τ) none) Set.univ a Q).symm)
  imodintro
  iexact H

/-- Filling a ring send slot. -/
theorem wp_putSa (j : Fin 8) (s : Fin 2) (v : FVec F S256x512 .bf16) (Q : PUnit → sProp 𝕄) :
    owned c (vSa j s).view ⊢ iprop((holds c (vSa j s).view v -∗ Q ⟨⟩) -∗ wpc c (putSa j s v) Q) := by
  rw [owned_vSa, holds_vSa]
  unfold putSa
  simp only [Prog.lift, Prog.bind_op, Prog.bind_ret]
  iintro H Hk
  iapply (wp_put c mSa Q) $$ H
  iintro H
  iapply (wpc_ret c _ Q)
  iapply Hk; iexact H

/-- Waiting for a ring hop and adding the own part. -/
theorem wp_recvSa (j : Fin 8) (s' : Fin 2) (s : Fin 3) (st : Fin 5) (V : FVec F S256x512 .bf16) (u : Fin 4)
    (hsem : recvSem (j, st) = sCa j s) (hl : landed X Y c (j, st) = holds c (vCa j s).view V) (ha : amtR st = NA)
    (off : Fin 3 → Nat) (inb) (ho : off = arrOff j u)
    (R : Finset Xf) (hR : ∀ i' ∈ R, rlev (j, st) < rlev i') (W : Waits sig Unit) (Q : FVec F S256x512 .bf16 → sProp 𝕄) :
    iprop(records X Y K ∗ recvKit c (j, st) ∗ holds c (mArr.access (rCol j)) (colOf j (own X Y c j)) ∗ owes (c : Thread nD τ) (owedFor c R) W)
      ⊢ iprop((recvDone c (j, st) ∗ landed X Y c (j, st) ∗ holds c (mArr.access (rCol j)) (colOf j (own X Y c j))
            ∗ (∃ W, owes (c : Thread nD τ) (owedFor c R) W) -∗ Q (addf V (shapeCast S256x512 (part j (own X Y c j) u) shapeCasts_S1x256x512_S256x512)))
          -∗ wpc c (recvSa j s' s off inb) Q) := by
  subst ho
  unfold recvSa
  simp only [Prog.lift, Prog.bind_op, Prog.bind_ret]
  iintro ⟨#HR, Hkit, Ha, HO⟩ Hk
  iapply (wp_recv X Y K c Q (j, st) hsem.symm (dst := vCa j s) ha.symm R hR W) $$ [Hkit HO]
  · isplitr; · iexact HR
    isplitl [Hkit] <;> iassumption
  iintro ⟨Hd, Hl, HO⟩
  ihave Hl := (Entails.of_eq (hl.trans (holds_vCa c j s V))) $$ Hl
  iapply (wp_load_all c mCa Q _) $$ Hl
  iintro Hl
  iapply (wp_load_in c mArr Q (within_rows j u inb) _) $$ Ha
  iintro Ha
  rw [colOf_rows, shapeCast_shapeCast]
  simp only [Prog.pure_eq_ret]
  iapply (wpc_ret c _ Q)
  iapply Hk
  isplitl [Hd]; · iexact Hd
  isplitl [Hl]; · iapply (Entails.of_eq (hl.trans (holds_vCa c j s V)).symm) $$ Hl
  isplitl [Ha]; · iexact Ha
  iexists _; iexact HO

/-- Sending a ring slot. -/
theorem wp_sendSa (j : Fin 8) (s : Fin 2) (s' : Fin 3) (st : Fin 5) (k : Fin 4) (r : ℕ) (n : Dev nD) (hn : n = tgt (j, st) c)
    (V : FVec F S256x512 .bf16) (hsem : recvSem (j, st) = sCa j s') (hsem' : sendSem (j, k) = sSa j s)
    (hr : (rd X Y).duties (sendCell c (j, k)) r = {0}) (hak : amtS k = NA) (ha : amtR st = NA)
    (hs : ∀ c, sendSlot (F := F) c (j, k) = owned c (vSa j s).view) (hl : ∀ c, landing (F := F) c (j, st) = owned c (vCa j s').view)
    (hL : landed X Y (tgt (j, st) c) (j, st) = holds (tgt (j, st) c) (vCa j s').view V)
    (R : Finset Xf) (hi : (j, st) ∈ R) (W : Waits sig Unit) (Q : PUnit → sProp 𝕄) :
    iprop(records X Y K ∗ reached ER (sendCell c (j, k)) r ∗ holds c (vSa j s).view V ∗ sendKit c (j, st) (j, k) r ∗ owes (c : Thread nD τ) (owedFor c R) W)
      ⊢ iprop((sendCred c (j, k) ∗ owes (c : Thread nD τ) (owedFor c (R.erase (j, st))) W -∗ Q ⟨⟩) -∗ wpc c (sendSa j s s' n) Q) := by
  unfold sendSa
  simp only [Prog.lift, Prog.bind_op, Prog.bind_ret]
  iintro H Hk
  iapply (wp_send X Y K c Q (j, st) (j, k) r n hn hsem.symm hsem'.symm (src := vSa j s) (dst := vCa j s') (V := V) ha.symm (hak.trans ha.symm) hr (hs c) (hl _) hL R hi W) $$ H
  iintro H
  iapply (wpc_ret c _ Q)
  iapply Hk; iexact H

/-- Filling a half of the first exchange's send slot. -/
theorem wp_putSb1 (j : Fin 8) (h : Fin 2) (b : Fin 4) (off : Fin 3 → Nat) (inb) (ho : off = blkOff j b) (v : FVec F S256x512 .bf16)
    (V : (rB1 j).shape.Idx → Elt F .bf16) (Q : PUnit → sProp 𝕄) :
    iprop(holds c (mRa.access (rRa j)) (shapeCast S1x256x512 v shapeCasts_S256x512_S1x256x512) ∗ holds c (mSb1.access (rB1 j)) V)
      ⊢ iprop((holds c (mRa.access (rRa j)) (shapeCast S1x256x512 v shapeCasts_S256x512_S1x256x512)
            ∗ (∃ V', ⌜Over (halfIn j h) (blockOf v b) V V'⌝ ∗ holds c (mSb1.access (rB1 j)) V') -∗ Q ⟨⟩)
          -∗ wpc c (putSb1 j h off inb) Q) := by
  subst ho
  unfold putSb1
  simp only [Prog.lift, Prog.bind_op, Prog.bind_ret]
  iintro ⟨Ha, Hs⟩ Hk
  iapply (wp_load_in c mRa Q (within_block j b inb) _) $$ Ha
  iintro Ha
  rw [read_block, shapeCast_shapeCast]
  iapply (wp_put_in c mSb1 Q (within_half j h) V) $$ Hs
  iintro Hs
  iapply (wpc_ret c _ Q)
  iapply Hk
  isplitl [Ha] <;> iassumption

/-- Folding in a half of the first exchange. -/
theorem wp_foldHalf (j : Fin 8) (h : Fin 2) (b : Fin 4) (off : Fin 3 → Nat) (inb) (ho : off = blkOff j b) (v : FVec F S256x512 .bf16)
    (a : Fin 2 → Vec F S1x64x512 .bf16) (V : (rB1 j).shape.Idx → Elt F .bf16) (Q : PUnit → sProp 𝕄) :
    iprop(holds c (mRa.access (rRa j)) (shapeCast S1x256x512 v shapeCasts_S256x512_S1x256x512) ∗ holds c (mCb1.access (rB1 j)) (pairOf a)
        ∗ holds c (mRb.access (rB1 j)) V)
      ⊢ iprop((holds c (mRa.access (rRa j)) (shapeCast S1x256x512 v shapeCasts_S256x512_S1x256x512) ∗ holds c (mCb1.access (rB1 j)) (pairOf a)
            ∗ (∃ V', ⌜Over (halfIn j h) (shapeCast S1x64x512 (addf (shapeCast S64x512 (a h) shapeCasts_S1x64x512_S64x512)
                (shapeCast S64x512 (blockOf v b) shapeCasts_S1x64x512_S64x512) : FVec F S64x512 .bf16) shapeCasts_S64x512_S1x64x512) V V'⌝ ∗ holds c (mRb.access (rB1 j)) V') -∗ Q ⟨⟩)
          -∗ wpc c (foldHalf j h off inb) Q) := by
  subst ho
  unfold foldHalf
  simp only [Prog.lift, Prog.bind_op, Prog.bind_ret]
  iintro ⟨Ha, Hc, Hs⟩ Hk
  iapply (wp_load_in c mCb1 Q (within_half j h) _) $$ Hc
  iintro Hc
  rw [read_half]
  iapply (wp_load_in c mRa Q (within_block j b inb) _) $$ Ha
  iintro Ha
  rw [read_block]
  iapply (wp_put_in c mRb Q (within_half j h) V) $$ Hs
  iintro Hs
  iapply (wpc_ret c _ Q)
  iapply Hk
  isplitl [Ha]; · iexact Ha
  isplitl [Hc] <;> iassumption

end Cert.Proof

end
-- ==== Proof.Columns.lean ====
/-
A column group's seven steps. `Need n` is what step `n` takes that no earlier step has touched, `Live n` what
the column group has before step `n` beside that; each step's rule takes `Live n` and `Need n` to `Live (n+1)`.
-/
module

public import proofs.«01_k».proof.Proof.Steps

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)
variable (K : Dev nD × Ck → ℕ) (c : Dev nD) (a2 : Memref sig .tc .vmem S64x4096 .f32) (j : Fin 8)

theorem wpc_bind {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := Entails.of_eq (by simp only [wpc, wp_bind])

/-! ## The states -/

def Need0 : sProp 𝕄 := iprop(owned c (mArr.access (rCol j)) ∗ owned c (vSa j 0).view ∗ sendKit c (j, 0) (j, 0) 0)
def Need1 : sProp 𝕄 := iprop(recvKit c (j, 0) ∗ owned c (vSa j 1).view ∗ sendKit c (j, 1) (j, 1) 0)
def Need2 : sProp 𝕄 := iprop(recvKit c (j, 1) ∗ sendPos c (j, 0) 0 ∗ sendKit c (j, 2) (j, 0) 1)
def Need3 : sProp 𝕄 := iprop(recvKit c (j, 2) ∗ owned c (mRa.access (rRa j)) ∗ owned c (vSb1 j).view ∗ sendKit c (j, 3) (j, 2) 0)
def Need4 : sProp 𝕄 := iprop(recvKit c (j, 3) ∗ owned c (mRb.access (rB1 j)) ∗ owned c (vSb2 j).view ∗ sendKit c (j, 4) (j, 3) 0)
def Need5 : sProp 𝕄 := iprop(recvKit c (j, 4) ∗ owned c (a2.access (rOut j)))
def Need6 : sProp 𝕄 := iprop(sendPos c (j, 1) 0 ∗ sendPos c (j, 2) 0 ∗ sendPos c (j, 3) 0)

/-- A landing cell waited for, and its slot. -/
def Done (st : Fin 5) : sProp 𝕄 := iprop(recvDone c (j, st) ∗ landed X Y c (j, st))
/-- The column group of the device's own product. -/
def ArrIs : sProp 𝕄 := holds c (mArr.access (rCol j)) (colOf j (own X Y c j))
/-- The ring sums. -/
def RaIs : sProp 𝕄 := holds c (mRa.access (rRa j)) (shapeCast S1x256x512 (ring X Y j 3 c) shapeCasts_S256x512_S1x256x512)
/-- The sums after the first exchange. -/
def RbIs : sProp 𝕄 := holds c (mRb.access (rB1 j)) (pairOf (fold1 X Y c j))

def Live1 : sProp 𝕄 := iprop(ArrIs X Y c j ∗ sendCred c (j, 0))
def Live2 : sProp 𝕄 := iprop(Done X Y c j 0 ∗ sendCred c (j, 1) ∗ Live1 X Y c j)
def Live3 : sProp 𝕄 := iprop(Done X Y c j 1 ∗ sendPos c (j, 0) 1 ∗ Live2 X Y c j)
def Live4 : sProp 𝕄 := iprop(Done X Y c j 2 ∗ RaIs X Y c j ∗ sendCred c (j, 2) ∗ Live3 X Y c j)
def Live5 : sProp 𝕄 := iprop(Done X Y c j 3 ∗ RbIs X Y c j ∗ sendCred c (j, 3) ∗ Live4 X Y c j)
def Live6 : sProp 𝕄 := iprop(Done X Y c j 4 ∗ holds c (a2.access (rOut j)) (resultCol X Y c j) ∗ Live5 X Y c j)
/-- The end: the landing cells waited for, the send cells at their last round, every slot back, the result. -/
def Live7 : sProp 𝕄 :=
  iprop((Done X Y c j 0 ∗ Done X Y c j 1 ∗ Done X Y c j 2 ∗ Done X Y c j 3 ∗ Done X Y c j 4)
    ∗ (sendPos c (j, 0) 2 ∗ sendPos c (j, 1) 1 ∗ sendPos c (j, 2) 1 ∗ sendPos c (j, 3) 1)
    ∗ (sendSlot c (j, 0) ∗ sendSlot c (j, 1) ∗ sendSlot c (j, 2) ∗ sendSlot c (j, 3))
    ∗ ArrIs X Y c j ∗ RaIs X Y c j ∗ RbIs X Y c j ∗ holds c (a2.access (rOut j)) (resultCol X Y c j))

/-! ## What each transfer lands -/

theorem landed_hop (s : Fin 3) : landed X Y (tgt (j, Fin.castLE (by decide) s) c) (j, Fin.castLE (by decide) s)
    = holds (tgt (j, Fin.castLE (by decide) s) c) (vCa j s).view (ring X Y j s.val c) := by
  have e : ∀ st : Fin 5, st.val < 3 → src (j, 0) (tgt (j, st) c) = c := by
    intro st hst
    have : src (j, 0) (tgt (j, st) c) = src (j, st) (tgt (j, st) c) := by
      unfold src; rw [if_pos (show (0 : Fin 5).val < 3 by decide), if_pos hst]
    rw [this, src_tgt]
  match s with
  | 0 => show holds (tgt (j, 0) c) (vCa j 0).view (ring X Y j 0 (src (j, 0) (tgt (j, 0) c))) = _; rw [e 0 (by decide)]; rfl
  | 1 => show holds (tgt (j, 1) c) (vCa j 1).view (ring X Y j 1 (src (j, 0) (tgt (j, 1) c))) = _; rw [e 1 (by decide)]; rfl
  | 2 => show holds (tgt (j, 2) c) (vCa j 2).view (ring X Y j 2 (src (j, 0) (tgt (j, 2) c))) = _; rw [e 2 (by decide)]; rfl

theorem landed_first : landed X Y (tgt (j, 3) c) (j, 3)
    = holds (tgt (j, 3) c) (vCb1 j).view (shapeCast S128x512 (pairOf fun h => blockOf (ring X Y j 3 c) (sendBlk j c h)) castsB1) := by
  show holds (tgt (j, 3) c) (vCb1 j).view (shapeCast S128x512 (pairOf fun h => blockOf (ring X Y j 3 (src (j, 3) (tgt (j, 3) c))) (sendBlk j (src (j, 3) (tgt (j, 3) c)) h)) castsB1) = _
  rw [src_tgt]

theorem landed_second : landed X Y (tgt (j, 4) c) (j, 4)
    = holds (tgt (j, 4) c) (vCb2 j).view (shapeCast S64x512 (fold1 X Y c j (sendHalf c)) shapeCasts_S1x64x512_S64x512) := by
  show holds (tgt (j, 4) c) (vCb2 j).view (shapeCast S64x512 (fold1 X Y (src (j, 4) (tgt (j, 4) c)) j (sendHalf (src (j, 4) (tgt (j, 4) c)))) shapeCasts_S1x64x512_S64x512) = _
  rw [src_tgt]

theorem sendSlot_zero : sendSlot (F := F) c (j, 0) = owned c (vSa j 0).view := rfl

/-! ## The steps -/

theorem wp_load_dy (a1 : Memref sig .tc .vmem S1024x4096 .bf16) {α : Type} (Q : α → sProp 𝕄) {hl}
    {k : Vec F S1024x512 .bf16 → Prog (TpuEff nD τ sig (Elt F) Λ₀ .tc) α} :
    holds c (a1.access rFull) (Y c) ⊢ iprop((holds c (a1.access rFull) (Y c) -∗ wpc c (k (dyCol j (Y c))) Q)
      -∗ wpc c (.op (.load a1 (rDy j).toLoadRect hl) k) Q) :=
  wp_load_in c a1 Q (within_dy j) (Y c)

theorem wp_gemmStep (a1 : Memref sig .tc .vmem S1024x4096 .bf16) (off : Fin 3 → Nat) (inb) (ho : off = arrOff j (sidx j c 0)) (n : Dev nD) (hn : n = tgt (j, 0) c)
    (R : Finset Xf) (hi : (j, 0) ∈ R) (W : Waits sig Unit) (Q : PUnit → sProp 𝕄) :
    iprop(records X Y K ∗ Need0 c j ∗ (holds c (mXb.access rXb) (X c) ∗ holds c (a1.access rFull) (Y c)) ∗ owes (c : Thread nD τ) (owedFor c R) W)
      ⊢ iprop((Live1 X Y c j ∗ (holds c (mXb.access rXb) (X c) ∗ holds c (a1.access rFull) (Y c))
            ∗ (∃ W, owes (c : Thread nD τ) (owedFor c (R.erase (j, 0))) W) -∗ Q ⟨⟩)
          -∗ wpc c (gemmStep a1 j off inb n) Q) := by
  subst ho
  unfold gemmStep Need0
  simp only [Prog.lift, Prog.bind_op, Prog.bind_ret]
  iintro ⟨#HR, ⟨Ha, Hs, Hkit⟩, ⟨Hx, Hy⟩, HO⟩ Hk
  iapply (wp_load_all c mXb Q _) $$ Hx
  iintro Hx
  iapply (wp_load_dy Y c j a1 Q) $$ Hy
  iintro Hy
  rw [show prodOf (X c) (dyCol j (Y c)) = own X Y c j from rfl]
  iapply (wpc_bind c _ _ _)
  iapply (wp_product c j (own X Y c j) _) $$ Ha
  iintro Ha
  iapply (wp_load_in c mArr Q (within_rows j (sidx j c 0) inb) _) $$ Ha
  iintro Ha
  rw [colOf_rows]
  iapply (wpc_bind c _ _ _)
  iapply (wp_putSa c j 0 _ _) $$ Hs
  iintro Hs
  iapply (wp_sendSa X Y K c j 0 0 0 0 0 n hn (partOf X Y c j 0) rfl rfl (duties_send X Y c (j, 0)) rfl rfl (fun _ => rfl) (fun _ => rfl)
    (landed_hop X Y c j 0) R hi W Q) $$ [Hs Hkit HO]
  · isplitr; · iexact HR
    isplitr; · iapply (rec_reached X Y K (c, some (.inr (j, 0)))); iexact HR
    isplitl [Hs]; · iexact Hs
    isplitl [Hkit] <;> iassumption
  iintro ⟨Hc, HO⟩
  iapply Hk
  unfold Live1 ArrIs
  isplitl [Ha Hc]; · isplitl [Ha] <;> iassumption
  isplitl [Hx Hy]; · isplitl [Hx] <;> iassumption
  iexists _; iexact HO

theorem wp_hop0Step (off : Fin 3 → Nat) (inb) (ho : off = arrOff j (sidx j c 1)) (n : Dev nD) (hn : n = tgt (j, 1) c)
    (R : Finset Xf) (hi : (j, 1) ∈ R) (hR : ∀ i' ∈ R, rlev (j, 0) < rlev i') (W : Waits sig Unit) (Q : PUnit → sProp 𝕄) :
    iprop(records X Y K ∗ Need1 c j ∗ Live1 X Y c j ∗ owes (c : Thread nD τ) (owedFor c R) W)
      ⊢ iprop((Live2 X Y c j ∗ (∃ W, owes (c : Thread nD τ) (owedFor c (R.erase (j, 1))) W) -∗ Q ⟨⟩)
          -∗ wpc c (hop0Step j off inb n) Q) := by
  unfold hop0Step Need1 Live2 Live1 ArrIs Done
  iintro ⟨#HR, ⟨Hr, Hs, Hkit⟩, ⟨Ha, Hc⟩, HO⟩ Hk
  iapply (wpc_bind c _ _ _)
  iapply (wp_recvSa X Y K c j 0 0 0 (ring X Y j 0 (src (j, 0) c)) (sidx j c 1) rfl rfl rfl off inb ho R hR W _) $$ [Hr Ha HO]
  · isplitr; · iexact HR
    isplitl [Hr]; · iexact Hr
    isplitl [Ha] <;> iassumption
  iintro ⟨Hd, Hl, Ha, ⟨%W', HO⟩⟩
  iapply (wpc_bind c _ _ _)
  iapply (wp_putSa c j 1 _ _) $$ Hs
  iintro Hs
  iapply (wp_sendSa X Y K c j 1 1 1 1 0 n hn (ring X Y j 1 c) rfl rfl (duties_send X Y c (j, 1)) rfl rfl (fun _ => rfl) (fun _ => rfl)
    (landed_hop X Y c j 1) R hi W' Q) $$ [Hs Hkit HO]
  · isplitr; · iexact HR
    isplitr; · iapply (rec_reached X Y K (c, some (.inr (j, 1)))); iexact HR
    isplitl [Hs]; · iexact Hs
    isplitl [Hkit] <;> iassumption
  iintro ⟨Hc1, HO⟩
  iapply Hk
  isplitr [HO]
  · isplitl [Hd Hl]; · isplitl [Hd] <;> iassumption
    isplitl [Hc1]; · iexact Hc1
    isplitl [Ha] <;> iassumption
  iexists _; iexact HO

theorem wp_hop1Step (off : Fin 3 → Nat) (inb) (ho : off = arrOff j (sidx j c 2)) (n : Dev nD) (hn : n = tgt (j, 2) c)
    (R : Finset Xf) (hi : (j, 2) ∈ R) (hR : ∀ i' ∈ R, rlev (j, 1) < rlev i') (W : Waits sig Unit) (Q : PUnit → sProp 𝕄) :
    iprop(records X Y K ∗ Need2 c j ∗ Live2 X Y c j ∗ owes (c : Thread nD τ) (owedFor c R) W)
      ⊢ iprop((Live3 X Y c j ∗ (∃ W, owes (c : Thread nD τ) (owedFor c (R.erase (j, 2))) W) -∗ Q ⟨⟩)
          -∗ wpc c (hop1Step j off inb n) Q) := by
  unfold hop1Step Need2 Live3 Live2 Live1 ArrIs Done
  iintro ⟨#HR, ⟨Hr, Hp, Hkit⟩, ⟨Hd0, Hc1, Ha, Hc⟩, HO⟩ Hk
  iapply (wpc_bind c _ _ _)
  iapply (wp_recvSa X Y K c j 1 1 1 (ring X Y j 1 (src (j, 0) c)) (sidx j c 2) rfl rfl rfl off inb ho R hR W _) $$ [Hr Ha HO]
  · isplitr; · iexact HR
    isplitl [Hr]; · iexact Hr
    isplitl [Ha] <;> iassumption
  iintro ⟨Hd, Hl, Ha, ⟨%W', HO⟩⟩
  simp only [Prog.lift, Prog.bind_op, Prog.bind_ret]
  iapply (wp_free X Y K c Q (j, 0) 0 rfl (dst := vSa j 0) (creditSa j 0) (duties_send X Y c (j, 0)) R W') $$ [Hc Hp HO]
  · isplitr; · iexact HR
    isplitl [Hc]; · iexact Hc
    isplitl [Hp] <;> iassumption
  iintro ⟨Hp, #Hre, Hs, HO⟩
  ihave Hs := (Entails.of_eq (sendSlot_zero c j)) $$ Hs
  iapply (wpc_bind c _ _ _)
  iapply (wp_putSa c j 0 _ _) $$ Hs
  iintro Hs
  iapply (wp_sendSa X Y K c j 0 2 2 0 1 n hn (ring X Y j 2 c) rfl rfl (duties_send1 X Y c j) rfl rfl (fun _ => rfl) (fun _ => rfl)
    (landed_hop X Y c j 2) R hi _ Q) $$ [Hs Hkit HO]
  · isplitr; · iexact HR
    isplitr; · iexact Hre
    isplitl [Hs]; · iexact Hs
    isplitl [Hkit] <;> iassumption
  iintro ⟨Hc, HO⟩
  iapply Hk
  isplitr [HO]
  · isplitl [Hd Hl]; · isplitl [Hd] <;> iassumption
    isplitl [Hp]; · iexact Hp
    isplitl [Hd0]; · iexact Hd0
    isplitl [Hc1]; · iexact Hc1
    isplitl [Ha] <;> iassumption
  iexists _; iexact HO

theorem wp_hop2Step (off : Fin 3 → Nat) (inb) (ho : off = arrOff j (sidx j c 3)) (o0 : Fin 3 → Nat) (i0) (ho0 : o0 = blkOff j (sendBlk j c 0))
    (o1 : Fin 3 → Nat) (i1) (ho1 : o1 = blkOff j (sendBlk j c 1)) (n : Dev nD) (hn : n = tgt (j, 3) c)
    (R : Finset Xf) (hi : (j, 3) ∈ R) (hR : ∀ i' ∈ R, rlev (j, 2) < rlev i') (W : Waits sig Unit) (Q : PUnit → sProp 𝕄) :
    iprop(records X Y K ∗ Need3 c j ∗ Live3 X Y c j ∗ owes (c : Thread nD τ) (owedFor c R) W)
      ⊢ iprop((Live4 X Y c j ∗ (∃ W, owes (c : Thread nD τ) (owedFor c (R.erase (j, 3))) W) -∗ Q ⟨⟩)
          -∗ wpc c (hop2Step j off inb o0 i0 o1 i1 n) Q) := by
  unfold hop2Step Need3 Live4 Live3 Live2 Live1 ArrIs RaIs Done
  iintro ⟨#HR, ⟨Hr, Hra, Hs, Hkit⟩, ⟨Hd1, Hp, Hd0, Hc1, Ha, Hc⟩, HO⟩ Hk
  iapply (wpc_bind c _ _ _)
  iapply (wp_recvSa X Y K c j 0 2 2 (ring X Y j 2 (src (j, 0) c)) (sidx j c 3) rfl rfl rfl off inb ho R hR W _) $$ [Hr Ha HO]
  · isplitr; · iexact HR
    isplitl [Hr]; · iexact Hr
    isplitl [Ha] <;> iassumption
  iintro ⟨Hd, Hl, Ha, ⟨%W', HO⟩⟩
  simp only [Prog.lift, Prog.bind_op, Prog.bind_ret]
  rw [show addf (ring X Y j 2 (src (j, 0) c)) (shapeCast S256x512 (part j (own X Y c j) (sidx j c 3)) shapeCasts_S1x256x512_S256x512)
    = ring X Y j 3 c from rfl]
  iapply (wp_put c mRa Q) $$ Hra
  iintro Hra
  ihave Hs := (Entails.of_eq (owned_vSb1 c j)) $$ Hs
  ihave Hs := (owned_holds c (mSb1.access (rB1 j))) $$ Hs
  icases Hs with ⟨%V, Hs⟩
  iapply (wpc_bind c _ _ _)
  iapply (wp_putSb1 c j 0 (sendBlk j c 0) o0 i0 ho0 (ring X Y j 3 c) V _) $$ [Hra Hs]
  · isplitl [Hra] <;> iassumption
  iintro ⟨Hra, ⟨%V', %h0, Hs⟩⟩
  iapply (wpc_bind c _ _ _)
  iapply (wp_putSb1 c j 1 (sendBlk j c 1) o1 i1 ho1 (ring X Y j 3 c) V' _) $$ [Hra Hs]
  · isplitl [Hra] <;> iassumption
  iintro ⟨Hra, ⟨%V'', %h1, Hs⟩⟩
  obtain rfl := pair_eq j (fun h => blockOf (ring X Y j 3 c) (sendBlk j c h)) V V' V'' h0 h1
  ihave Hs := (Entails.of_eq (holds_vSb1 c j _).symm) $$ Hs
  iapply (wp_send X Y K c Q (j, 3) (j, 2) 0 n hn rfl rfl (src := vSb1 j) (dst := vCb1 j)
    (V := shapeCast S128x512 (pairOf fun h => blockOf (ring X Y j 3 c) (sendBlk j c h)) castsB1)
    (creditCb1 j) rfl (duties_send X Y c (j, 2)) rfl rfl (landed_first X Y c j) R hi W') $$ [Hs Hkit HO]
  · isplitr; · iexact HR
    isplitr; · iapply (rec_reached X Y K (c, some (.inr (j, 2)))); iexact HR
    isplitl [Hs]; · iexact Hs
    isplitl [Hkit] <;> iassumption
  iintro ⟨Hc2, HO⟩
  iapply (wpc_ret c _ Q)
  iapply Hk
  isplitr [HO]
  · isplitl [Hd Hl]; · isplitl [Hd] <;> iassumption
    isplitl [Hra]; · iexact Hra
    isplitl [Hc2]; · iexact Hc2
    isplitl [Hd1]; · iexact Hd1
    isplitl [Hp]; · iexact Hp
    isplitl [Hd0]; · iexact Hd0
    isplitl [Hc1]; · iexact Hc1
    isplitl [Ha] <;> iassumption
  iexists _; iexact HO

theorem wp_foldStep (o0 : Fin 3 → Nat) (i0) (ho0 : o0 = blkOff j (keepBlk j c 0))
    (o1 : Fin 3 → Nat) (i1) (ho1 : o1 = blkOff j (keepBlk j c 1)) (o2 : Fin 3 → Nat) (i2) (ho2 : o2 = halfOff j (sendHalf c))
    (n : Dev nD) (hn : n = tgt (j, 4) c)
    (R : Finset Xf) (hi : (j, 4) ∈ R) (hR : ∀ i' ∈ R, rlev (j, 3) < rlev i') (W : Waits sig Unit) (Q : PUnit → sProp 𝕄) :
    iprop(records X Y K ∗ Need4 c j ∗ Live4 X Y c j ∗ owes (c : Thread nD τ) (owedFor c R) W)
      ⊢ iprop((Live5 X Y c j ∗ (∃ W, owes (c : Thread nD τ) (owedFor c (R.erase (j, 4))) W) -∗ Q ⟨⟩)
          -∗ wpc c (foldStep j o0 i0 o1 i1 o2 i2 n) Q) := by
  subst ho2
  unfold foldStep Need4 Live5 Live4 RaIs RbIs Done
  simp only [Prog.lift, Prog.bind_op, Prog.bind_ret]
  iintro ⟨#HR, ⟨Hr, Hrb, Hs, Hkit⟩, ⟨Hd2, Hra, HL⟩, HO⟩ Hk
  iapply (wp_recv X Y K c Q (j, 3) rfl (dst := vCb1 j) (creditCb1 j) R hR W) $$ [Hr HO]
  · isplitr; · iexact HR
    isplitl [Hr] <;> iassumption
  iintro ⟨Hd, Hl, HO⟩
  ihave Hl := (Entails.of_eq ((rfl : landed X Y c (j, 3) = holds c (vCb1 j).view (shapeCast S128x512 (pairOf (cross1 X Y c j)) castsB1)).trans (holds_vCb1 c j _))) $$ Hl
  ihave Hrb := (owned_holds c (mRb.access (rB1 j))) $$ Hrb
  icases Hrb with ⟨%V, Hrb⟩
  iapply (wpc_bind c _ _ _)
  iapply (wp_foldHalf c j 0 (keepBlk j c 0) o0 i0 ho0 (ring X Y j 3 c) (cross1 X Y c j) V _) $$ [Hra Hl Hrb]
  · isplitl [Hra]; · iexact Hra
    isplitl [Hl] <;> iassumption
  iintro ⟨Hra, Hl, ⟨%V', %h0, Hrb⟩⟩
  iapply (wpc_bind c _ _ _)
  iapply (wp_foldHalf c j 1 (keepBlk j c 1) o1 i1 ho1 (ring X Y j 3 c) (cross1 X Y c j) V' _) $$ [Hra Hl Hrb]
  · isplitl [Hra]; · iexact Hra
    isplitl [Hl] <;> iassumption
  iintro ⟨Hra, Hl, ⟨%V'', %h1, Hrb⟩⟩
  obtain rfl := pair_eq j (fold1 X Y c j) V V' V'' h0 h1
  iapply (wp_load_in c mRb Q (within_half j (sendHalf c)) _) $$ Hrb
  iintro Hrb
  rw [read_half, shapeCast_shapeCast]
  ihave Hs := (Entails.of_eq (owned_vSb2 c j)) $$ Hs
  iapply (wp_put c mSb2 Q) $$ Hs
  iintro Hs
  ihave Hs := (Entails.of_eq (holds_vSb2 c j _).symm) $$ Hs
  iapply (wp_send X Y K c Q (j, 4) (j, 3) 0 n hn rfl rfl (src := vSb2 j) (dst := vCb2 j)
    (V := shapeCast S64x512 (fold1 X Y c j (sendHalf c)) shapeCasts_S1x64x512_S64x512)
    (creditCb2 j) rfl (duties_send X Y c (j, 3)) rfl rfl (landed_second X Y c j) R hi _) $$ [Hs Hkit HO]
  · isplitr; · iexact HR
    isplitr; · iapply (rec_reached X Y K (c, some (.inr (j, 3)))); iexact HR
    isplitl [Hs]; · iexact Hs
    isplitl [Hkit] <;> iassumption
  iintro ⟨Hc3, HO⟩
  iapply (wpc_ret c _ Q)
  iapply Hk
  isplitr [HO]
  · isplitl [Hd Hl]
    · isplitl [Hd]; · iexact Hd
      iapply (Entails.of_eq ((rfl : landed X Y c (j, 3) = holds c (vCb1 j).view (shapeCast S128x512 (pairOf (cross1 X Y c j)) castsB1)).trans (holds_vCb1 c j _)).symm) $$ Hl
    isplitl [Hrb]; · iexact Hrb
    isplitl [Hc3]; · iexact Hc3
    isplitl [Hd2]; · iexact Hd2
    isplitl [Hra] <;> iassumption
  iexists _; iexact HO

theorem wp_lastStep (h2 : a2.IsWhole) (off : Fin 3 → Nat) (inb) (ho : off = halfOff j (high c))
    (R : Finset Xf) (hR : ∀ i' ∈ R, rlev (j, 4) < rlev i') (W : Waits sig Unit) (Q : PUnit → sProp 𝕄) :
    iprop(records X Y K ∗ Need5 c a2 j ∗ Live5 X Y c j ∗ owes (c : Thread nD τ) (owedFor c R) W)
      ⊢ iprop((Live6 X Y c a2 j ∗ (∃ W, owes (c : Thread nD τ) (owedFor c R) W) -∗ Q ⟨⟩)
          -∗ wpc c (lastStep a2 h2 j off inb) Q) := by
  subst ho
  unfold lastStep Need5 Live6 Live5 RbIs Done
  simp only [Prog.lift, Prog.bind_op, Prog.bind_ret]
  iintro ⟨#HR, ⟨Hr, Ho⟩, ⟨Hd3, Hrb, HL⟩, HO⟩ Hk
  iapply (wp_recv X Y K c Q (j, 4) rfl (dst := vCb2 j) (creditCb2 j) R hR W) $$ [Hr HO]
  · isplitr; · iexact HR
    isplitl [Hr] <;> iassumption
  iintro ⟨Hd, Hl, HO⟩
  ihave Hl := (Entails.of_eq ((rfl : landed X Y c (j, 4) = holds c (vCb2 j).view (shapeCast S64x512 (cross2 X Y c j) shapeCasts_S1x64x512_S64x512)).trans (holds_vCb2 c j _))) $$ Hl
  iapply (wp_load_all c mCb2 Q _) $$ Hl
  iintro Hl
  iapply (wp_load_in c mRb Q (within_half j (high c)) _) $$ Hrb
  iintro Hrb
  rw [read_half]
  iapply (wp_put c a2 Q) $$ Ho
  iintro Ho
  iapply (wpc_ret c _ Q)
  iapply Hk
  isplitr [HO]
  · isplitl [Hd Hl]
    · isplitl [Hd]; · iexact Hd
      iapply (Entails.of_eq ((rfl : landed X Y c (j, 4) = holds c (vCb2 j).view (shapeCast S64x512 (cross2 X Y c j) shapeCasts_S1x64x512_S64x512)).trans (holds_vCb2 c j _)).symm) $$ Hl
    isplitl [Ho]; · iexact Ho
    isplitl [Hd3]; · iexact Hd3
    isplitl [Hrb] <;> iassumption
  iexists _; iexact HO

theorem wp_drainStep (R : Finset Xf) (W : Waits sig Unit) (Q : PUnit → sProp 𝕄) :
    iprop(records X Y K ∗ Need6 c j ∗ Live6 X Y c a2 j ∗ owes (c : Thread nD τ) (owedFor c R) W)
      ⊢ iprop((Live7 X Y c a2 j ∗ (∃ W, owes (c : Thread nD τ) (owedFor c R) W) -∗ Q ⟨⟩)
          -∗ wpc c (drainStep j) Q) := by
  unfold drainStep Need6 Live6 Live5 Live4 Live3 Live2 Live1 Live7
  simp only [Prog.lift, Prog.bind_op, Prog.bind_ret]
  iintro ⟨#HR, ⟨Hp1, Hp2, Hp3⟩, ⟨Hd4, Ho, Hd3, Hrb, Hc3, Hd2, Hra, Hc2, Hd1, Hp0, Hd0, Hc1, Ha, Hc0⟩, HO⟩ Hk
  iapply (wp_free X Y K c Q (j, 1) 0 rfl (dst := vSa j 1) (creditSa j 1) (duties_send X Y c (j, 1)) R W) $$ [Hc1 Hp1 HO]
  · isplitr; · iexact HR
    isplitl [Hc1]; · iexact Hc1
    isplitl [Hp1] <;> iassumption
  iintro ⟨Hp1, -, Hs1, HO⟩
  iapply (wp_free X Y K c Q (j, 0) 1 rfl (dst := vSa j 0) (creditSa j 0) (duties_send1 X Y c j) R _) $$ [Hc0 Hp0 HO]
  · isplitr; · iexact HR
    isplitl [Hc0]; · iexact Hc0
    isplitl [Hp0] <;> iassumption
  iintro ⟨Hp0, -, Hs0, HO⟩
  iapply (wp_free X Y K c Q (j, 2) 0 rfl (dst := vSb1 j) (creditSb1 j) (duties_send X Y c (j, 2)) R _) $$ [Hc2 Hp2 HO]
  · isplitr; · iexact HR
    isplitl [Hc2]; · iexact Hc2
    isplitl [Hp2] <;> iassumption
  iintro ⟨Hp2, -, Hs2, HO⟩
  iapply (wp_free X Y K c Q (j, 3) 0 rfl (dst := vSb2 j) (creditSb2 j) (duties_send X Y c (j, 3)) R _) $$ [Hc3 Hp3 HO]
  · isplitr; · iexact HR
    isplitl [Hc3]; · iexact Hc3
    isplitl [Hp3] <;> iassumption
  iintro ⟨Hp3, -, Hs3, HO⟩
  iapply (wpc_ret c _ Q)
  iapply Hk
  isplitr [HO]
  · isplitl [Hd0 Hd1 Hd2 Hd3 Hd4]
    · isplitl [Hd0]; · iexact Hd0
      isplitl [Hd1]; · iexact Hd1
      isplitl [Hd2]; · iexact Hd2
      isplitl [Hd3] <;> iassumption
    isplitl [Hp0 Hp1 Hp2 Hp3]
    · isplitl [Hp0]; · iexact Hp0
      isplitl [Hp1]; · iexact Hp1
      isplitl [Hp2] <;> iassumption
    isplitl [Hs0 Hs1 Hs2 Hs3]
    · isplitl [Hs0]; · iexact Hs0
      isplitl [Hs1]; · iexact Hs1
      isplitl [Hs2] <;> iassumption
    isplitl [Ha]; · iexact Ha
    isplitl [Hra]; · iexact Hra
    isplitl [Hrb] <;> iassumption
  iexists _; iexact HO

end Cert.Proof

end
-- ==== Proof.State.lean ====
/-
The state of a device between two steps: how far each column group has come, and each step's rule on it.
-/
module

public import proofs.«01_k».proof.Proof.Columns

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)
variable (K : Dev nD × Ck → ℕ) (c : Dev nD) (a1 : Memref sig .tc .vmem S1024x4096 .bf16) (a2 : Memref sig .tc .vmem S64x4096 .f32) (j : Fin 8)

/-- What step `n` of a column group takes. -/
def Need : ℕ → sProp 𝕄
  | 0 => Need0 c j | 1 => Need1 c j | 2 => Need2 c j | 3 => Need3 c j | 4 => Need4 c j | 5 => Need5 c a2 j | _ => Need6 c j

/-- What the last `k` steps of a column group take. -/
def TodoLast : ℕ → sProp 𝕄
  | 0 => iprop(emp)
  | k + 1 => iprop(Need c a2 j (6 - k) ∗ TodoLast k)

/-- What a column group has before step `n`, beside what the steps from `n` on take. -/
def Live : ℕ → sProp 𝕄
  | 0 => iprop(emp) | 1 => Live1 X Y c j | 2 => Live2 X Y c j | 3 => Live3 X Y c j | 4 => Live4 X Y c j
  | 5 => Live5 X Y c j | 6 => Live6 X Y c a2 j | _ => Live7 X Y c a2 j

/-- A column group before its step `n`. -/
def Col (n : ℕ) : sProp 𝕄 := iprop(TodoLast c a2 j (7 - n) ∗ Live X Y c a2 j n)

/-- The two operands every product reads. -/
def Shared : sProp 𝕄 := iprop(holds c (mXb.access rXb) (X c) ∗ holds c (a1.access rFull) (Y c))

/-- The transfers still to be started when column group `j` is before step `ph j`. -/
def todo (ph : Fin 8 → ℕ) : Finset Xf := Finset.univ.filter fun i => ph i.1 ≤ i.2.val

/-- The device when column group `j` is before step `ph j`. -/
def St (ph : Fin 8 → ℕ) : sProp 𝕄 :=
  iprop(records X Y K ∗ Shared X Y c a1 ∗ (∃ W, owes (c : Thread nD τ) (owedFor c (todo ph)) W)
    ∗ bigSep Finset.univ fun j : Fin 8 => Col X Y c a2 j (ph j))

theorem todo_send (ph : Fin 8 → ℕ) (n : Fin 5) (m : ℕ) (hm : m = n.val + 1) (h : ph j = n.val) : todo (Function.update ph j m) = (todo ph).erase (j, n) := by
  subst hm
  ext ⟨j', s⟩
  simp only [todo, Finset.mem_erase, Finset.mem_filter, Finset.mem_univ, true_and, ne_eq, Prod.mk.injEq, not_and]
  by_cases e : j' = j
  · subst e
    simp only [Function.update_self, h, true_implies, Fin.ext_iff]
    omega
  · simp only [Function.update_of_ne e, e, false_implies, true_and]

theorem todo_wait (ph : Fin 8 → ℕ) (n m : ℕ) (hm : m = n + 1) (hn : 5 ≤ n) (h : ph j = n) : todo (Function.update ph j m) = todo ph := by
  subst hm
  ext ⟨j', s⟩
  simp only [todo, Finset.mem_filter, Finset.mem_univ, true_and]
  by_cases e : j' = j
  · subst e
    have := s.isLt
    simp only [Function.update_self, h]
    omega
  · simp only [Function.update_of_ne e]

/-- A rule that takes one column group a step on takes the device a step on. -/
theorem advance (p : PT F) (n : ℕ) (ph ph' : Fin 8 → ℕ) (h : ph j = n) (h' : ph' = Function.update ph j (n + 1))
    (rule : ∀ (W : Waits sig Unit) (Q : PUnit → sProp 𝕄), iprop(records X Y K ∗ Shared X Y c a1 ∗ owes (c : Thread nD τ) (owedFor c (todo ph)) W ∗ Col X Y c a2 j n)
      ⊢ iprop((Shared X Y c a1 ∗ (∃ W, owes (c : Thread nD τ) (owedFor c (todo ph')) W) ∗ Col X Y c a2 j (n + 1) -∗ Q ⟨⟩) -∗ wpc c p Q)) :
    St X Y K c a1 a2 ph ⊢ wpc c p fun _ => St X Y K c a1 a2 ph' := by
  have hup := bigSep_univ_update (Φ := fun j => Col X Y c a2 j (ph j)) (Ψ := fun j => Col X Y c a2 j (ph' j)) j
    fun j' hne => by show Col X Y c a2 j' (ph' j') = _; rw [h', Function.update_of_ne hne]
  have e1 : Col X Y c a2 j (ph j) = Col X Y c a2 j n := by rw [h]
  have e2 : Col X Y c a2 j (n + 1) = Col X Y c a2 j (ph' j) := by rw [h', Function.update_self]
  unfold St
  iintro ⟨#HR, HS, ⟨%W, HO⟩, HC⟩
  ihave HC := hup $$ HC
  icases HC with ⟨HC, Hback⟩
  ihave HC := (Entails.of_eq e1) $$ HC
  iapply (rule W _) $$ [HS HO HC]
  · isplitr; · iexact HR
    isplitl [HS]; · iexact HS
    isplitl [HO] <;> iassumption
  iintro ⟨HS, HO, HC⟩
  ihave HC := (Entails.of_eq e2) $$ HC
  isplitr; · iexact HR
  isplitl [HS]; · iexact HS
  isplitl [HO]; · iexact HO
  iapply Hback; iexact HC

/-- `advance` for a step that does not read the shared operands. -/
theorem advance' (p : PT F) (n : ℕ) (ph ph' : Fin 8 → ℕ) (h : ph j = n) (h' : ph' = Function.update ph j (n + 1)) (N T A A' : sProp 𝕄)
    (e : Col X Y c a2 j n = iprop((N ∗ T) ∗ A)) (e' : Col X Y c a2 j (n + 1) = iprop(T ∗ A'))
    (rule : ∀ (W : Waits sig Unit) (Q : PUnit → sProp 𝕄), iprop(records X Y K ∗ N ∗ A ∗ owes (c : Thread nD τ) (owedFor c (todo ph)) W)
      ⊢ iprop((A' ∗ (∃ W, owes (c : Thread nD τ) (owedFor c (todo ph')) W) -∗ Q ⟨⟩) -∗ wpc c p Q)) :
    St X Y K c a1 a2 ph ⊢ wpc c p fun _ => St X Y K c a1 a2 ph' :=
  advance X Y K c a1 a2 j p n ph ph' h h' fun W Q => by
    rw [e, e']
    iintro ⟨#HR, HS, HO, ⟨HN, HT⟩, HA⟩ Hk
    iapply (rule W Q) $$ [HN HA HO]
    · isplitr; · iexact HR
      isplitl [HN]; · iexact HN
      isplitl [HA] <;> iassumption
    iintro ⟨HA, HO⟩
    iapply Hk
    isplitl [HS]; · iexact HS
    isplitl [HO]; · iexact HO
    isplitl [HT] <;> iassumption

variable (ph ph' : Fin 8 → ℕ)

theorem step_gemm (off : Fin 3 → Nat) (inb) (n : Dev nD) (ho : off = arrOff j (sidx j c 0)) (hn : n = tgt (j, 0) c)
    (h : ph j = 0) (h' : ph' = Function.update ph j 1) :
    St X Y K c a1 a2 ph ⊢ wpc c (gemmStep a1 j off inb n) fun _ => St X Y K c a1 a2 ph' :=
  advance X Y K c a1 a2 j _ 0 ph ph' h h' fun W Q => by
    have hi : (j, (0 : Fin 5)) ∈ todo ph := by simp [todo, h]
    have hr := wp_gemmStep X Y K c j a1 off inb ho n hn (todo ph) hi W Q
    rw [h', todo_send j ph 0 1 rfl h, show Col X Y c a2 j 0 = iprop((Need0 c j ∗ TodoLast c a2 j 6) ∗ emp) from rfl,
      show Col X Y c a2 j (0 + 1) = iprop(TodoLast c a2 j 6 ∗ Live1 X Y c j) from rfl]
    unfold Shared
    iintro ⟨#HR, HS, HO, ⟨HN, HT⟩, -⟩ Hk
    iapply hr $$ [HN HS HO]
    · isplitr; · iexact HR
      isplitl [HN]; · iexact HN
      isplitl [HS] <;> iassumption
    iintro ⟨HA, HS, HO⟩
    iapply Hk
    isplitl [HS]; · iexact HS
    isplitl [HO]; · iexact HO
    isplitl [HT] <;> iassumption

/-- The waits of transfer `i` lie below every transfer still to be started. -/
def Below (i : Xf) : Prop := ∀ i' : Xf, ph i'.1 ≤ i'.2.val → rlev i < rlev i'

instance (i : Xf) : Decidable (Below ph i) := by unfold Below; infer_instance

theorem Below.todo {ph} {i : Xf} (h : Below ph i) : ∀ i' ∈ todo ph, rlev i < rlev i' :=
  fun i' hi' => h i' (Finset.mem_filter.1 hi').2

theorem step_hop0 (off : Fin 3 → Nat) (inb) (n : Dev nD) (ho : off = arrOff j (sidx j c 1)) (hn : n = tgt (j, 1) c)
    (h : ph j = 1) (h' : ph' = Function.update ph j 2) (hb : Below ph (j, 0)) :
    St X Y K c a1 a2 ph ⊢ wpc c (hop0Step j off inb n) fun _ => St X Y K c a1 a2 ph' :=
  advance' X Y K c a1 a2 j _ 1 ph ph' h h' (Need1 c j) (TodoLast c a2 j 5) (Live1 X Y c j) (Live2 X Y c j) rfl rfl fun W Q => by
    rw [h', todo_send j ph 1 2 rfl h]
    exact wp_hop0Step X Y K c j off inb ho n hn (todo ph) (by simp [todo, h]) hb.todo W Q

theorem step_hop1 (off : Fin 3 → Nat) (inb) (n : Dev nD) (ho : off = arrOff j (sidx j c 2)) (hn : n = tgt (j, 2) c)
    (h : ph j = 2) (h' : ph' = Function.update ph j 3) (hb : Below ph (j, 1)) :
    St X Y K c a1 a2 ph ⊢ wpc c (hop1Step j off inb n) fun _ => St X Y K c a1 a2 ph' :=
  advance' X Y K c a1 a2 j _ 2 ph ph' h h' (Need2 c j) (TodoLast c a2 j 4) (Live2 X Y c j) (Live3 X Y c j) rfl rfl fun W Q => by
    rw [h', todo_send j ph 2 3 rfl h]
    exact wp_hop1Step X Y K c j off inb ho n hn (todo ph) (by simp [todo, h]) hb.todo W Q

theorem step_hop2 (off : Fin 3 → Nat) (inb) (o0 : Fin 3 → Nat) (i0) (o1 : Fin 3 → Nat) (i1) (n : Dev nD) (ho : off = arrOff j (sidx j c 3))
    (ho0 : o0 = blkOff j (sendBlk j c 0)) (ho1 : o1 = blkOff j (sendBlk j c 1)) (hn : n = tgt (j, 3) c)
    (h : ph j = 3) (h' : ph' = Function.update ph j 4) (hb : Below ph (j, 2)) :
    St X Y K c a1 a2 ph ⊢ wpc c (hop2Step j off inb o0 i0 o1 i1 n) fun _ => St X Y K c a1 a2 ph' :=
  advance' X Y K c a1 a2 j _ 3 ph ph' h h' (Need3 c j) (TodoLast c a2 j 3) (Live3 X Y c j) (Live4 X Y c j) rfl rfl fun W Q => by
    rw [h', todo_send j ph 3 4 rfl h]
    exact wp_hop2Step X Y K c j off inb ho o0 i0 ho0 o1 i1 ho1 n hn (todo ph) (by simp [todo, h]) hb.todo W Q

theorem step_fold (o0 : Fin 3 → Nat) (i0) (o1 : Fin 3 → Nat) (i1) (o2 : Fin 3 → Nat) (i2) (n : Dev nD)
    (ho0 : o0 = blkOff j (keepBlk j c 0)) (ho1 : o1 = blkOff j (keepBlk j c 1)) (ho2 : o2 = halfOff j (sendHalf c)) (hn : n = tgt (j, 4) c)
    (h : ph j = 4) (h' : ph' = Function.update ph j 5) (hb : Below ph (j, 3)) :
    St X Y K c a1 a2 ph ⊢ wpc c (foldStep j o0 i0 o1 i1 o2 i2 n) fun _ => St X Y K c a1 a2 ph' :=
  advance' X Y K c a1 a2 j _ 4 ph ph' h h' (Need4 c j) (TodoLast c a2 j 2) (Live4 X Y c j) (Live5 X Y c j) rfl rfl fun W Q => by
    rw [h', todo_send j ph 4 5 rfl h]
    exact wp_foldStep X Y K c j o0 i0 ho0 o1 i1 ho1 o2 i2 ho2 n hn (todo ph) (by simp [todo, h]) hb.todo W Q

theorem step_last (h2 : a2.IsWhole) (off : Fin 3 → Nat) (inb) (ho : off = halfOff j (high c))
    (h : ph j = 5) (h' : ph' = Function.update ph j 6) (hb : Below ph (j, 4)) :
    St X Y K c a1 a2 ph ⊢ wpc c (lastStep a2 h2 j off inb) fun _ => St X Y K c a1 a2 ph' :=
  advance' X Y K c a1 a2 j _ 5 ph ph' h h' (Need5 c a2 j) (TodoLast c a2 j 1) (Live5 X Y c j) (Live6 X Y c a2 j) rfl rfl fun W Q => by
    rw [h', todo_wait j ph 5 6 rfl (by omega) h]
    exact wp_lastStep X Y K c a2 j h2 off inb ho (todo ph) hb.todo W Q

theorem step_drain (h : ph j = 6) (h' : ph' = Function.update ph j 7) :
    St X Y K c a1 a2 ph ⊢ wpc c (drainStep j) fun _ => St X Y K c a1 a2 ph' :=
  advance' X Y K c a1 a2 j _ 6 ph ph' h h' (Need6 c j) (TodoLast c a2 j 0) (Live6 X Y c a2 j) (Live7 X Y c a2 j) rfl rfl fun W Q => by
    rw [h', todo_wait j ph 6 7 rfl (by omega) h]
    exact wp_drainStep X Y K c a2 j (todo ph) W Q

/-- One step, then the others. -/
theorem wpc_seq {P P' : sProp 𝕄} {p : PT F} {q : PUnit → PT F} {Q : PUnit → sProp 𝕄}
    (hp : P ⊢ wpc c p fun _ => P') (hq : P' ⊢ wpc c (q ⟨⟩) Q) : P ⊢ wpc c (p >>= q) Q :=
  hp.trans ((wp_mono frame (wpE (defs₀ (F := F)) 𝒱₀ (c : Thread nD τ) none) Set.univ (p := p) fun _ => hq).trans (wpc_bind c p q Q))

/-- A triple holds with something held aside. -/
theorem wpc_aside {P P' R : sProp 𝕄} {p : PT F} (hp : P ⊢ wpc c p fun _ => P') :
    iprop(P ∗ R) ⊢ wpc c p fun _ => iprop(P' ∗ R) :=
  (show iprop(P ∗ R) ⊢ iprop(wpc c p (fun _ => P') ∗ R) from by
    iintro ⟨HP, HR⟩
    isplitl [HP]
    · iapply hp $$ HP
    · iexact HR).trans
    (wp_frame_r frame (wpE (defs₀ (F := F)) 𝒱₀ (c : Thread nD τ) none) Set.univ)

end Cert.Proof

end
-- ==== Proof.Tiles.lean ====
/-
The families of windows that tile the kernel's buffers.
-/
module

public import proofs.«01_k».proof.Proof.Steps

@[expose] public section

namespace Cert.Proof

open Cert.KernelIdeal Cert.KernelIdeal.Gen
open Idealize.ShloMosaic Idealize.ShloMosaic.TcCoe Idealize.ShloMosaic.ValueIdx

/-- The whole of the left operand's buffer. -/
theorem tile_Xb : Tile fun _ : Unit => rXb where
  apart _ _ _ _ _ := rfl
  cover x := ⟨(), x, by
    funext a
    match a with
    | ⟨0, _⟩ => apply Fin.ext; show 0 + 1 * (x 0).val = (x 0).val; omega
    | ⟨1, _⟩ => apply Fin.ext; show 0 + 1 * (x 1).val = (x 1).val; omega⟩

/-- The whole of the right operand's buffer. -/
theorem tile_full : Tile fun _ : Unit => rFull where
  apart _ _ _ _ _ := rfl
  cover x := ⟨(), x, by
    funext a
    match a with
    | ⟨0, _⟩ => apply Fin.ext; show 0 + 1 * (x 0).val = (x 0).val; omega
    | ⟨1, _⟩ => apply Fin.ext; show 0 + 1 * (x 1).val = (x 1).val; omega⟩

/-- The column groups of the product buffer. -/
theorem tile_Col : Tile rCol where
  apart i j x y h := by
    have e : 512 * i.val + 1 * (x 2).val = 512 * j.val + 1 * (y 2).val := congrArg Fin.val (congrFun h 2)
    have hx : (x 2).val < 512 := (x 2).isLt
    have hy : (y 2).val < 512 := (y 2).isLt
    exact Fin.ext (by omega)
  cover x := by
    have h2 : (x 2).val < 4096 := (x 2).isLt
    refine ⟨⟨(x 2).val / 512, by omega⟩, ix3 (x 0) (x 1) (⟨(x 2).val % 512, by omega⟩ : Fin 512), ?_⟩
    funext a
    match a with
    | ⟨0, _⟩ => apply Fin.ext; show 0 + 1 * (x 0).val = (x 0).val; omega
    | ⟨1, _⟩ => apply Fin.ext; show 0 + 1 * (x 1).val = (x 1).val; omega
    | ⟨2, _⟩ => apply Fin.ext; show 512 * ((x 2).val / 512) + 1 * ((x 2).val % 512) = (x 2).val; omega

/-- The column groups of the result. -/
theorem tile_Out : Tile rOut where
  apart i j x y h := by
    have e : 512 * i.val + 1 * (x 1).val = 512 * j.val + 1 * (y 1).val := congrArg Fin.val (congrFun h 1)
    have hx : (x 1).val < 512 := (x 1).isLt
    have hy : (y 1).val < 512 := (y 1).isLt
    exact Fin.ext (by omega)
  cover x := by
    have h2 : (x 1).val < 4096 := (x 1).isLt
    refine ⟨⟨(x 1).val / 512, by omega⟩, ix2 (x 0) (⟨(x 1).val % 512, by omega⟩ : Fin 512), ?_⟩
    funext a
    match a with
    | ⟨0, _⟩ => apply Fin.ext; show 0 + 1 * (x 0).val = (x 0).val; omega
    | ⟨1, _⟩ => apply Fin.ext; show 512 * ((x 1).val / 512) + 1 * ((x 1).val % 512) = (x 1).val; omega

/-- The ring's send slots. -/
theorem tile_Sa : Tile fun p : Fin 8 × Fin 2 => rSa p.1 p.2 where
  apart i j x y h := by
    have e0 : i.1.val + 1 * (x 0).val = j.1.val + 1 * (y 0).val := congrArg Fin.val (congrFun h 0)
    have e1 : i.2.val + 1 * (x 1).val = j.2.val + 1 * (y 1).val := congrArg Fin.val (congrFun h 1)
    have hx : (x 0).val < 1 := (x 0).isLt
    have hy : (y 0).val < 1 := (y 0).isLt
    have hx' : (x 1).val < 1 := (x 1).isLt
    have hy' : (y 1).val < 1 := (y 1).isLt
    exact Prod.ext (Fin.ext (by omega)) (Fin.ext (by omega))
  cover x := by
    refine ⟨(x 0, x 1), ix4 (0 : Fin 1) (0 : Fin 1) (x 2) (x 3), ?_⟩
    funext a
    match a with
    | ⟨0, _⟩ => apply Fin.ext; show (x 0).val + 1 * 0 = (x 0).val; omega
    | ⟨1, _⟩ => apply Fin.ext; show (x 1).val + 1 * 0 = (x 1).val; omega
    | ⟨2, _⟩ => apply Fin.ext; show 0 + 1 * (x 2).val = (x 2).val; omega
    | ⟨3, _⟩ => apply Fin.ext; show 0 + 1 * (x 3).val = (x 3).val; omega

/-- The ring's landing slots. -/
theorem tile_Ca : Tile fun p : Fin 8 × Fin 3 => rCa p.1 p.2 where
  apart i j x y h := by
    have e0 : i.1.val + 1 * (x 0).val = j.1.val + 1 * (y 0).val := congrArg Fin.val (congrFun h 0)
    have e1 : i.2.val + 1 * (x 1).val = j.2.val + 1 * (y 1).val := congrArg Fin.val (congrFun h 1)
    have hx : (x 0).val < 1 := (x 0).isLt
    have hy : (y 0).val < 1 := (y 0).isLt
    have hx' : (x 1).val < 1 := (x 1).isLt
    have hy' : (y 1).val < 1 := (y 1).isLt
    exact Prod.ext (Fin.ext (by omega)) (Fin.ext (by omega))
  cover x := by
    refine ⟨(x 0, x 1), ix4 (0 : Fin 1) (0 : Fin 1) (x 2) (x 3), ?_⟩
    funext a
    match a with
    | ⟨0, _⟩ => apply Fin.ext; show (x 0).val + 1 * 0 = (x 0).val; omega
    | ⟨1, _⟩ => apply Fin.ext; show (x 1).val + 1 * 0 = (x 1).val; omega
    | ⟨2, _⟩ => apply Fin.ext; show 0 + 1 * (x 2).val = (x 2).val; omega
    | ⟨3, _⟩ => apply Fin.ext; show 0 + 1 * (x 3).val = (x 3).val; omega

/-- The groups of the ring's sums. -/
theorem tile_Ra : Tile rRa where
  apart i j x y h := by
    have e : i.val + 1 * (x 0).val = j.val + 1 * (y 0).val := congrArg Fin.val (congrFun h 0)
    have hx : (x 0).val < 1 := (x 0).isLt
    have hy : (y 0).val < 1 := (y 0).isLt
    exact Fin.ext (by omega)
  cover x := by
    refine ⟨x 0, ix3 (0 : Fin 1) (x 1) (x 2), ?_⟩
    funext a
    match a with
    | ⟨0, _⟩ => apply Fin.ext; show (x 0).val + 1 * 0 = (x 0).val; omega
    | ⟨1, _⟩ => apply Fin.ext; show 0 + 1 * (x 1).val = (x 1).val; omega
    | ⟨2, _⟩ => apply Fin.ext; show 0 + 1 * (x 2).val = (x 2).val; omega

/-- The groups of the first exchange's buffers. -/
theorem tile_B1 : Tile rB1 where
  apart i j x y h := by
    have e : i.val + 1 * (x 0).val = j.val + 1 * (y 0).val := congrArg Fin.val (congrFun h 0)
    have hx : (x 0).val < 1 := (x 0).isLt
    have hy : (y 0).val < 1 := (y 0).isLt
    exact Fin.ext (by omega)
  cover x := by
    refine ⟨x 0, ix3 (0 : Fin 1) (x 1) (x 2), ?_⟩
    funext a
    match a with
    | ⟨0, _⟩ => apply Fin.ext; show (x 0).val + 1 * 0 = (x 0).val; omega
    | ⟨1, _⟩ => apply Fin.ext; show 0 + 1 * (x 1).val = (x 1).val; omega
    | ⟨2, _⟩ => apply Fin.ext; show 0 + 1 * (x 2).val = (x 2).val; omega

/-- The groups of the second exchange's buffers. -/
theorem tile_B2 : Tile rB2 where
  apart i j x y h := by
    have e : i.val + 1 * (x 0).val = j.val + 1 * (y 0).val := congrArg Fin.val (congrFun h 0)
    have hx : (x 0).val < 1 := (x 0).isLt
    have hy : (y 0).val < 1 := (y 0).isLt
    exact Fin.ext (by omega)
  cover x := by
    refine ⟨x 0, ix3 (0 : Fin 1) (x 1) (x 2), ?_⟩
    funext a
    match a with
    | ⟨0, _⟩ => apply Fin.ext; show (x 0).val + 1 * 0 = (x 0).val; omega
    | ⟨1, _⟩ => apply Fin.ext; show 0 + 1 * (x 1).val = (x 1).val; omega
    | ⟨2, _⟩ => apply Fin.ext; show 0 + 1 * (x 2).val = (x 2).val; omega

end Cert.Proof
-- ==== Proof.Ghost.lean ====
/-
The launch's ghost state: the cells and the duty tokens of every device, allocated and dealt out.
-/
module

public import proofs.«01_k».proof.Proof.Moves
public import proofs.«01_k».proof.Proof.Gen.KernelIdeal.Launch

@[expose] public section

set_option maxRecDepth 4000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)

/-! ## Cells and tokens -/

/-- The kernel's own semaphores, as places. -/
abbrev osem (k : Own) : SemLoc sig := .dma (ownSem k)

theorem ownSem_injective : Function.Injective ownSem := fun a b h => by
  have := congrArg (fun s : DmaSem sig => dec s.val) h
  rw [show dec (ownSem a).val = some a from dec_own a, show dec (ownSem b).val = some b from dec_own b] at this
  exact Option.some.inj this

/-- The semaphore of a cell. -/
def ksem : Ck → SemLoc sig
  | none => .reg barS
  | some k => osem k

theorem kcell_eq (p : Dev nD × Ck) : kcell p = ((p.1 : Thread nD τ), ksem p.2) := by
  rcases p with ⟨c, _ | i | i⟩ <;> rfl

theorem ksem_injective : Function.Injective ksem := by
  rintro (_ | a) (_ | b) h
  · rfl
  · exact absurd h (by intro h; cases h)
  · exact absurd h (by intro h; cases h)
  · exact congrArg some (ownSem_injective (SemLoc.dma.inj h))

theorem kcell_injective : Function.Injective (kcell : Dev nD × Ck → GSem nD τ sig) := by
  intro p q h
  rw [kcell_eq, kcell_eq] at h
  have h1 : p.1 = q.1 := congrArg (fun g : GSem nD τ sig => g.1.1) h
  exact Prod.ext h1 (ksem_injective (congrArg Prod.snd h))

theorem recvCell_inj {c d : Dev nD} {i k : Xf} (h : recvCell c i = recvCell d k) : c = d ∧ i = k := by
  have := kcell_injective (a₁ := (c, some (.inl i))) (a₂ := (d, some (.inl k))) h
  simp only [Prod.mk.injEq, Option.some.injEq, Sum.inl.injEq] at this
  exact this

def ringCells : Finset (GSem nD τ sig) := Finset.univ.map ⟨kcell, kcell_injective⟩

/-- A device's tokens: for its barrier, its landing cells, its send cells, and the second use of the first send slots. -/
abbrev Tk := Fin 4 ⊕ Xf ⊕ Sd ⊕ Fin 8
/-- The cell and round of a token, and the duty. -/
def tokAt : Tk → Ck × ℕ × Fin 4
  | .inl d => (none, 0, d)
  | .inr (.inl i) => (some (.inl i), 0, 0)
  | .inr (.inr (.inl k)) => (some (.inr k), 0, 0)
  | .inr (.inr (.inr j)) => (some (.inr (j, 0)), 1, 0)
theorem tokAt_injective : Function.Injective tokAt := by
  rintro (a | a | a | a) (b | b | b | b) h <;>
    simp only [tokAt, Prod.mk.injEq, Option.some.injEq, Sum.inl.injEq, Sum.inr.injEq, reduceCtorEq, false_and, and_false, and_true, true_and, zero_ne_one, one_ne_zero] at h
  · rw [h]
  · rw [h]
  · rw [h]
  · rw [h]

def tokOf (p : Dev nD × Tk) : GSem nD τ sig × ℕ × Fin 4 := (kcell (p.1, (tokAt p.2).1), (tokAt p.2).2)
theorem tokOf_injective : Function.Injective tokOf := by
  intro p q h
  have h1 := kcell_injective (congrArg Prod.fst h)
  have h2 := congrArg Prod.snd h
  simp only [Prod.mk.injEq] at h1
  exact Prod.ext h1.1 (tokAt_injective (Prod.ext h1.2 h2))
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 4 => dutyTok ER (barCell c) 0 d) ∗ (bigSep Finset.univ fun i : Xf => dutyTok ER (recvCell c i) 0 0)
    ∗ (bigSep Finset.univ fun k : Sd => dutyTok ER (sendCell c k) 0 0) ∗ bigSep Finset.univ fun j : Fin 8 => dutyTok ER (sendCell c (j, 0)) 1 0)

/-- The tokens of the duties device `c` pays. -/
def payToks (c : Dev nD) : sProp 𝕄 :=
  iprop((bigSep Finset.univ fun d : Fin 4 => dutyTok ER (barCell (nb d c)) 0 d) ∗ (bigSep Finset.univ fun i : Xf => dutyTok ER (recvCell (tgt i c) i) 0 0)
    ∗ (bigSep Finset.univ fun k : Sd => dutyTok ER (sendCell c k) 0 0) ∗ bigSep Finset.univ fun j : Fin 8 => dutyTok ER (sendCell c (j, 0)) 1 0)

/-- Its positions. -/
def positions (c : Dev nD) : sProp 𝕄 := bigSep Finset.univ fun k : Ck => atPos ER (kcell (c, k)) 0 ∅ 0

/-- What the launch element deals device `c`. -/
def G (c : Dev nD) : sProp 𝕄 :=
  iprop((bigSep Finset.univ fun k : Ck => roundState ER (rd X Y) (kcell (c, k)) 0)
    ∗ (bigSep Finset.univ fun k : Ck => iprop(atPos ER (kcell (c, k)) 0 ∅ 0 ∗ reached ER (kcell (c, k)) 0)) ∗ toks c)

/-- What is known of every cell, the levels apart. -/
def known (K : Dev nD × Ck → ℕ) : sProp 𝕄 :=
  iprop((bigSep Finset.univ fun p : Dev nD × Ck => cellInv ER (rd X Y) (K p) (kcell p))
    ∗ bigSep Finset.univ fun p : Dev nD × Ck => reached ER (kcell p) 0)
instance known_persistent (K : Dev nD × Ck → ℕ) : Persistent (known X Y K) := by unfold known; infer_instance

/-- What the global step makes of it. -/
def G' (c : Dev nD) : sProp 𝕄 := iprop(∃ K, known X Y K ∗ positions c ∗ payToks c)

/-! ## Funding -/

theorem bigSep_opt {α : Type} [Fintype α] [DecidableEq α] (Φ : Option α → sProp 𝕄) :
    bigSep Finset.univ Φ = iprop(Φ none ∗ bigSep Finset.univ fun a => Φ (some a)) := by
  rw [bigSep_univ_at Φ none, show (Finset.univ.erase none : Finset (Option α)) = Finset.univ.map ⟨some, Option.some_injective α⟩ from by
    ext x; cases x <;> simp, bigSep_map]
  rfl

theorem toks_eq (c : Dev nD) : (bigSep Finset.univ fun t : Tk => (dutyTok ER (tokOf (c, t)).1 (tokOf (c, t)).2.1 (tokOf (c, t)).2.2 : sProp 𝕄)) = toks c := by
  rw [bigSep_univ_sum, bigSep_univ_sum, bigSep_univ_sum]
  rfl

theorem fund_ring : BI.own (ER (initOf ringCells ringToks)) ⊢ (|==> bigSep Finset.univ (G X Y) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd X Y) ringCells ringToks) $$ HX with ⟨Hst, Hr, Hat, Htok⟩
  imodintro
  ihave Hst := (Entails.of_eq (hX fun g => roundState ER (rd X Y) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The global step -/

/-- A device's own semaphores and its barrier are its cells' counters. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

theorem sems_eq (c : Dev nD) :
    (bigSep Finset.univ fun k : Ck => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_opt, unscoped_eq]
  refine congrArg₂ _ rfl ?_
  unfold Pipeline.ownSems0
  exact bigSep_congr fun k _ => by rcases k with i | i <;> rfl

theorem core_alloc (c : Dev nD) :
    iprop(Pipeline.ownSems0 (Ix := Unit) (Name := ℕ) (U := UU) (Lvl := ℕ) (Val := Elt F) (τ := τ) osem c ∗ unscopedSems0 c ∗ G X Y c)
      ⊢ |={Set.univ}=> iprop((bigSep Finset.univ fun k : Ck => iprop(∃ κ : ℕ, cellInv ER (rd X Y) κ (kcell (c, k))))
          ∗ (bigSep Finset.univ fun k : Ck => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Ck => semVal (kcell (c, k)) 0) ∗ bigSep Finset.univ fun k : Ck => roundState ER (rd X Y) (kcell (c, k)) 0)
      ⊢ (|={Set.univ}=> bigSep Finset.univ fun k : Ck => iprop(∃ κ : ℕ, cellInv ER (rd X Y) κ (kcell (c, k))) : sProp 𝕄) from by
        rw [← bigSep_sep']
        exact (bigSep_mono fun k _ => (Rounds.body_intro ER (rd X Y) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The signals, by sender and by receiver. -/
def sigs : Fin 4 × Dev nD ≃ Fin 4 × Dev nD where
  toFun p := (p.1, nb p.1 p.2)
  invFun p := (p.1, bn p.1 p.2)
  left_inv p := Prod.ext rfl (bn_nb p.1 p.2)
  right_inv p := Prod.ext rfl (nb_bn p.1 p.2)
/-- The transfers, by sender and by receiver. -/
def sends : Xf × Dev nD ≃ Xf × Dev nD where
  toFun p := (p.1, tgt p.1 p.2)
  invFun p := (p.1, src p.1 p.2)
  left_inv p := Prod.ext rfl (src_tgt p.1 p.2)
  right_inv p := Prod.ext rfl (tgt_src p.1 p.2)

/-- A family over devices and transfers, regrouped by the device it is sent to. -/
theorem around {ι : Type} [Fintype ι] [DecidableEq ι] (e : ι × Dev nD ≃ ι × Dev nD) (he : ∀ p, (e p).1 = p.1) (Φ : ι → Dev nD → sProp 𝕄) :
    (bigSep Finset.univ fun c : Dev nD => bigSep Finset.univ fun i : ι => Φ i c)
      = bigSep Finset.univ fun c : Dev nD => bigSep Finset.univ fun i : ι => Φ i (e (i, c)).2 := by
  have swap (Ψ : ι → Dev nD → sProp 𝕄) : (bigSep Finset.univ fun c : Dev nD => bigSep Finset.univ fun i : ι => Ψ i c)
      = bigSep Finset.univ fun p : ι × Dev nD => Ψ p.1 p.2 := by
    rw [← bigSep_univ_prod (fun p : Dev nD × ι => Ψ p.2 p.1), bigSep_univ_equiv (Equiv.prodComm ι (Dev nD)) (fun p : Dev nD × ι => Ψ p.2 p.1)]
    rfl
  rw [swap Φ, swap fun i c => Φ i (e (i, c)).2, bigSep_univ_equiv e (fun p : ι × Dev nD => Φ p.1 p.2)]
  exact bigSep_congr fun p _ => by rw [he p]

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    around sigs (fun _ => rfl) (fun (d : Fin 4) (c : Dev nD) => (dutyTok ER (barCell c) 0 d : sProp 𝕄)),
    around sends (fun _ => rfl) (fun (i : Xf) (c : Dev nD) => (dutyTok ER (recvCell c i) 0 0 : sProp 𝕄))]
  exact .rfl

theorem bigSep_with {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Ck → ℕ) (c : Dev nD) : iprop(known X Y K ∗ (positions c ∗ payToks c)) ⊢ G' X Y c := by
  unfold G'
  iintro ⟨#H, HP, HT⟩
  iexists K
  isplitr; · iexact H
  isplitl [HP] <;> iassumption

theorem regroup :
    (bigSep Finset.univ fun c : Dev nD => iprop((bigSep Finset.univ fun k : Ck => iprop(∃ κ : ℕ, cellInv ER (rd X Y) κ (kcell (c, k))))
          ∗ (bigSep Finset.univ fun k : Ck => iprop(atPos ER (kcell (c, k)) 0 ∅ 0 ∗ reached ER (kcell (c, k)) 0)) ∗ toks c) : sProp 𝕄)
      ⊢ bigSep Finset.univ (G' X Y) := by
  rw [bigSep_sep', bigSep_sep', ← bigSep_univ_prod (fun ck : Dev nD × Ck => iprop(∃ κ : ℕ, cellInv ER (rd X Y) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (rd X Y) κ (kcell ck) : sProp 𝕄))) $$ HI
  icases HK with ⟨%K, #HI⟩
  ihave Htk := (toks_around (F := F)) $$ Htok
  iapply (bigSep_with (R := known X Y K) (Φ := fun c => iprop(positions c ∗ payToks c)) fun c _ => ghost_intro X Y K c)
  isplitr
  · unfold known; isplitl; · iexact HI
    iexact HR
  · rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G X Y c) : sProp 𝕄)
    ⊢ |={Set.univ}=> bigSep Finset.univ (G' X Y) :=
  ((bigSep_mono fun c _ => core_alloc X Y c).trans (bigSep_fupd _ _)).trans (BI.fupd_mono (regroup X Y))

/-! ## The launch credit -/

theorem sum_tally {ι : Type} [DecidableEq ι] (S : Finset ι) (f : ι → CellTallies nD τ sig Unit) (g : GSem nD τ sig) :
    (∑ i ∈ S, f i) g () = ∑ i ∈ S, f i g () := by
  induction S using Finset.induction with
  | empty => rfl
  | insert a s ha ih => rw [Finset.sum_insert ha, Finset.sum_insert ha, Pi.add_apply, Finsupp.add_apply, ih]

theorem owedFor_bar (d c : Dev nD) : owedFor d Finset.univ (barCell c) () = 0 := by
  unfold owedFor
  rw [sum_tally]
  refine Finset.sum_eq_zero fun i _ => ?_
  rw [tallyAt_ne_cell (fun h => by have := congrArg Prod.snd h; cases this), Finsupp.zero_apply]
theorem owedBar_bar (d c : Dev nD) : owedBar d Finset.univ (barCell c) () = ∑ k : Fin 4, if d = bn k c then 1 else 0 := by
  unfold owedBar
  rw [sum_tally]
  refine Finset.sum_congr rfl fun k _ => ?_
  rw [tallyAt_apply]
  by_cases h : d = bn k c
  · subst h; rw [nb_bn, if_pos ⟨rfl, rfl⟩, if_pos rfl]
  · rw [if_neg h, if_neg]
    rintro ⟨h1, -⟩
    have : c = nb k d := congrArg (fun g : GSem nD τ sig => g.1.1) h1
    exact h (by rw [this, bn_nb])
theorem owedBar_recv (d c : Dev nD) (i : Xf) : owedBar d Finset.univ (recvCell c i) () = 0 := by
  unfold owedBar
  rw [sum_tally]
  refine Finset.sum_eq_zero fun k _ => ?_
  rw [tallyAt_ne_cell (fun h => by have := congrArg Prod.snd h; cases this), Finsupp.zero_apply]
theorem owedFor_recv (d c : Dev nD) (i : Xf) : owedFor d Finset.univ (recvCell c i) () = if d = src i c then amtR i.2 else 0 := by
  unfold owedFor
  rw [sum_tally, Finset.sum_eq_single i]
  · rw [tallyAt_apply]
    by_cases h : d = src i c
    · subst h; rw [tgt_src, if_pos ⟨rfl, rfl⟩, if_pos rfl]
    · rw [if_neg h, if_neg]
      rintro ⟨h1, -⟩
      exact h (by rw [(recvCell_inj h1).1, src_tgt])
  · intro k _ hk
    rw [tallyAt_ne_cell (fun h => hk (recvCell_inj h).2.symm), Finsupp.zero_apply]
  · intro h; exact absurd (Finset.mem_univ _) h

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  rw [Finset.sum_congr rfl fun d _ => show O₀ d (barCell c) () = ∑ k : Fin 4, if d = bn k c then 1 else 0 from by
    unfold O₀; rw [Pi.add_apply, Finsupp.add_apply, owedFor_bar, owedBar_bar, Nat.zero_add]]
  rw [Finset.sum_comm, Finset.sum_congr rfl fun k _ => (Finset.sum_ite_eq' Finset.univ (bn k c) fun _ => 1).trans (if_pos (Finset.mem_univ _))]
  rfl
theorem launch_recv (c : Dev nD) (i : Xf) :
    tallyOn (recvCell c i) (launchCredit (Pipeline.owing O₀) 0 (recvCell c i)) = (tallyAt (recvCell c i) () (amtR i.2) : CellTallies nD τ sig Unit) := by
  unfold tallyAt; refine congrArg _ (Finsupp.ext fun u => ?_); cases u
  rw [Pipeline.launchCredit_owing, Finsupp.single_eq_same]
  rw [Finset.sum_congr rfl fun d _ => show O₀ d (recvCell c i) () = if d = src i c then amtR i.2 else 0 from by
    unfold O₀; rw [Pi.add_apply, Finsupp.add_apply, owedFor_recv, owedBar_recv, Nat.add_zero]]
  exact (Finset.sum_ite_eq' Finset.univ (src i c) fun _ => amtR i.2).trans (if_pos (Finset.mem_univ _))

theorem recvSem_injective : Function.Injective fun i : Xf => (SemLoc.dma (recvSem i) : SemLoc sig) := fun a b h =>
  Sum.inl.inj (ownSem_injective (a₁ := .inl a) (a₂ := .inl b) (SemLoc.dma.inj h))

/-- The credit a device is launched with. -/
def credits (c : Dev nD) : sProp 𝕄 :=
  iprop(cred (tallyAt (barCell c) () 4) ∗ bigSep Finset.univ fun i : Xf => cred (tallyAt (recvCell c i) () (amtR i.2)))

theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map ⟨fun i : Xf => (SemLoc.dma (recvSem i) : SemLoc sig), recvSem_injective⟩) ?_).trans ?_
  · intro s hs
    obtain ⟨i, -, rfl⟩ := Finset.mem_map.mp hs
    exact Finset.mem_erase.mpr ⟨(fun h => by have h' : (SemLoc.dma (recvSem i) : SemLoc sig) = SemLoc.reg barS := h; cases h'), Finset.mem_univ _⟩
  rw [bigSep_map]
  exact bigSep_mono fun i _ => Entails.of_eq (congrArg cred (launch_recv c i))

end Cert.Proof

end
-- ==== Proof.Assemble.lean ====
/-
A device's buffers and kits as column groups, at the start of the body and at its end.
-/
module

public import proofs.«01_k».proof.Proof.State
public import proofs.«01_k».proof.Proof.Tiles
public import proofs.«01_k».proof.Proof.Ghost

@[expose] public section

set_option maxRecDepth 4000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)
variable (K : Dev nD × Ck → ℕ) (c : Dev nD) (a1 : Memref sig .tc .vmem S1024x4096 .bf16) (a2 : Memref sig .tc .vmem S64x4096 .f32)

/-! ## Families over transfers and send slots, by column group -/

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_quad (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_two (Φ : Fin 2 → sProp 𝕄) : bigSep Finset.univ Φ = iprop(Φ 0 ∗ Φ 1) :=
  bigSep_univ_eq_bigSepL [0, 1] (by decide) (by decide) Φ
theorem bigSep_unit (Φ : Unit → sProp 𝕄) : bigSep Finset.univ Φ = Φ () := by
  rw [show (Finset.univ : Finset Unit) = {()} from rfl, bigSep_singleton]

theorem bigSep_own (Φ : Own → sProp 𝕄) : bigSep Finset.univ Φ
    = iprop((bigSep Finset.univ fun i : Xf => Φ (.inl i)) ∗ bigSep Finset.univ fun k : Sd => Φ (.inr k)) := bigSep_univ_sum Φ

/-- A family over transfers, at one column group. -/
def atXf (Φ : Xf → sProp 𝕄) (j : Fin 8) : sProp 𝕄 := iprop(Φ (j, 0) ∗ Φ (j, 1) ∗ Φ (j, 2) ∗ Φ (j, 3) ∗ Φ (j, 4))
/-- A family over send slots, at one column group. -/
def atSd (Φ : Sd → sProp 𝕄) (j : Fin 8) : sProp 𝕄 := iprop(Φ (j, 0) ∗ Φ (j, 1) ∗ Φ (j, 2) ∗ Φ (j, 3))

theorem bigSep_xf (Φ : Xf → sProp 𝕄) : bigSep Finset.univ Φ = bigSep Finset.univ fun j : Fin 8 => atXf Φ j := by
  rw [bigSep_univ_prod]
  exact bigSep_congr fun j _ => bigSep_five fun s => Φ (j, s)
theorem bigSep_sd (Φ : Sd → sProp 𝕄) : bigSep Finset.univ Φ = bigSep Finset.univ fun j : Fin 8 => atSd Φ j := by
  rw [bigSep_univ_prod]
  exact bigSep_congr fun j _ => bigSep_quad fun s => Φ (j, s)

/-! ## Buffers -/

/-- The ring's two send slots of a column group. -/
def SaPair (j : Fin 8) : sProp 𝕄 := iprop(owned c (mSa.access (rSa j 0)) ∗ owned c (mSa.access (rSa j 1)))

/-- The buffers of a column group, landing slots apart. -/
def Bufs (j : Fin 8) : sProp 𝕄 :=
  iprop(owned c (mArr.access (rCol j)) ∗ SaPair c j ∗ owned c (mRa.access (rRa j))
    ∗ owned c (mSb1.access (rB1 j)) ∗ owned c (mRb.access (rB1 j)) ∗ owned c (mSb2.access (rB2 j)))

/-- The kernel's scratch buffers. -/
def Scratch : sProp 𝕄 :=
  iprop(owned c mXb.view ∗ owned c mArr.view ∗ owned c mSa.view ∗ owned c mCa.view ∗ owned c mRa.view ∗ owned c mRb.view
    ∗ owned c mSb1.view ∗ owned c mCb1.view ∗ owned c mSb2.view ∗ owned c mCb2.view)

/-- The scratch buffers as the copy of the left operand, the landing slots and the column groups. -/
def Pieces : sProp 𝕄 :=
  iprop(owned c (mXb.access rXb) ∗ (bigSep Finset.univ fun i : Xf => landing c i) ∗ bigSep Finset.univ fun j : Fin 8 => Bufs c j)

theorem sa_eq : (bigSep Finset.univ fun p : Fin 8 × Fin 2 => owned (F := F) c (mSa.access (rSa p.1 p.2)))
    = bigSep Finset.univ fun j : Fin 8 => SaPair (F := F) c j := by
  rw [bigSep_univ_prod]
  exact bigSep_congr fun j _ => bigSep_two fun s => owned c (mSa.access (rSa j s))
theorem ca_eq : (bigSep Finset.univ fun p : Fin 8 × Fin 3 => owned (F := F) c (mCa.access (rCa p.1 p.2)))
    = bigSep Finset.univ fun j : Fin 8 => iprop(landing (F := F) c (j, 0) ∗ landing c (j, 1) ∗ landing c (j, 2)) := by
  rw [bigSep_univ_prod]
  refine bigSep_congr fun j _ => (bigSep_three fun s => owned c (mCa.access (rCa j s))).trans ?_
  rw [← owned_vCa, ← owned_vCa, ← owned_vCa]
  rfl
theorem cb1_eq : (bigSep Finset.univ fun j : Fin 8 => owned (F := F) c (mCb1.access (rB1 j)))
    = bigSep Finset.univ fun j : Fin 8 => landing (F := F) c (j, 3) :=
  bigSep_congr fun j _ => (owned_vCb1 c j).symm
theorem cb2_eq : (bigSep Finset.univ fun j : Fin 8 => owned (F := F) c (mCb2.access (rB2 j)))
    = bigSep Finset.univ fun j : Fin 8 => landing (F := F) c (j, 4) :=
  bigSep_congr fun j _ => (owned_vCb2 c j).symm

/-- The landing slots, from the landing buffers' slots. -/
theorem land_eq : (bigSep Finset.univ fun i : Xf => landing (F := F) c i)
    = iprop((bigSep Finset.univ fun j : Fin 8 => iprop(landing (F := F) c (j, 0) ∗ landing c (j, 1) ∗ landing c (j, 2)))
      ∗ (bigSep Finset.univ fun j : Fin 8 => landing c (j, 3)) ∗ bigSep Finset.univ fun j : Fin 8 => landing c (j, 4)) := by
  rw [bigSep_xf, ← bigSep_sep', ← bigSep_sep']
  have h1 (j : Fin 8) : (atXf (fun i => landing (F := F) c i) j : sProp 𝕄)
      ⊢ iprop((landing (F := F) c (j, 0) ∗ landing c (j, 1) ∗ landing c (j, 2)) ∗ landing c (j, 3) ∗ landing c (j, 4)) := by
    unfold atXf
    iintro ⟨H0, H1, H2, H3, H4⟩
    isplitl [H0 H1 H2]
    · isplitl [H0]; · iexact H0
      isplitl [H1] <;> iassumption
    isplitl [H3] <;> iassumption
  have h2 (j : Fin 8) : iprop((landing (F := F) c (j, 0) ∗ landing c (j, 1) ∗ landing c (j, 2)) ∗ landing c (j, 3) ∗ landing c (j, 4))
      ⊢ (atXf (fun i => landing (F := F) c i) j : sProp 𝕄) := by
    unfold atXf
    iintro ⟨⟨H0, H1, H2⟩, H3, H4⟩
    isplitl [H0]; · iexact H0
    isplitl [H1]; · iexact H1
    isplitl [H2]; · iexact H2
    isplitl [H3] <;> iassumption
  exact bigSep_congr fun j _ => BI.equiv_iff.mp ⟨h1 j, h2 j⟩

theorem scratch_split : Scratch (F := F) c ⊢ Pieces c := by
  unfold Scratch Pieces Bufs
  rw [bigSep_sep', bigSep_sep', bigSep_sep', bigSep_sep', bigSep_sep', land_eq, ← ca_eq, ← cb1_eq, ← cb2_eq, ← sa_eq]
  iintro ⟨HX, HA, HSa, HCa, HRa, HRb, HSb1, HCb1, HSb2, HCb2⟩
  isplitl [HX]
  · ihave H := (owned_split tile_Xb c mXb) $$ HX
    ihave H := (Entails.of_eq (bigSep_unit fun _ => owned (F := F) c (mXb.access rXb))) $$ H
    iexact H
  isplitl [HCa HCb1 HCb2]
  · isplitl [HCa]; · iapply (owned_split tile_Ca c mCa) $$ HCa
    isplitl [HCb1]; · iapply (owned_split tile_B1 c mCb1) $$ HCb1
    iapply (owned_split tile_B2 c mCb2) $$ HCb2
  isplitl [HA]; · iapply (owned_split tile_Col c mArr) $$ HA
  isplitl [HSa]; · iapply (owned_split tile_Sa c mSa) $$ HSa
  isplitl [HRa]; · iapply (owned_split tile_Ra c mRa) $$ HRa
  isplitl [HSb1]; · iapply (owned_split tile_B1 c mSb1) $$ HSb1
  isplitl [HRb]; · iapply (owned_split tile_B1 c mRb) $$ HRb
  iapply (owned_split tile_B2 c mSb2) $$ HSb2

theorem scratch_join [∀ e, Nonempty (Elt F e)] : Pieces (F := F) c ⊢ Scratch c := by
  unfold Scratch Pieces Bufs
  rw [bigSep_sep', bigSep_sep', bigSep_sep', bigSep_sep', bigSep_sep', land_eq, ← ca_eq, ← cb1_eq, ← cb2_eq, ← sa_eq]
  iintro ⟨HX, ⟨HCa, HCb1, HCb2⟩, HA, HSa, HRa, HSb1, HRb, HSb2⟩
  isplitl [HX]
  · iapply (owned_join tile_Xb c mXb)
    rw [bigSep_unit]
    iexact HX
  isplitl [HA]; · iapply (owned_join tile_Col c mArr) $$ HA
  isplitl [HSa]; · iapply (owned_join tile_Sa c mSa) $$ HSa
  isplitl [HCa]; · iapply (owned_join tile_Ca c mCa) $$ HCa
  isplitl [HRa]; · iapply (owned_join tile_Ra c mRa) $$ HRa
  isplitl [HRb]; · iapply (owned_join tile_B1 c mRb) $$ HRb
  isplitl [HSb1]; · iapply (owned_join tile_B1 c mSb1) $$ HSb1
  isplitl [HCb1]; · iapply (owned_join tile_B1 c mCb1) $$ HCb1
  isplitl [HSb2]; · iapply (owned_join tile_B2 c mSb2) $$ HSb2
  iapply (owned_join tile_B2 c mCb2) $$ HCb2

/-! ## The start -/

/-- Tokens, credits and positions of a column group. -/
def Kits (j : Fin 8) : sProp 𝕄 :=
  iprop(atXf (fun i => dutyTok ER (recvCell (tgt i c) i) 0 0) j ∗ atXf (fun i => cred (tallyAt (recvCell c i) () (amtR i.2))) j
    ∗ atXf (fun i => atPos ER (recvCell c i) 0 ∅ 0) j ∗ atSd (fun k => dutyTok ER (sendCell c k) 0 0) j
    ∗ dutyTok ER (sendCell c (j, 0)) 1 0 ∗ atSd (fun k => atPos ER (sendCell c k) 0 ∅ 0) j)

/-- A device's tokens, credits and positions, by column group, with the barrier's. -/
theorem kits_split : iprop(positions (F := F) c ∗ payToks c ∗ credits c)
    ⊢ iprop((atPos ER (barCell c) 0 ∅ 0 ∗ (bigSep Finset.univ fun d : Fin 4 => dutyTok ER (barCell (nb d c)) 0 d) ∗ cred (tallyAt (barCell c) () 4))
      ∗ bigSep Finset.univ fun j : Fin 8 => Kits c j) := by
  unfold positions payToks credits Kits
  rw [bigSep_opt, bigSep_own]
  simp only [bigSep_sep']
  simp only [← bigSep_xf, ← bigSep_sd]
  iintro ⟨⟨Hb, Hr, Hs⟩, ⟨Htb, Htr, Hts, Hts1⟩, Hcb, Hcr⟩
  isplitl [Hb Htb Hcb]
  · isplitl [Hb]; · iexact Hb
    isplitl [Htb] <;> iassumption
  isplitl [Htr]; · iexact Htr
  isplitl [Hcr]; · iexact Hcr
  isplitl [Hr]; · iexact Hr
  isplitl [Hts]; · iexact Hts
  isplitl [Hts1]; · iexact Hts1
  iexact Hs

/-- What the steps of a column group take, from its buffers, its kit and the landing slots it sends to. -/
theorem col_start (j : Fin 8) :
    iprop((Bufs c j ∗ owned c (a2.access (rOut j))) ∗ Kits c j ∗ atXf (fun i => landing (tgt i c) i) j) ⊢ Col X Y c a2 j 0 := by
  unfold Col Live
  rw [show (7 - 0 : ℕ) = 7 from rfl]
  simp only [TodoLast, Nat.reduceSub, Need, Nat.sub_self]
  unfold Bufs SaPair Kits atXf atSd Need0 Need1 Need2 Need3 Need4 Need5 Need6 sendKit recvKit sendPos
  rw [owned_vSa, owned_vSa, owned_vSb1, owned_vSb2]
  iintro ⟨⟨⟨HA, ⟨HS0, HS1⟩, HRa, HSb1, HRb, HSb2⟩, HO⟩, ⟨⟨Ht0, Ht1, Ht2, Ht3, Ht4⟩, ⟨Hc0, Hc1, Hc2, Hc3, Hc4⟩, ⟨Hp0, Hp1, Hp2, Hp3, Hp4⟩, ⟨Hs0, Hs1, Hs2, Hs3⟩, Hs01, ⟨Hq0, Hq1, Hq2, Hq3⟩⟩, ⟨Hl0, Hl1, Hl2, Hl3, Hl4⟩⟩
  isplitl [HA HS0 Ht0 Hl0 Hs0 Hc0 Hp0 HS1 Ht1 Hl1 Hs1 Hc1 Hp1 Hq0 Ht2 Hl2 Hs01 Hc2 Hp2 HRa HSb1 Ht3 Hl3 Hs2 Hc3 Hp3 HRb HSb2 Ht4 Hl4 Hs3 Hc4 Hp4 HO Hq1 Hq2 Hq3]
  · isplitl [HA HS0 Ht0 Hl0 Hs0]
    · isplitl [HA]
      · iexact HA
      isplitl [HS0]
      · iexact HS0
      isplitl [Ht0]
      · iexact Ht0
      isplitl [Hl0]
      · iexact Hl0
      iexact Hs0
    isplitl [Hc0 Hp0 HS1 Ht1 Hl1 Hs1]
    · isplitl [Hc0 Hp0]
      · isplitl [Hc0]
        · iexact Hc0
        iexact Hp0
      isplitl [HS1]
      · iexact HS1
      isplitl [Ht1]
      · iexact Ht1
      isplitl [Hl1]
      · iexact Hl1
      iexact Hs1
    isplitl [Hc1 Hp1 Hq0 Ht2 Hl2 Hs01]
    · isplitl [Hc1 Hp1]
      · isplitl [Hc1]
        · iexact Hc1
        iexact Hp1
      isplitl [Hq0]
      · iexact Hq0
      isplitl [Ht2]
      · iexact Ht2
      isplitl [Hl2]
      · iexact Hl2
      iexact Hs01
    isplitl [Hc2 Hp2 HRa HSb1 Ht3 Hl3 Hs2]
    · isplitl [Hc2 Hp2]
      · isplitl [Hc2]
        · iexact Hc2
        iexact Hp2
      isplitl [HRa]
      · iexact HRa
      isplitl [HSb1]
      · iexact HSb1
      isplitl [Ht3]
      · iexact Ht3
      isplitl [Hl3]
      · iexact Hl3
      iexact Hs2
    isplitl [Hc3 Hp3 HRb HSb2 Ht4 Hl4 Hs3]
    · isplitl [Hc3 Hp3]
      · isplitl [Hc3]
        · iexact Hc3
        iexact Hp3
      isplitl [HRb]
      · iexact HRb
      isplitl [HSb2]
      · iexact HSb2
      isplitl [Ht4]
      · iexact Ht4
      isplitl [Hl4]
      · iexact Hl4
      iexact Hs3
    isplitl [Hc4 Hp4 HO]
    · isplitl [Hc4 Hp4]
      · isplitl [Hc4]
        · iexact Hc4
        iexact Hp4
      iexact HO
    isplitl [Hq1 Hq2 Hq3]
    · isplitl [Hq1]
      · iexact Hq1
      isplitl [Hq2]
      · iexact Hq2
      iexact Hq3
    iempintro
  iempintro

/-! ## The end -/

/-- The round a device's own cell ends at. -/
def lastRound : Own → ℕ
  | .inl _ => 1
  | .inr k => if k.2 = 0 then 2 else 1
def endPos (k : Own) : sProp 𝕄 := atPos ER (kcell (c, some k)) (lastRound k) ∅ 0

theorem landed_landing (i : Xf) : landed X Y c i ⊢ landing c i := by
  unfold landed landing
  split <;> exact holds_owned _ _ _

/-- What a column group ends with. -/
theorem col_end (j : Fin 8) : Col X Y c a2 j 7
    ⊢ iprop((Bufs c j ∗ holds c (a2.access (rOut j)) (resultCol X Y c j)) ∗ atXf (fun i => landing c i) j
      ∗ atXf (fun i => endPos c (.inl i)) j ∗ atSd (fun k => endPos c (.inr k)) j) := by
  rw [show Col X Y c a2 j 7 = iprop(emp ∗ Live7 X Y c a2 j) from rfl]
  unfold Live7 Bufs SaPair atXf atSd
  rw [← owned_vSa, ← owned_vSa, ← owned_vSb1, ← owned_vSb2]
  rw [show Done X Y c j 0 = iprop(endPos c (.inl (j, 0)) ∗ landed X Y c (j, 0)) from rfl,
    show Done X Y c j 1 = iprop(endPos c (.inl (j, 1)) ∗ landed X Y c (j, 1)) from rfl,
    show Done X Y c j 2 = iprop(endPos c (.inl (j, 2)) ∗ landed X Y c (j, 2)) from rfl,
    show Done X Y c j 3 = iprop(endPos c (.inl (j, 3)) ∗ landed X Y c (j, 3)) from rfl,
    show Done X Y c j 4 = iprop(endPos c (.inl (j, 4)) ∗ landed X Y c (j, 4)) from rfl,
    show sendSlot (F := F) c (j, 0) = owned c (vSa j 0).view from rfl, show (sendPos (F := F) c (j, 0) 2) = endPos c (.inr (j, 0)) from rfl,
    show sendSlot (F := F) c (j, 1) = owned c (vSa j 1).view from rfl, show (sendPos (F := F) c (j, 1) 1) = endPos c (.inr (j, 1)) from rfl,
    show sendSlot (F := F) c (j, 2) = owned c (vSb1 j).view from rfl, show (sendPos (F := F) c (j, 2) 1) = endPos c (.inr (j, 2)) from rfl,
    show sendSlot (F := F) c (j, 3) = owned c (vSb2 j).view from rfl, show (sendPos (F := F) c (j, 3) 1) = endPos c (.inr (j, 3)) from rfl]
  iintro ⟨-, ⟨⟨Hp0, Hl0⟩, ⟨Hp1, Hl1⟩, ⟨Hp2, Hl2⟩, ⟨Hp3, Hl3⟩, ⟨Hp4, Hl4⟩⟩, ⟨Hq0, Hq1, Hq2, Hq3⟩, ⟨Hs0, Hs1, Hs2, Hs3⟩, HA, HRa, HRb, HO⟩
  isplitl [HA Hs0 Hs1 HRa Hs2 HRb Hs3 HO]
  · isplitl [HA Hs0 Hs1 HRa Hs2 HRb Hs3]
    · isplitl [HA]
      · unfold ArrIs; iapply (holds_owned c _ _) $$ HA
      isplitl [Hs0 Hs1]
      · isplitl [Hs0]
        · iexact Hs0
        iexact Hs1
      isplitl [HRa]
      · unfold RaIs; iapply (holds_owned c _ _) $$ HRa
      isplitl [Hs2]
      · iexact Hs2
      isplitl [HRb]
      · unfold RbIs; iapply (holds_owned c _ _) $$ HRb
      iexact Hs3
    iexact HO
  isplitl [Hl0 Hl1 Hl2 Hl3 Hl4]
  · isplitl [Hl0]
    · iapply (landed_landing X Y c (j, 0)) $$ Hl0
    isplitl [Hl1]
    · iapply (landed_landing X Y c (j, 1)) $$ Hl1
    isplitl [Hl2]
    · iapply (landed_landing X Y c (j, 2)) $$ Hl2
    isplitl [Hl3]
    · iapply (landed_landing X Y c (j, 3)) $$ Hl3
    iapply (landed_landing X Y c (j, 4)) $$ Hl4
  isplitl [Hp0 Hp1 Hp2 Hp3 Hp4]
  · isplitl [Hp0]
    · iexact Hp0
    isplitl [Hp1]
    · iexact Hp1
    isplitl [Hp2]
    · iexact Hp2
    isplitl [Hp3]
    · iexact Hp3
    iexact Hp4
  isplitl [Hq0]
  · iexact Hq0
  isplitl [Hq1]
  · iexact Hq1
  isplitl [Hq2]
  · iexact Hq2
  iexact Hq3

/-- The last round of a cell has no duty after it. -/
theorem end_close (k : Own) : iprop(records X Y K ∗ endPos c k) ⊢ |={Set.univ}=> semVal (kcell (c, some k)) 0 := by
  have later : ∀ r, lastRound k ≤ r → (rd X Y).duties (kcell (c, some k)) r = ∅ := by
    rcases k with i | ⟨j, s⟩
    · exact duties_recv_later X Y c i
    · by_cases hs : s = 0
      · subst hs; exact duties_send0_later X Y c j
      · intro r hr
        exact duties_send_later X Y c (j, s) hs r (by simpa [lastRound, hs] using hr)
  unfold endPos
  iintro ⟨#HR, HP⟩
  ihave HI := (rec_inv X Y K (c, some k)) $$ HR
  iapply (Rounds.cell_close ER (rd X Y) (Set.mem_univ (K (c, some k))) (fun h => h) later)
  isplitl [HI] <;> iassumption
theorem bar_close : iprop(records X Y K ∗ atPos ER (barCell c) 1 ∅ 0) ⊢ |={Set.univ}=> semVal (kcell (c, none)) 0 := by
  show _ ⊢ |={Set.univ}=> semVal (barCell c) 0
  iintro ⟨#HR, HP⟩
  ihave HI := (show records X Y K ⊢ cellInv ER (rd X Y) (K (c, none)) (barCell c) from rec_inv X Y K (c, none)) $$ HR
  iapply (Rounds.cell_close ER (rd X Y) (Set.mem_univ (K (c, none))) (fun h => h) (duties_bar_later X Y c))
  isplitl [HI] <;> iassumption

/-- All cells of a device close. -/
theorem all_close : iprop(records X Y K ∗ atPos ER (barCell c) 1 ∅ 0 ∗ bigSep Finset.univ fun k : Own => endPos c k)
    ⊢ |={Set.univ}=> bigSep Finset.univ fun k : Ck => semVal (kcell (c, k)) 0 := by
  rw [bigSep_opt]
  iintro ⟨#HR, HB, HP⟩
  imod (bar_close X Y K c) $$ [HB] with HB
  · isplitr; · iexact HR
    iexact HB
  ihave H := (bigSep_with (R := records X Y K) (S := (Finset.univ : Finset Own)) (Φ := fun k => endPos c k)
    (Ψ := fun k => iprop(|={Set.univ}=> semVal (kcell (c, some k)) 0)) fun k _ => end_close X Y K c k) $$ [HP]
  · isplitr; · iexact HR
    iexact HP
  imod (bigSep_fupd (Finset.univ : Finset Own) fun k => semVal (kcell (c, some k)) 0) $$ H with H
  imodintro
  isplitl [HB] <;> iassumption

end Cert.Proof

end
-- ==== Proof.Printed.lean ====
/-
Each device and offset the program computes, as the neighbour, part, block or half it is.
-/
module

public import proofs.«01_k».proof.Proof.Topology

@[expose] public section

noncomputable section

namespace Cert.Proof

open Cert.KernelIdeal Cert.KernelIdeal.Gen
open Idealize.ShloMosaic Idealize.ShloMosaic.TcCoe

variable (c : Dev nD)

theorem off1_0 : k0_off1 c (BitVec.ofNat 32 0) = arrOff 4 (sidx 4 c 0) := by revert c; decide +kernel
theorem dev5 : (⟨k0_dev5 c, k0_dev5_lt c⟩ : Dev nD) = tgt (4, 0) c := by revert c; decide +kernel
theorem off2_0 : k0_off2 c (BitVec.ofNat 32 0) = arrOff 5 (sidx 5 c 0) := by revert c; decide +kernel
theorem dev6 : (⟨k0_dev6 c, k0_dev6_lt c⟩ : Dev nD) = tgt (5, 0) c := by revert c; decide +kernel
theorem off3_0 : k0_off3 c (BitVec.ofNat 32 0) = arrOff 0 (sidx 0 c 0) := by revert c; decide +kernel
theorem dev7 : (⟨k0_dev7 c, k0_dev7_lt c⟩ : Dev nD) = tgt (0, 0) c := by revert c; decide +kernel
theorem off4_0 : k0_off4 c (BitVec.ofNat 32 0) = arrOff 1 (sidx 1 c 0) := by revert c; decide +kernel
theorem dev8 : (⟨k0_dev8 c, k0_dev8_lt c⟩ : Dev nD) = tgt (1, 0) c := by revert c; decide +kernel
theorem off5_0 : k0_off5 c (BitVec.ofNat 32 0) = arrOff 6 (sidx 6 c 0) := by revert c; decide +kernel
theorem dev9 : (⟨k0_dev9 c, k0_dev9_lt c⟩ : Dev nD) = tgt (6, 0) c := by revert c; decide +kernel
theorem off6_0 : k0_off6 c (BitVec.ofNat 32 0) = arrOff 7 (sidx 7 c 0) := by revert c; decide +kernel
theorem dev10 : (⟨k0_dev10 c, k0_dev10_lt c⟩ : Dev nD) = tgt (7, 0) c := by revert c; decide +kernel
theorem off1_1 : k0_off1 c (BitVec.ofNat 32 1) = arrOff 4 (sidx 4 c 1) := by revert c; decide +kernel
theorem dev11 : (⟨k0_dev11 c, k0_dev11_lt c⟩ : Dev nD) = tgt (4, 1) c := by revert c; decide +kernel
theorem off2_1 : k0_off2 c (BitVec.ofNat 32 1) = arrOff 5 (sidx 5 c 1) := by revert c; decide +kernel
theorem dev12 : (⟨k0_dev12 c, k0_dev12_lt c⟩ : Dev nD) = tgt (5, 1) c := by revert c; decide +kernel
theorem off7_0 : k0_off7 c (BitVec.ofNat 32 0) = arrOff 2 (sidx 2 c 0) := by revert c; decide +kernel
theorem dev13 : (⟨k0_dev13 c, k0_dev13_lt c⟩ : Dev nD) = tgt (2, 0) c := by revert c; decide +kernel
theorem off8_0 : k0_off8 c (BitVec.ofNat 32 0) = arrOff 3 (sidx 3 c 0) := by revert c; decide +kernel
theorem dev14 : (⟨k0_dev14 c, k0_dev14_lt c⟩ : Dev nD) = tgt (3, 0) c := by revert c; decide +kernel
theorem off3_1 : k0_off3 c (BitVec.ofNat 32 1) = arrOff 0 (sidx 0 c 1) := by revert c; decide +kernel
theorem dev15 : (⟨k0_dev15 c, k0_dev15_lt c⟩ : Dev nD) = tgt (0, 1) c := by revert c; decide +kernel
theorem off4_1 : k0_off4 c (BitVec.ofNat 32 1) = arrOff 1 (sidx 1 c 1) := by revert c; decide +kernel
theorem dev16 : (⟨k0_dev16 c, k0_dev16_lt c⟩ : Dev nD) = tgt (1, 1) c := by revert c; decide +kernel
theorem off1_2 : k0_off1 c (BitVec.ofNat 32 2) = arrOff 4 (sidx 4 c 2) := by revert c; decide +kernel
theorem dev17 : (⟨k0_dev17 c, k0_dev17_lt c⟩ : Dev nD) = tgt (4, 2) c := by revert c; decide +kernel
theorem off2_2 : k0_off2 c (BitVec.ofNat 32 2) = arrOff 5 (sidx 5 c 2) := by revert c; decide +kernel
theorem dev18 : (⟨k0_dev18 c, k0_dev18_lt c⟩ : Dev nD) = tgt (5, 2) c := by revert c; decide +kernel
theorem off5_1 : k0_off5 c (BitVec.ofNat 32 1) = arrOff 6 (sidx 6 c 1) := by revert c; decide +kernel
theorem dev19 : (⟨k0_dev19 c, k0_dev19_lt c⟩ : Dev nD) = tgt (6, 1) c := by revert c; decide +kernel
theorem off6_1 : k0_off6 c (BitVec.ofNat 32 1) = arrOff 7 (sidx 7 c 1) := by revert c; decide +kernel
theorem dev20 : (⟨k0_dev20 c, k0_dev20_lt c⟩ : Dev nD) = tgt (7, 1) c := by revert c; decide +kernel
theorem off3_2 : k0_off3 c (BitVec.ofNat 32 2) = arrOff 0 (sidx 0 c 2) := by revert c; decide +kernel
theorem dev21 : (⟨k0_dev21 c, k0_dev21_lt c⟩ : Dev nD) = tgt (0, 2) c := by revert c; decide +kernel
theorem off4_2 : k0_off4 c (BitVec.ofNat 32 2) = arrOff 1 (sidx 1 c 2) := by revert c; decide +kernel
theorem dev22 : (⟨k0_dev22 c, k0_dev22_lt c⟩ : Dev nD) = tgt (1, 2) c := by revert c; decide +kernel
theorem off7_1 : k0_off7 c (BitVec.ofNat 32 1) = arrOff 2 (sidx 2 c 1) := by revert c; decide +kernel
theorem dev23 : (⟨k0_dev23 c, k0_dev23_lt c⟩ : Dev nD) = tgt (2, 1) c := by revert c; decide +kernel
theorem off8_1 : k0_off8 c (BitVec.ofNat 32 1) = arrOff 3 (sidx 3 c 1) := by revert c; decide +kernel
theorem dev24 : (⟨k0_dev24 c, k0_dev24_lt c⟩ : Dev nD) = tgt (3, 1) c := by revert c; decide +kernel
theorem off1_3 : k0_off1 c (BitVec.ofNat 32 3) = arrOff 4 (sidx 4 c 3) := by revert c; decide +kernel
theorem dev25 : (⟨k0_dev25 c, k0_dev25_lt c⟩ : Dev nD) = tgt (4, 3) c := by revert c; decide +kernel
theorem off9 : k0_off9 c = blkOff 4 (sendBlk 4 c 0) := by revert c; decide +kernel
theorem off10 : k0_off10 c = blkOff 4 (sendBlk 4 c 1) := by revert c; decide +kernel
theorem off2_3 : k0_off2 c (BitVec.ofNat 32 3) = arrOff 5 (sidx 5 c 3) := by revert c; decide +kernel
theorem dev26 : (⟨k0_dev26 c, k0_dev26_lt c⟩ : Dev nD) = tgt (5, 3) c := by revert c; decide +kernel
theorem off11 : k0_off11 c = blkOff 5 (sendBlk 5 c 0) := by revert c; decide +kernel
theorem off12 : k0_off12 c = blkOff 5 (sendBlk 5 c 1) := by revert c; decide +kernel
theorem off5_2 : k0_off5 c (BitVec.ofNat 32 2) = arrOff 6 (sidx 6 c 2) := by revert c; decide +kernel
theorem dev27 : (⟨k0_dev27 c, k0_dev27_lt c⟩ : Dev nD) = tgt (6, 2) c := by revert c; decide +kernel
theorem off6_2 : k0_off6 c (BitVec.ofNat 32 2) = arrOff 7 (sidx 7 c 2) := by revert c; decide +kernel
theorem dev28 : (⟨k0_dev28 c, k0_dev28_lt c⟩ : Dev nD) = tgt (7, 2) c := by revert c; decide +kernel
theorem off3_3 : k0_off3 c (BitVec.ofNat 32 3) = arrOff 0 (sidx 0 c 3) := by revert c; decide +kernel
theorem dev29 : (⟨k0_dev29 c, k0_dev29_lt c⟩ : Dev nD) = tgt (0, 3) c := by revert c; decide +kernel
theorem off13 : k0_off13 c = blkOff 0 (sendBlk 0 c 0) := by revert c; decide +kernel
theorem off14 : k0_off14 c = blkOff 0 (sendBlk 0 c 1) := by revert c; decide +kernel
theorem off4_3 : k0_off4 c (BitVec.ofNat 32 3) = arrOff 1 (sidx 1 c 3) := by revert c; decide +kernel
theorem dev30 : (⟨k0_dev30 c, k0_dev30_lt c⟩ : Dev nD) = tgt (1, 3) c := by revert c; decide +kernel
theorem off15 : k0_off15 c = blkOff 1 (sendBlk 1 c 0) := by revert c; decide +kernel
theorem off16 : k0_off16 c = blkOff 1 (sendBlk 1 c 1) := by revert c; decide +kernel
theorem off7_2 : k0_off7 c (BitVec.ofNat 32 2) = arrOff 2 (sidx 2 c 2) := by revert c; decide +kernel
theorem dev31 : (⟨k0_dev31 c, k0_dev31_lt c⟩ : Dev nD) = tgt (2, 2) c := by revert c; decide +kernel
theorem off8_2 : k0_off8 c (BitVec.ofNat 32 2) = arrOff 3 (sidx 3 c 2) := by revert c; decide +kernel
theorem dev32 : (⟨k0_dev32 c, k0_dev32_lt c⟩ : Dev nD) = tgt (3, 2) c := by revert c; decide +kernel
theorem dev33 : (⟨k0_dev33 c, k0_dev33_lt c⟩ : Dev nD) = tgt (4, 4) c := by revert c; decide +kernel
theorem off17 : k0_off17 c = blkOff 4 (keepBlk 4 c 0) := by revert c; decide +kernel
theorem off18 : k0_off18 c = blkOff 4 (keepBlk 4 c 1) := by revert c; decide +kernel
theorem off19 : k0_off19 c = halfOff 4 (sendHalf c) := by revert c; decide +kernel
theorem dev34 : (⟨k0_dev34 c, k0_dev34_lt c⟩ : Dev nD) = tgt (5, 4) c := by revert c; decide +kernel
theorem off20 : k0_off20 c = blkOff 5 (keepBlk 5 c 0) := by revert c; decide +kernel
theorem off21 : k0_off21 c = blkOff 5 (keepBlk 5 c 1) := by revert c; decide +kernel
theorem off22 : k0_off22 c = halfOff 5 (sendHalf c) := by revert c; decide +kernel
theorem off5_3 : k0_off5 c (BitVec.ofNat 32 3) = arrOff 6 (sidx 6 c 3) := by revert c; decide +kernel
theorem dev35 : (⟨k0_dev35 c, k0_dev35_lt c⟩ : Dev nD) = tgt (6, 3) c := by revert c; decide +kernel
theorem off23 : k0_off23 c = blkOff 6 (sendBlk 6 c 0) := by revert c; decide +kernel
theorem off24 : k0_off24 c = blkOff 6 (sendBlk 6 c 1) := by revert c; decide +kernel
theorem off6_3 : k0_off6 c (BitVec.ofNat 32 3) = arrOff 7 (sidx 7 c 3) := by revert c; decide +kernel
theorem dev36 : (⟨k0_dev36 c, k0_dev36_lt c⟩ : Dev nD) = tgt (7, 3) c := by revert c; decide +kernel
theorem off25 : k0_off25 c = blkOff 7 (sendBlk 7 c 0) := by revert c; decide +kernel
theorem off26 : k0_off26 c = blkOff 7 (sendBlk 7 c 1) := by revert c; decide +kernel
theorem dev37 : (⟨k0_dev37 c, k0_dev37_lt c⟩ : Dev nD) = tgt (0, 4) c := by revert c; decide +kernel
theorem off27 : k0_off27 c = blkOff 0 (keepBlk 0 c 0) := by revert c; decide +kernel
theorem off28 : k0_off28 c = blkOff 0 (keepBlk 0 c 1) := by revert c; decide +kernel
theorem off29 : k0_off29 c = halfOff 0 (sendHalf c) := by revert c; decide +kernel
theorem dev38 : (⟨k0_dev38 c, k0_dev38_lt c⟩ : Dev nD) = tgt (1, 4) c := by revert c; decide +kernel
theorem off30 : k0_off30 c = blkOff 1 (keepBlk 1 c 0) := by revert c; decide +kernel
theorem off31 : k0_off31 c = blkOff 1 (keepBlk 1 c 1) := by revert c; decide +kernel
theorem off32 : k0_off32 c = halfOff 1 (sendHalf c) := by revert c; decide +kernel
theorem off7_3 : k0_off7 c (BitVec.ofNat 32 3) = arrOff 2 (sidx 2 c 3) := by revert c; decide +kernel
theorem dev39 : (⟨k0_dev39 c, k0_dev39_lt c⟩ : Dev nD) = tgt (2, 3) c := by revert c; decide +kernel
theorem off33 : k0_off33 c = blkOff 2 (sendBlk 2 c 0) := by revert c; decide +kernel
theorem off34 : k0_off34 c = blkOff 2 (sendBlk 2 c 1) := by revert c; decide +kernel
theorem off8_3 : k0_off8 c (BitVec.ofNat 32 3) = arrOff 3 (sidx 3 c 3) := by revert c; decide +kernel
theorem dev40 : (⟨k0_dev40 c, k0_dev40_lt c⟩ : Dev nD) = tgt (3, 3) c := by revert c; decide +kernel
theorem off35 : k0_off35 c = blkOff 3 (sendBlk 3 c 0) := by revert c; decide +kernel
theorem off36 : k0_off36 c = blkOff 3 (sendBlk 3 c 1) := by revert c; decide +kernel
theorem off37 : k0_off37 c = halfOff 4 (high c) := by revert c; decide +kernel
theorem off38 : k0_off38 c = halfOff 5 (high c) := by revert c; decide +kernel
theorem dev41 : (⟨k0_dev41 c, k0_dev41_lt c⟩ : Dev nD) = tgt (6, 4) c := by revert c; decide +kernel
theorem off39 : k0_off39 c = blkOff 6 (keepBlk 6 c 0) := by revert c; decide +kernel
theorem off40 : k0_off40 c = blkOff 6 (keepBlk 6 c 1) := by revert c; decide +kernel
theorem off41 : k0_off41 c = halfOff 6 (sendHalf c) := by revert c; decide +kernel
theorem dev42 : (⟨k0_dev42 c, k0_dev42_lt c⟩ : Dev nD) = tgt (7, 4) c := by revert c; decide +kernel
theorem off42 : k0_off42 c = blkOff 7 (keepBlk 7 c 0) := by revert c; decide +kernel
theorem off43 : k0_off43 c = blkOff 7 (keepBlk 7 c 1) := by revert c; decide +kernel
theorem off44 : k0_off44 c = halfOff 7 (sendHalf c) := by revert c; decide +kernel
theorem off45 : k0_off45 c = halfOff 0 (high c) := by revert c; decide +kernel
theorem off46 : k0_off46 c = halfOff 1 (high c) := by revert c; decide +kernel
theorem dev43 : (⟨k0_dev43 c, k0_dev43_lt c⟩ : Dev nD) = tgt (2, 4) c := by revert c; decide +kernel
theorem off47 : k0_off47 c = blkOff 2 (keepBlk 2 c 0) := by revert c; decide +kernel
theorem off48 : k0_off48 c = blkOff 2 (keepBlk 2 c 1) := by revert c; decide +kernel
theorem off49 : k0_off49 c = halfOff 2 (sendHalf c) := by revert c; decide +kernel
theorem dev44 : (⟨k0_dev44 c, k0_dev44_lt c⟩ : Dev nD) = tgt (3, 4) c := by revert c; decide +kernel
theorem off50 : k0_off50 c = blkOff 3 (keepBlk 3 c 0) := by revert c; decide +kernel
theorem off51 : k0_off51 c = blkOff 3 (keepBlk 3 c 1) := by revert c; decide +kernel
theorem off52 : k0_off52 c = halfOff 3 (sendHalf c) := by revert c; decide +kernel
theorem off53 : k0_off53 c = halfOff 6 (high c) := by revert c; decide +kernel
theorem off54 : k0_off54 c = halfOff 7 (high c) := by revert c; decide +kernel
theorem off55 : k0_off55 c = halfOff 2 (high c) := by revert c; decide +kernel
theorem off56 : k0_off56 c = halfOff 3 (high c) := by revert c; decide +kernel

end Cert.Proof

end
-- ==== Proof.Chain.lean ====
/-
The steps after the barrier, one after the other: from every column group before its first step to every
column group past its last.
-/
module

public import proofs.«01_k».proof.Proof.State
public import proofs.«01_k».proof.Proof.Printed

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)
variable (K : Dev nD × Ck → ℕ) (c : Dev nD) (a0 : Memref sig .tc .vmem S1024x1024 .bf16) (a1 : Memref sig .tc .vmem S1024x4096 .bf16)
variable (a2 : Memref sig .tc .vmem S64x4096 .f32)

/-- After the barrier, a device brings every column group to its end. -/
theorem wp_steps (h2 : a2.IsWhole) {P R : sProp 𝕄} (hhead : P ⊢ wpc c (headStep a0 c) fun _ => iprop(St X Y K c a1 a2 ![0, 0, 0, 0, 0, 0, 0, 0] ∗ R)) :
    P ⊢ wpc c (steps a0 a1 a2 h2 c) fun _ => iprop(St X Y K c a1 a2 ![7, 7, 7, 7, 7, 7, 7, 7] ∗ R) := by
  unfold steps
  refine wpc_seq c hhead ?_
  refine wpc_aside c ?_
  refine wpc_seq c (step_gemm X Y K c a1 a2 4 ![0, 0, 0, 0, 0, 0, 0, 0] ![0, 0, 0, 0, 1, 0, 0, 0] _ _ _ (off1_0 c) (dev5 c) rfl (by decide)) ?_
  refine wpc_seq c (step_gemm X Y K c a1 a2 5 ![0, 0, 0, 0, 1, 0, 0, 0] ![0, 0, 0, 0, 1, 1, 0, 0] _ _ _ (off2_0 c) (dev6 c) rfl (by decide)) ?_
  refine wpc_seq c (step_gemm X Y K c a1 a2 0 ![0, 0, 0, 0, 1, 1, 0, 0] ![1, 0, 0, 0, 1, 1, 0, 0] _ _ _ (off3_0 c) (dev7 c) rfl (by decide)) ?_
  refine wpc_seq c (step_gemm X Y K c a1 a2 1 ![1, 0, 0, 0, 1, 1, 0, 0] ![1, 1, 0, 0, 1, 1, 0, 0] _ _ _ (off4_0 c) (dev8 c) rfl (by decide)) ?_
  refine wpc_seq c (step_gemm X Y K c a1 a2 6 ![1, 1, 0, 0, 1, 1, 0, 0] ![1, 1, 0, 0, 1, 1, 1, 0] _ _ _ (off5_0 c) (dev9 c) rfl (by decide)) ?_
  refine wpc_seq c (step_gemm X Y K c a1 a2 7 ![1, 1, 0, 0, 1, 1, 1, 0] ![1, 1, 0, 0, 1, 1, 1, 1] _ _ _ (off6_0 c) (dev10 c) rfl (by decide)) ?_
  refine wpc_seq c (step_hop0 X Y K c a1 a2 4 ![1, 1, 0, 0, 1, 1, 1, 1] ![1, 1, 0, 0, 2, 1, 1, 1] _ _ _ (off1_1 c) (dev11 c) rfl (by decide) (by decide)) ?_
  refine wpc_seq c (step_hop0 X Y K c a1 a2 5 ![1, 1, 0, 0, 2, 1, 1, 1] ![1, 1, 0, 0, 2, 2, 1, 1] _ _ _ (off2_1 c) (dev12 c) rfl (by decide) (by decide)) ?_
  refine wpc_seq c (step_gemm X Y K c a1 a2 2 ![1, 1, 0, 0, 2, 2, 1, 1] ![1, 1, 1, 0, 2, 2, 1, 1] _ _ _ (off7_0 c) (dev13 c) rfl (by decide)) ?_
  refine wpc_seq c (step_gemm X Y K c a1 a2 3 ![1, 1, 1, 0, 2, 2, 1, 1] ![1, 1, 1, 1, 2, 2, 1, 1] _ _ _ (off8_0 c) (dev14 c) rfl (by decide)) ?_
  refine wpc_seq c (step_hop0 X Y K c a1 a2 0 ![1, 1, 1, 1, 2, 2, 1, 1] ![2, 1, 1, 1, 2, 2, 1, 1] _ _ _ (off3_1 c) (dev15 c) rfl (by decide) (by decide)) ?_
  refine wpc_seq c (step_hop0 X Y K c a1 a2 1 ![2, 1, 1, 1, 2, 2, 1, 1] ![2, 2, 1, 1, 2, 2, 1, 1] _ _ _ (off4_1 c) (dev16 c) rfl (by decide) (by decide)) ?_
  refine wpc_seq c (step_hop1 X Y K c a1 a2 4 ![2, 2, 1, 1, 2, 2, 1, 1] ![2, 2, 1, 1, 3, 2, 1, 1] _ _ _ (off1_2 c) (dev17 c) rfl (by decide) (by decide)) ?_
  refine wpc_seq c (step_hop1 X Y K c a1 a2 5 ![2, 2, 1, 1, 3, 2, 1, 1] ![2, 2, 1, 1, 3, 3, 1, 1] _ _ _ (off2_2 c) (dev18 c) rfl (by decide) (by decide)) ?_
  refine wpc_seq c (step_hop0 X Y K c a1 a2 6 ![2, 2, 1, 1, 3, 3, 1, 1] ![2, 2, 1, 1, 3, 3, 2, 1] _ _ _ (off5_1 c) (dev19 c) rfl (by decide) (by decide)) ?_
  refine wpc_seq c (step_hop0 X Y K c a1 a2 7 ![2, 2, 1, 1, 3, 3, 2, 1] ![2, 2, 1, 1, 3, 3, 2, 2] _ _ _ (off6_1 c) (dev20 c) rfl (by decide) (by decide)) ?_
  refine wpc_seq c (step_hop1 X Y K c a1 a2 0 ![2, 2, 1, 1, 3, 3, 2, 2] ![3, 2, 1, 1, 3, 3, 2, 2] _ _ _ (off3_2 c) (dev21 c) rfl (by decide) (by decide)) ?_
  refine wpc_seq c (step_hop1 X Y K c a1 a2 1 ![3, 2, 1, 1, 3, 3, 2, 2] ![3, 3, 1, 1, 3, 3, 2, 2] _ _ _ (off4_2 c) (dev22 c) rfl (by decide) (by decide)) ?_
  refine wpc_seq c (step_hop0 X Y K c a1 a2 2 ![3, 3, 1, 1, 3, 3, 2, 2] ![3, 3, 2, 1, 3, 3, 2, 2] _ _ _ (off7_1 c) (dev23 c) rfl (by decide) (by decide)) ?_
  refine wpc_seq c (step_hop0 X Y K c a1 a2 3 ![3, 3, 2, 1, 3, 3, 2, 2] ![3, 3, 2, 2, 3, 3, 2, 2] _ _ _ (off8_1 c) (dev24 c) rfl (by decide) (by decide)) ?_
  refine wpc_seq c (step_hop2 X Y K c a1 a2 4 ![3, 3, 2, 2, 3, 3, 2, 2] ![3, 3, 2, 2, 4, 3, 2, 2] _ _ _ _ _ _ _ (off1_3 c) (off9 c) (off10 c) (dev25 c) rfl (by decide) (by decide)) ?_
  refine wpc_seq c (step_hop2 X Y K c a1 a2 5 ![3, 3, 2, 2, 4, 3, 2, 2] ![3, 3, 2, 2, 4, 4, 2, 2] _ _ _ _ _ _ _ (off2_3 c) (off11 c) (off12 c) (dev26 c) rfl (by decide) (by decide)) ?_
  refine wpc_seq c (step_hop1 X Y K c a1 a2 6 ![3, 3, 2, 2, 4, 4, 2, 2] ![3, 3, 2, 2, 4, 4, 3, 2] _ _ _ (off5_2 c) (dev27 c) rfl (by decide) (by decide)) ?_
  refine wpc_seq c (step_hop1 X Y K c a1 a2 7 ![3, 3, 2, 2, 4, 4, 3, 2] ![3, 3, 2, 2, 4, 4, 3, 3] _ _ _ (off6_2 c) (dev28 c) rfl (by decide) (by decide)) ?_
  refine wpc_seq c (step_hop2 X Y K c a1 a2 0 ![3, 3, 2, 2, 4, 4, 3, 3] ![4, 3, 2, 2, 4, 4, 3, 3] _ _ _ _ _ _ _ (off3_3 c) (off13 c) (off14 c) (dev29 c) rfl (by decide) (by decide)) ?_
  refine wpc_seq c (step_hop2 X Y K c a1 a2 1 ![4, 3, 2, 2, 4, 4, 3, 3] ![4, 4, 2, 2, 4, 4, 3, 3] _ _ _ _ _ _ _ (off4_3 c) (off15 c) (off16 c) (dev30 c) rfl (by decide) (by decide)) ?_
  refine wpc_seq c (step_hop1 X Y K c a1 a2 2 ![4, 4, 2, 2, 4, 4, 3, 3] ![4, 4, 3, 2, 4, 4, 3, 3] _ _ _ (off7_2 c) (dev31 c) rfl (by decide) (by decide)) ?_
  refine wpc_seq c (step_hop1 X Y K c a1 a2 3 ![4, 4, 3, 2, 4, 4, 3, 3] ![4, 4, 3, 3, 4, 4, 3, 3] _ _ _ (off8_2 c) (dev32 c) rfl (by decide) (by decide)) ?_
  refine wpc_seq c (step_fold X Y K c a1 a2 4 ![4, 4, 3, 3, 4, 4, 3, 3] ![4, 4, 3, 3, 5, 4, 3, 3] _ _ _ _ _ _ _ (off17 c) (off18 c) (off19 c) (dev33 c) rfl (by decide) (by decide)) ?_
  refine wpc_seq c (step_fold X Y K c a1 a2 5 ![4, 4, 3, 3, 5, 4, 3, 3] ![4, 4, 3, 3, 5, 5, 3, 3] _ _ _ _ _ _ _ (off20 c) (off21 c) (off22 c) (dev34 c) rfl (by decide) (by decide)) ?_
  refine wpc_seq c (step_hop2 X Y K c a1 a2 6 ![4, 4, 3, 3, 5, 5, 3, 3] ![4, 4, 3, 3, 5, 5, 4, 3] _ _ _ _ _ _ _ (off5_3 c) (off23 c) (off24 c) (dev35 c) rfl (by decide) (by decide)) ?_
  refine wpc_seq c (step_hop2 X Y K c a1 a2 7 ![4, 4, 3, 3, 5, 5, 4, 3] ![4, 4, 3, 3, 5, 5, 4, 4] _ _ _ _ _ _ _ (off6_3 c) (off25 c) (off26 c) (dev36 c) rfl (by decide) (by decide)) ?_
  refine wpc_seq c (step_fold X Y K c a1 a2 0 ![4, 4, 3, 3, 5, 5, 4, 4] ![5, 4, 3, 3, 5, 5, 4, 4] _ _ _ _ _ _ _ (off27 c) (off28 c) (off29 c) (dev37 c) rfl (by decide) (by decide)) ?_
  refine wpc_seq c (step_fold X Y K c a1 a2 1 ![5, 4, 3, 3, 5, 5, 4, 4] ![5, 5, 3, 3, 5, 5, 4, 4] _ _ _ _ _ _ _ (off30 c) (off31 c) (off32 c) (dev38 c) rfl (by decide) (by decide)) ?_
  refine wpc_seq c (step_hop2 X Y K c a1 a2 2 ![5, 5, 3, 3, 5, 5, 4, 4] ![5, 5, 4, 3, 5, 5, 4, 4] _ _ _ _ _ _ _ (off7_3 c) (off33 c) (off34 c) (dev39 c) rfl (by decide) (by decide)) ?_
  refine wpc_seq c (step_hop2 X Y K c a1 a2 3 ![5, 5, 4, 3, 5, 5, 4, 4] ![5, 5, 4, 4, 5, 5, 4, 4] _ _ _ _ _ _ _ (off8_3 c) (off35 c) (off36 c) (dev40 c) rfl (by decide) (by decide)) ?_
  refine wpc_seq c (step_last X Y K c a1 a2 4 ![5, 5, 4, 4, 5, 5, 4, 4] ![5, 5, 4, 4, 6, 5, 4, 4] h2 _ _ (off37 c) rfl (by decide) (by decide)) ?_
  refine wpc_seq c (step_last X Y K c a1 a2 5 ![5, 5, 4, 4, 6, 5, 4, 4] ![5, 5, 4, 4, 6, 6, 4, 4] h2 _ _ (off38 c) rfl (by decide) (by decide)) ?_
  refine wpc_seq c (step_fold X Y K c a1 a2 6 ![5, 5, 4, 4, 6, 6, 4, 4] ![5, 5, 4, 4, 6, 6, 5, 4] _ _ _ _ _ _ _ (off39 c) (off40 c) (off41 c) (dev41 c) rfl (by decide) (by decide)) ?_
  refine wpc_seq c (step_fold X Y K c a1 a2 7 ![5, 5, 4, 4, 6, 6, 5, 4] ![5, 5, 4, 4, 6, 6, 5, 5] _ _ _ _ _ _ _ (off42 c) (off43 c) (off44 c) (dev42 c) rfl (by decide) (by decide)) ?_
  refine wpc_seq c (step_last X Y K c a1 a2 0 ![5, 5, 4, 4, 6, 6, 5, 5] ![6, 5, 4, 4, 6, 6, 5, 5] h2 _ _ (off45 c) rfl (by decide) (by decide)) ?_
  refine wpc_seq c (step_last X Y K c a1 a2 1 ![6, 5, 4, 4, 6, 6, 5, 5] ![6, 6, 4, 4, 6, 6, 5, 5] h2 _ _ (off46 c) rfl (by decide) (by decide)) ?_
  refine wpc_seq c (step_fold X Y K c a1 a2 2 ![6, 6, 4, 4, 6, 6, 5, 5] ![6, 6, 5, 4, 6, 6, 5, 5] _ _ _ _ _ _ _ (off47 c) (off48 c) (off49 c) (dev43 c) rfl (by decide) (by decide)) ?_
  refine wpc_seq c (step_fold X Y K c a1 a2 3 ![6, 6, 5, 4, 6, 6, 5, 5] ![6, 6, 5, 5, 6, 6, 5, 5] _ _ _ _ _ _ _ (off50 c) (off51 c) (off52 c) (dev44 c) rfl (by decide) (by decide)) ?_
  refine wpc_seq c (step_last X Y K c a1 a2 6 ![6, 6, 5, 5, 6, 6, 5, 5] ![6, 6, 5, 5, 6, 6, 6, 5] h2 _ _ (off53 c) rfl (by decide) (by decide)) ?_
  refine wpc_seq c (step_last X Y K c a1 a2 7 ![6, 6, 5, 5, 6, 6, 6, 5] ![6, 6, 5, 5, 6, 6, 6, 6] h2 _ _ (off54 c) rfl (by decide) (by decide)) ?_
  refine wpc_seq c (step_last X Y K c a1 a2 2 ![6, 6, 5, 5, 6, 6, 6, 6] ![6, 6, 6, 5, 6, 6, 6, 6] h2 _ _ (off55 c) rfl (by decide) (by decide)) ?_
  refine wpc_seq c (step_last X Y K c a1 a2 3 ![6, 6, 6, 5, 6, 6, 6, 6] ![6, 6, 6, 6, 6, 6, 6, 6] h2 _ _ (off56 c) rfl (by decide) (by decide)) ?_
  refine wpc_seq c (step_drain X Y K c a1 a2 0 ![6, 6, 6, 6, 6, 6, 6, 6] ![7, 6, 6, 6, 6, 6, 6, 6] rfl (by decide)) ?_
  refine wpc_seq c (step_drain X Y K c a1 a2 1 ![7, 6, 6, 6, 6, 6, 6, 6] ![7, 7, 6, 6, 6, 6, 6, 6] rfl (by decide)) ?_
  refine wpc_seq c (step_drain X Y K c a1 a2 2 ![7, 7, 6, 6, 6, 6, 6, 6] ![7, 7, 7, 6, 6, 6, 6, 6] rfl (by decide)) ?_
  refine wpc_seq c (step_drain X Y K c a1 a2 3 ![7, 7, 7, 6, 6, 6, 6, 6] ![7, 7, 7, 7, 6, 6, 6, 6] rfl (by decide)) ?_
  refine wpc_seq c (step_drain X Y K c a1 a2 4 ![7, 7, 7, 7, 6, 6, 6, 6] ![7, 7, 7, 7, 7, 6, 6, 6] rfl (by decide)) ?_
  refine wpc_seq c (step_drain X Y K c a1 a2 5 ![7, 7, 7, 7, 7, 6, 6, 6] ![7, 7, 7, 7, 7, 7, 6, 6] rfl (by decide)) ?_
  refine wpc_seq c (step_drain X Y K c a1 a2 6 ![7, 7, 7, 7, 7, 7, 6, 6] ![7, 7, 7, 7, 7, 7, 7, 6] rfl (by decide)) ?_
  exact step_drain X Y K c a1 a2 7 ![7, 7, 7, 7, 7, 7, 7, 6] ![7, 7, 7, 7, 7, 7, 7, 7] rfl (by decide)

end Cert.Proof

end
-- ==== Proof.Head.lean ====
/-
The barrier: each device hands its four neighbours the landing slots of the transfers that come from them,
and waits for the landing slots its own transfers go to.
-/
module

public import proofs.«01_k».proof.Proof.State

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)
variable (K : Dev nD × Ck → ℕ) (c : Dev nD)

/-- A resource over all of `ι`, grouped by which of the values `g k` the map `f` takes. -/
theorem bigSep_grouped {ι κ A : Type} [Fintype ι] [Fintype κ] [DecidableEq ι] [DecidableEq κ] [DecidableEq A] (f : ι → A) (g : κ → A)
    (hinj : ∀ k k', g k = g k' → k = k') (hcov : ∀ i, ∃ k, f i = g k) (Φ : ι → sProp 𝕄) :
    bigSep Finset.univ Φ = bigSep Finset.univ fun k : κ => bigSep (Finset.univ.filter fun i => f i = g k) Φ := by
  have h : ∀ s : Finset κ, bigSep s (fun k => bigSep (Finset.univ.filter fun i => f i = g k) Φ)
      = bigSep (s.biUnion fun k => Finset.univ.filter fun i => f i = g k) Φ := by
    intro s
    induction s using Finset.induction_on with
    | empty => rw [Finset.biUnion_empty, bigSep_empty, bigSep_empty]
    | insert k s hk ih =>
      rw [bigSep_insert hk, ih, Finset.biUnion_insert, bigSep_union]
      refine Finset.disjoint_left.2 fun i hi hi' => ?_
      obtain ⟨k', hk', he⟩ := Finset.mem_biUnion.1 hi'
      exact hk (hinj k k' ((Finset.mem_filter.1 hi).2.symm.trans (Finset.mem_filter.1 he).2) ▸ hk')
  rw [h Finset.univ]
  congr 1
  ext i
  simp only [Finset.mem_univ, Finset.mem_biUnion, Finset.mem_filter, true_and, true_iff]
  exact hcov i

theorem bn_inj : ∀ (c : Dev nD) (k k' : Fin 4), bn k c = bn k' c → k = k' := by decide +kernel
theorem src_iff : ∀ (i : Xf) (d : Fin 4) (c : Dev nD), src i (bn d c) = c ↔ tgt i c = bn d c := fun i d c =>
  ⟨fun h => by rw [← tgt_src i (bn d c), h], fun h => by rw [← h, src_tgt]⟩

/-- A device's landing slots, by the neighbour whose transfers they take. -/
theorem landings_split : (bigSep Finset.univ fun i : Xf => landing (F := F) c i) = bigSep Finset.univ fun k : Fin 4 => barPay (nb k c) c :=
  bigSep_grouped (fun i : Xf => src i c) (fun k : Fin 4 => nb k c) (nb_inj c) (fun i => src_nb i c) _

/-- The landing slots the barrier hands a device are those its own transfers go to. -/
theorem landings_join : (bigSep Finset.univ fun d : Fin 4 => barPay (F := F) c (bn d c)) = bigSep Finset.univ fun i : Xf => landing (tgt i c) i := by
  rw [bigSep_grouped (fun i : Xf => tgt i c) (fun k : Fin 4 => bn k c) (bn_inj c) (fun i => tgt_bn i c)]
  refine bigSep_congr fun d _ => ?_
  unfold barPay
  rw [Finset.filter_congr fun i _ => src_iff i d c]
  exact bigSep_congr fun i hi => by rw [(Finset.mem_filter.1 hi).2]

theorem owedBar_erase {S : Finset (Fin 4)} {k : Fin 4} (hk : k ∈ S) :
    owedFor c Finset.univ + owedBar c S = (owedFor c Finset.univ + owedBar c (S.erase k)) + tallyAt (barCell (nb k c)) () 1 := by
  rw [add_assoc]; congr 1
  exact (Finset.sum_erase_add _ _ hk).symm

/-- One signal to a neighbour's barrier. -/
theorem wp_sig {α : Type} (Q : α → sProp 𝕄) (k : Fin 4) (n : Dev nD) (hn : n = nb k c) (m : ℕ) (hm : m = 1) {kk : PUnit → Prog (TpuEff nD τ sig (Elt F) Λ₀ .tc) α}
    (S : Finset (Fin 4)) (hk : k ∈ S) (W : Waits sig Unit) :
    iprop(records X Y K ∗ owes (c : Thread nD τ) (owedFor c Finset.univ + owedBar c S) W ∗ dutyTok ER (barCell (nb k c)) 0 k ∗ barPay (nb k c) c)
      ⊢ iprop((owes (c : Thread nD τ) (owedFor c Finset.univ + owedBar c (S.erase k)) W -∗ wpc c (kk ⟨⟩) Q)
          -∗ wpc c (.op (.semSignal (n : Thread nD τ) barS m) kk) Q) := by
  subst hn hm
  iintro ⟨#HR, HO, Ht, Hp⟩ Hk
  iapply (Rounds.wp_signal 𝒱₀ ER (rd X Y) (c : Thread nD τ) none (dst := (nb k c : Thread nD τ)) (κ := K (nb k c, none))
    (r := 0) (d := k) (by rw [duties_bar]; exact Finset.mem_univ _) (amount_bar X Y (nb k c) k) () (owedFor c Finset.univ + owedBar c (S.erase k)) (owedBar_erase c hk))
    $$ [HO Ht Hp]
  · isplitr; · iapply (rec_inv X Y K (nb k c, none)); iexact HR
    isplitl [HO]; · iexact HO
    isplitl [Ht]; · iexact Ht
    isplitl [Hp]
    · rw [payload_bar, bn_nb]; iexact Hp
    iapply (rec_reached X Y K (nb k c, none)); iexact HR
  iexact Hk

/-- What a device starts the barrier with. -/
def Enter (a0 : Memref sig .tc .vmem S1024x1024 .bf16) : sProp 𝕄 :=
  iprop(records X Y K ∗ (bigSep Finset.univ fun k : Fin 4 => dutyTok ER (barCell (nb k c)) 0 k)
    ∗ (bigSep Finset.univ fun i : Xf => landing c i) ∗ cred (tallyAt (barCell c) () 4) ∗ atPos ER (barCell c) 0 ∅ 0
    ∗ (∃ W, owes (c : Thread nD τ) (O₀ c) W) ∗ holds c (a0.access rXb) (X c) ∗ owned c (mXb.access rXb))
/-- What it leaves the barrier with. -/
def Leave (a0 : Memref sig .tc .vmem S1024x1024 .bf16) : sProp 𝕄 :=
  iprop(records X Y K ∗ (bigSep Finset.univ fun i : Xf => landing (tgt i c) i) ∗ atPos ER (barCell c) 1 ∅ 0
    ∗ (∃ W, owes (c : Thread nD τ) (owedFor c Finset.univ) W) ∗ holds c (a0.access rXb) (X c) ∗ holds c (mXb.access rXb) (X c))

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem wp_headStep (a0 : Memref sig .tc .vmem S1024x1024 .bf16) (Q : PUnit → sProp 𝕄) :
    Enter X Y K c a0 ⊢ iprop((Leave X Y K c a0 -∗ Q ⟨⟩) -∗ wpc c (headStep a0 c) Q) := by
  unfold Enter Leave headStep
  simp only [semSignalWord, semWaitWord, Prog.lift, Prog.bind_op, Prog.bind_ret]
  rw [landings_split, bigSep_four, bigSep_four]
  iintro ⟨#HR, ⟨Ht0, Ht1, Ht2, Ht3⟩, ⟨Hp0, Hp1, Hp2, Hp3⟩, Hc, Hat, ⟨%W, HO⟩, Hx, Hxb⟩ Hk
  unfold O₀
  iapply (wp_sig X Y K c Q 0 _ (nb_0 c) _ (by decide) Finset.univ (by decide) W) $$ [HO Ht0 Hp0]
  · isplitr; · iexact HR
    isplitl [HO]; · iexact HO
    isplitl [Ht0] <;> iassumption
  iintro HO
  iapply (wp_sig X Y K c Q 1 _ (nb_1 c) _ (by decide) (Finset.univ.erase 0) (by decide) W) $$ [HO Ht1 Hp1]
  · isplitr; · iexact HR
    isplitl [HO]; · iexact HO
    isplitl [Ht1] <;> iassumption
  iintro HO
  iapply (wp_sig X Y K c Q 2 _ (nb_2 c) _ (by decide) ((Finset.univ.erase 0).erase 1) (by decide) W) $$ [HO Ht2 Hp2]
  · isplitr; · iexact HR
    isplitl [HO]; · iexact HO
    isplitl [Ht2] <;> iassumption
  iintro HO
  iapply (wp_sig X Y K c Q 3 _ (nb_3 c) _ (by decide) (((Finset.univ.erase 0).erase 1).erase 2) (by decide) W) $$ [HO Ht3 Hp3]
  · isplitr; · iexact HR
    isplitl [HO]; · iexact HO
    isplitl [Ht3] <;> iassumption
  rw [show owedFor c Finset.univ + owedBar c ((((Finset.univ.erase 0).erase 1).erase 2).erase 3) = owedFor c Finset.univ from by
    rw [show ((((Finset.univ.erase 0).erase 1).erase 2).erase 3 : Finset (Fin 4)) = ∅ by decide]; exact add_zero _]
  iintro HO
  iapply (Rounds.wp_wait_rest_token 𝒱₀ ER (rd X Y) (c : Thread nD τ) none (κ := K (c, none))
      (wpE_semWait_eq 𝒱₀ (c : Thread nD τ) none Set.univ) (Set.mem_univ _) () (O := owedFor c Finset.univ) (W := W) (R := 0) (m := 0) (T := ∅)
      (by rw [expect_bar]; decide)) $$ [Hc HO Hat]
  · isplitr; · iapply (rec_inv X Y K (c, none)); iexact HR
    isplitl [Hc]; · iexact Hc
    isplitl [HO]; · iexact HO
    isplitr
    · ihave Hl := (@rec_lev F _ X Y K) $$ HR
      ihave Hm := (mayWait_owed c (.reg barS) Finset.univ 1 (by decide) fun i _ => lt_of_lt_of_le (by decide) (two_le_rlev i)) $$ Hl
      iexact Hm
    iexact Hat
  iintro ⟨HO, Hat, -, Hpay⟩
  ihave Hpay := (Entails.of_eq ((rest_bar X Y c).trans (landings_join c))) $$ Hpay
  iapply (wp_load_all c a0 Q _) $$ Hx
  iintro Hx
  rw [shapeCast_shapeCast]
  iapply (wp_put c mXb Q) $$ Hxb
  iintro Hxb
  iapply (wpc_ret c _ Q)
  iapply Hk
  isplitr; · iexact HR
  isplitl [Hpay]; · iexact Hpay
  isplitl [Hat]; · iexact Hat
  isplitl [HO]; · iexists _; iexact HO
  isplitl [Hx] <;> iassumption

end Cert.Proof

end
-- ==== Proof.Body.lean ====
/-
The body of a device: from its buffers, its kit and the launch's records to the result and closed cells.
-/
module

public import proofs.«01_k».proof.Proof.Assemble
public import proofs.«01_k».proof.Proof.Chain
public import proofs.«01_k».proof.Proof.Head

@[expose] public section

set_option maxRecDepth 4000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .bf16) (Y : Dev nD → S1024x4096.Idx → Elt F .bf16)
variable (K : Dev nD × Ck → ℕ) (c : Dev nD) (a0 : Memref sig .tc .vmem S1024x1024 .bf16) (a1 : Memref sig .tc .vmem S1024x4096 .bf16)
variable (a2 : Memref sig .tc .vmem S64x4096 .f32)

/-! ## Whole windows -/

/-- A held window is held through the rectangle that covers it. -/
theorem holds_all {sp : Space} {s : Shape} {e : EltTy} {r : Rect s} (h : Tile fun _ : Unit => r) (m : Memref sig .tc sp s e) (V : s.Idx → Elt F e) :
    holds c m.view V ⊢ holds c (m.access r) fun k => V (r.idx k) := by
  have hset : m.view.set = (m.access r).set := by
    rw [h.set m]
    exact Finset.singleton_biUnion
  unfold holds
  iintro ⟨%f, %hf, H⟩
  iexists f
  isplitr
  · ipureintro
    rw [← hf]
    rfl
  rw [← hset]
  iexact H

theorem holds_x (m : Memref sig .tc .vmem S1024x1024 .bf16) (V : S1024x1024.Idx → Elt F .bf16) : holds c m.view V ⊢ holds c (m.access rXb) V := by
  have := holds_all c tile_Xb m V
  rwa [show (fun k => V (rXb.idx k)) = V from funext fun k => congrArg V (by
    funext a
    match a with
    | ⟨0, _⟩ => apply Fin.ext; show 0 + 1 * (k 0).val = (k 0).val; omega
    | ⟨1, _⟩ => apply Fin.ext; show 0 + 1 * (k 1).val = (k 1).val; omega)] at this
theorem holds_y (m : Memref sig .tc .vmem S1024x4096 .bf16) (V : S1024x4096.Idx → Elt F .bf16) : holds c m.view V ⊢ holds c (m.access rFull) V := by
  have := holds_all c tile_full m V
  rwa [show (fun k => V (rFull.idx k)) = V from funext fun k => congrArg V (by
    funext a
    match a with
    | ⟨0, _⟩ => apply Fin.ext; show 0 + 1 * (k 0).val = (k 0).val; omega
    | ⟨1, _⟩ => apply Fin.ext; show 0 + 1 * (k 1).val = (k 1).val; omega)] at this

section Join
variable [∀ e, Nonempty (Elt F e)]
theorem holds_x' (m : Memref sig .tc .vmem S1024x1024 .bf16) (V : S1024x1024.Idx → Elt F .bf16) : holds c (m.access rXb) V ⊢ holds c m.view V := by
  have := holds_join tile_Xb c m (fun _ => V) V (fun _ k => congrArg V (by
    funext a
    match a with
    | ⟨0, _⟩ => apply Fin.ext; show 0 + 1 * (k 0).val = (k 0).val; omega
    | ⟨1, _⟩ => apply Fin.ext; show 0 + 1 * (k 1).val = (k 1).val; omega))
  rwa [bigSep_unit] at this
theorem holds_y' (m : Memref sig .tc .vmem S1024x4096 .bf16) (V : S1024x4096.Idx → Elt F .bf16) : holds c (m.access rFull) V ⊢ holds c m.view V := by
  have := holds_join tile_full c m (fun _ => V) V (fun _ k => congrArg V (by
    funext a
    match a with
    | ⟨0, _⟩ => apply Fin.ext; show 0 + 1 * (k 0).val = (k 0).val; omega
    | ⟨1, _⟩ => apply Fin.ext; show 0 + 1 * (k 1).val = (k 1).val; omega))
  rwa [bigSep_unit] at this

/-- The result's column groups are the result. -/
theorem result_join : (bigSep Finset.univ fun j : Fin 8 => holds c (a2.access (rOut j)) (resultCol X Y c j)) ⊢ holds c a2.view (result X Y c) :=
  holds_join tile_Out c a2 (fun j => resultCol X Y c j) (result X Y c) fun j k => by
    have hk : (k 1).val < 512 := (k 1).isLt
    have e1 : ((rOut j).idx k 1).val = 512 * j.val + 1 * (k 1).val := rfl
    have e0 : (rOut j).idx k 0 = k 0 := Fin.ext (show 0 + 1 * (k 0).val = (k 0).val by omega)
    unfold result
    congr 1
    · exact Fin.ext (show ((rOut j).idx k 1).val / 512 = j.val by omega)
    · funext a
      match a with
      | ⟨0, _⟩ => exact e0
      | ⟨1, _⟩ => exact Fin.ext (show ((rOut j).idx k 1).val % 512 = (k 1).val by omega)
end Join

/-! ## The two ends -/

theorem todo_start : todo ![0, 0, 0, 0, 0, 0, 0, 0] = Finset.univ := by decide
theorem todo_end : todo ![7, 7, 7, 7, 7, 7, 7, 7] = ∅ := by decide
theorem cols_start : (bigSep Finset.univ fun j : Fin 8 => Col X Y c a2 j ((![0, 0, 0, 0, 0, 0, 0, 0] : Fin 8 → ℕ) j))
    = bigSep Finset.univ fun j : Fin 8 => Col X Y c a2 j 0 := bigSep_congr fun j _ => by fin_cases j <;> rfl
theorem cols_end : (bigSep Finset.univ fun j : Fin 8 => Col X Y c a2 j ((![7, 7, 7, 7, 7, 7, 7, 7] : Fin 8 → ℕ) j))
    = bigSep Finset.univ fun j : Fin 8 => Col X Y c a2 j 7 := bigSep_congr fun j _ => by fin_cases j <;> rfl

/-- What the body starts with. -/
def Pre : sProp 𝕄 :=
  iprop(records X Y K ∗ (positions c ∗ payToks c ∗ credits c) ∗ (∃ W, owes (c : Thread nD τ) (O₀ c) W)
    ∗ holds c a0.view (X c) ∗ holds c a1.view (Y c) ∗ owned c a2.view ∗ Scratch c)
/-- What it ends with. -/
def Post : sProp 𝕄 :=
  iprop((∃ W, owes (c : Thread nD τ) 0 W) ∗ holds c a0.view (X c) ∗ holds c a1.view (Y c) ∗ holds c a2.view (result X Y c)
    ∗ Scratch c ∗ bigSep Finset.univ fun k : Ck => semVal (kcell (c, k)) 0)

/-- What the barrier takes, and what waits for it. -/
def Mid : sProp 𝕄 :=
  iprop(Enter X Y K c a0 ∗ holds c (a1.access rFull) (Y c)
    ∗ bigSep Finset.univ fun j : Fin 8 => iprop((Bufs c j ∗ owned c (a2.access (rOut j))) ∗ Kits c j))
/-- What the steps leave alone. -/
def Aside : sProp 𝕄 := iprop(atPos ER (barCell c) 1 ∅ 0 ∗ holds c (a0.access rXb) (X c))

theorem pre_mid : Pre X Y K c a0 a1 a2 ⊢ Mid X Y K c a0 a1 a2 := by
  unfold Pre Mid Enter
  simp only [bigSep_sep']
  iintro ⟨#HR, HK, HO, Hx, Hy, Hr, HS⟩
  ihave HK := (kits_split c) $$ HK
  icases HK with ⟨⟨Hb, Ht, Hc⟩, HK⟩
  ihave HS := (scratch_split c) $$ HS
  unfold Pieces
  icases HS with ⟨HX, HL, HB⟩
  isplitl [Hb Ht Hc HO Hx HX HL]
  · isplitr; · iexact HR
    isplitl [Ht]; · iexact Ht
    isplitl [HL]; · iexact HL
    isplitl [Hc]; · iexact Hc
    isplitl [Hb]; · iexact Hb
    isplitl [HO]; · iexact HO
    isplitl [Hx]; · iapply (holds_x c a0 (X c)) $$ Hx
    iexact HX
  isplitl [Hy]; · iapply (holds_y c a1 (Y c)) $$ Hy
  isplitl [HB Hr]
  · isplitl [HB]; · iexact HB
    iapply (owned_split tile_Out c a2) $$ Hr
  iexact HK

theorem mid_head : Mid X Y K c a0 a1 a2 ⊢ wpc c (headStep a0 c) fun _ =>
    iprop(St X Y K c a1 a2 ![0, 0, 0, 0, 0, 0, 0, 0] ∗ Aside X c a0) := by
  unfold Mid St Aside Shared
  rw [todo_start, cols_start]
  iintro ⟨HE, HY, HB⟩
  iapply (wp_headStep X Y K c a0 _) $$ HE
  unfold Leave
  iintro ⟨#HR, HL, Hat, HO, Hx, HX⟩
  isplitl [HY HB HL HO HX]
  · isplitr; · iexact HR
    isplitl [HX HY]
    · isplitl [HX] <;> iassumption
    isplitl [HO]; · iexact HO
    ihave HL := (Entails.of_eq (bigSep_xf fun i => landing (F := F) (tgt i c) i)) $$ HL
    iapply (show iprop((bigSep Finset.univ fun j : Fin 8 => iprop((Bufs (F := F) c j ∗ owned c (a2.access (rOut j))) ∗ Kits c j))
        ∗ bigSep Finset.univ fun j : Fin 8 => atXf (fun i => landing (F := F) (tgt i c) i) j) ⊢ bigSep Finset.univ fun j : Fin 8 => Col X Y c a2 j 0 from by
      rw [← bigSep_sep']
      exact bigSep_mono fun j _ => (show iprop(((Bufs (F := F) c j ∗ owned c (a2.access (rOut j))) ∗ Kits c j) ∗ atXf (fun i => landing (F := F) (tgt i c) i) j)
          ⊢ iprop((Bufs c j ∗ owned c (a2.access (rOut j))) ∗ Kits c j ∗ atXf (fun i => landing (tgt i c) i) j) from by
        iintro ⟨⟨H1, H2⟩, H3⟩
        isplitl [H1]; · iexact H1
        isplitl [H2] <;> iassumption).trans (col_start X Y c a2 j))
    isplitl [HB] <;> iassumption
  isplitl [Hat] <;> iassumption

/-- An update at the end of a triple. -/
theorem wpc_post {P Q Q' : sProp 𝕄} {p : PT F} (hp : P ⊢ wpc c p fun _ => Q) (h : Q ⊢ |={Set.univ}=> Q') : P ⊢ wpc c p fun _ => Q' :=
  hp.trans ((wp_mono frame (wpE (defs₀ (F := F)) 𝒱₀ (c : Thread nD τ) none) Set.univ (p := p) fun _ => h).trans
    (wp_fupd frame (wpE (defs₀ (F := F)) 𝒱₀ (c : Thread nD τ) none) Set.univ p _))

variable [∀ e, Nonempty (Elt F e)]

theorem end_post : iprop(St X Y K c a1 a2 ![7, 7, 7, 7, 7, 7, 7, 7] ∗ Aside X c a0) ⊢ |={Set.univ}=> Post X Y c a0 a1 a2 := by
  unfold St Aside Shared Post
  rw [todo_end, cols_end]
  iintro ⟨⟨#HR, ⟨HX, HY⟩, HO, HC⟩, Hat, Hx⟩
  ihave HC := (show (bigSep Finset.univ fun j : Fin 8 => Col X Y c a2 j 7)
    ⊢ iprop(((bigSep Finset.univ fun j : Fin 8 => Bufs c j) ∗ bigSep Finset.univ fun j : Fin 8 => holds c (a2.access (rOut j)) (resultCol X Y c j))
      ∗ (bigSep Finset.univ fun i : Xf => landing c i) ∗ bigSep Finset.univ fun k : Own => endPos c k) from by
    refine (bigSep_mono fun j _ => col_end X Y c a2 j).trans ?_
    rw [bigSep_own, bigSep_xf, bigSep_xf, bigSep_sd]
    simp only [bigSep_sep']
    exact Idealize.SL.BI.Entails.refl _) $$ HC
  icases HC with ⟨⟨HB, HO2⟩, HL, HP⟩
  imod (all_close X Y K c) $$ [Hat HP] with HZ
  · isplitr; · iexact HR
    isplitl [Hat] <;> iassumption
  imodintro
  isplitl [HO]; · iexact HO
  isplitl [Hx]; · iapply (holds_x' c a0 (X c)) $$ Hx
  isplitl [HY]; · iapply (holds_y' c a1 (Y c)) $$ HY
  isplitl [HO2]; · iapply (result_join X Y c a2) $$ HO2
  isplitl [HX HL HB]
  · iapply (scratch_join c)
    unfold Pieces
    isplitl [HX]; · iapply (holds_owned c _ _) $$ HX
    isplitl [HL] <;> iassumption
  iexact HZ

/-- The body of a device, its number known. -/
theorem wp_known (h2 : a2.IsWhole) : Pre X Y K c a0 a1 a2 ⊢ wpc c (steps a0 a1 a2 h2 c) fun _ => Post X Y c a0 a1 a2 := by
  have h := wp_steps X Y K c a0 a1 a2 h2 (mid_head X Y K c a0 a1 a2)
  have h' := wpc_post c h (end_post X Y K c a0 a1 a2)
  exact (pre_mid X Y K c a0 a1 a2).trans h'

/-- A program that asks for the device's number. -/
theorem wpc_device {P : sProp 𝕄} (k : Dev nD → PT F) (Q : PUnit → sProp 𝕄) (h : P ⊢ wpc c (k c) Q) :
    P ⊢ wpc c (Prog.lift .deviceId >>= k) Q := by
  simp only [Prog.lift, Prog.bind_op, Prog.bind_ret, wp_deviceId]
  exact h

/-- The body of a device. -/
theorem wp_body (h2 : a2.IsWhole) : Pre X Y K c a0 a1 a2 ⊢ wpc c (Prog.lift .deviceId >>= fun d => steps a0 a1 a2 h2 d) fun _ => Post X Y c a0 a1 a2 :=
  wpc_device c (fun d => steps a0 a1 a2 h2 d) _ (wp_known X Y K c a0 a1 a2 h2)

end Cert.Proof

end
-- ==== Proof.Launch.lean ====
/-
The launch: the body of every device under the pipeline, and the run of the whole program.
-/
module

public import proofs.«01_k».proof.Proof.Body
public import Idealize.ShloMosaic.Lib.Pipeline.CollectiveSegs
public import Idealize.ShloMosaic.Lib.Pipeline.Value

@[expose] public section

set_option maxRecDepth 8000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The left operand of a device. -/
def Xm (c : Dev nD) : S1024x1024.Idx → Elt F .bf16 := (win0_0.blk t0_0).view.read (Elt F) ((s₀ m ρ).mem ((c : Thread nD τ).loc main_arg0))
/-- The right operand of a device. -/
def Ym (c : Dev nD) : S1024x4096.Idx → Elt F .bf16 := (win0_1.blk t0_0).view.read (Elt F) ((s₀ m ρ).mem ((c : Thread nD τ).loc main_arg1))

/-- What a device's body starts from, its buffers and its debts apart. -/
def start (c : Dev nD) : sProp 𝕄 :=
  iprop((∃ K, records (Xm m ρ) (Ym m ρ) K ∗ positions c ∗ payToks c) ∗ credits c)
/-- Before the point. -/
def Φ₀ (c : Dev nD) : sProp 𝕄 := iprop(start m ρ c ∗ Pipeline.scopedRest cfg0.spec c)
/-- After the point. -/
def Φ₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xm m ρ c
    | ⟨1, _⟩ => Ym m ρ c
    | ⟨2, _⟩ => result (Xm m ρ) (Ym m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev mX : Memref sig .tc .vmem S1024x1024 .bf16 := Memref.whole cc0_stg0_0
abbrev mY : Memref sig .tc .vmem S1024x4096 .bf16 := Memref.whole cc0_stg1_0
abbrev mO : Memref sig .tc .vmem S64x4096 .f32 := Memref.whole cc0_stg2_0

/-! ## The body -/

/-- A whole buffer at some contents. -/
theorem owned_whole (c : Dev nD) (b : Ref sig .tc) :
    owned (F := F) c (Memref.whole b).view = iprop(∃ f : Buf (Elt F) ((c : Thread nD τ).loc b), ((c : Thread nD τ).loc b) ↦{fullShare} f) := by
  unfold owned; simp only [Memref.view_whole, View.set_whole]

theorem scratch_eq (c : Dev nD) : (Pipeline.scopedRest cfg0.spec c : sProp 𝕄) = Scratch (F := F) c := by
  rw [show (Pipeline.scopedRest cfg0.spec c : sProp 𝕄) = Pipeline.scopedRest spec0 c from rfl, scopedRest0_eq]
  unfold Scratch
  rw [owned_whole, owned_whole, owned_whole, owned_whole, owned_whole, owned_whole, owned_whole, owned_whole, owned_whole, owned_whole]

/-- What the pipeline calls the body with. -/
def bodyPre (c : Dev nD) : sProp 𝕄 :=
  iprop(Φ₀ m ρ c ∗ (dats m ρ 0 c).owesAt () t0_0.castSucc
    ∗ (∃ d, holds c mX.view ((dats m ρ 0 c).before (0 : Fin 3) t0_0 d))
    ∗ (∃ d, holds c mY.view ((dats m ρ 0 c).before (1 : Fin 3) t0_0 d))
    ∗ (∃ d, holds c mO.view ((dats m ρ 0 c).before (2 : Fin 3) t0_0 d)))
/-- What it takes back. -/
def bodyPost (c : Dev nD) : sProp 𝕄 :=
  iprop(Φ₁ c ∗ (dats m ρ 0 c).owesAt () t0_0.succ ∗ holds c mX.view (Xm m ρ c) ∗ holds c mY.view (Ym m ρ c)
    ∗ holds c mO.view (result (Xm m ρ) (Ym m ρ) c))

theorem before_x (c : Dev nD) (d) : (dats m ρ 0 c).before (0 : Fin 3) t0_0 d = Xm m ρ c := by
  unfold Dat.before; rw [if_pos (fetch0_0 t0_0)]; rfl
theorem before_y (c : Dev nD) (d) : (dats m ρ 0 c).before (1 : Fin 3) t0_0 d = Ym m ρ c := by
  unfold Dat.before; rw [if_pos (fetch0_1 t0_0)]; rfl

theorem body_pre (c : Dev nD) : bodyPre m ρ c ⊢ iprop(∃ K, Pre (Xm m ρ) (Ym m ρ) K c mX mY mO) := by
  unfold bodyPre Φ₀ start Pre Dat.owesAt Pipeline.owesWithin
  rw [show (dats m ρ 0 c).owed t0_0.castSucc = O₀ c from rfl, scratch_eq]
  iintro ⟨⟨⟨⟨%K, HR, HP, HT⟩, HC⟩, HS⟩, ⟨%W, -, HO⟩, ⟨%d0, Hx⟩, ⟨%d1, Hy⟩, ⟨%d2, Ho⟩⟩
  iexists K
  isplitl [HR]; · iexact HR
  isplitl [HP HT HC]
  · isplitl [HP]; · iexact HP
    isplitl [HT] <;> iassumption
  isplitl [HO]; · iexists W; iexact HO
  isplitl [Hx]
  · ihave Hx := (Entails.of_eq (congrArg (holds c mX.view) (before_x m ρ c d0))) $$ Hx
    iexact Hx
  isplitl [Hy]
  · ihave Hy := (Entails.of_eq (congrArg (holds c mY.view) (before_y m ρ c d1))) $$ Hy
    iexact Hy
  isplitl [Ho]; · iapply (holds_owned c _ _) $$ Ho
  iexact HS

variable [∀ e, Nonempty (Elt F e)]

theorem body_post (c : Dev nD) : Post (Xm m ρ) (Ym m ρ) c mX mY mO ⊢ bodyPost m ρ c := by
  unfold bodyPost Φ₁ Post Dat.owesAt Pipeline.owesWithin
  rw [show (dats m ρ 0 c).owed t0_0.succ = 0 from rfl, scratch_eq, sems_eq]
  iintro ⟨⟨%W, HO⟩, Hx, Hy, Ho, HS, HU, HZ⟩
  isplitl [HS HU HZ]
  · isplitl [HU]; · iexact HU
    isplitl [HZ] <;> iassumption
  isplitl [HO]
  · iexists W
    isplitr; · ipureintro; exact fun _ _ => Or.inl trivial
    iexact HO
  isplitl [Hx]; · iexact Hx
  isplitl [Hy] <;> iassumption

theorem sound_body (c : Dev nD) : bodyPre m ρ c ⊢ wpc c (Prog.lift .deviceId >>= fun d => steps (F := F) mX mY mO (Memref.isWhole_whole _) d) fun _ => bodyPost m ρ c := by
  refine (body_pre m ρ c).trans ?_
  iintro ⟨%K, H⟩
  iapply (show Pre (Xm m ρ) (Ym m ρ) K c mX mY mO ⊢ wpc c (Prog.lift .deviceId >>= fun d => steps (F := F) mX mY mO (Memref.isWhole_whole _) d) fun _ => bodyPost m ρ c from
    (wp_body (Xm m ρ) (Ym m ρ) K c mX mY mO (Memref.isWhole_whole _)).trans
      (wp_mono frame (wpE (defs₀ (F := F)) 𝒱₀ (c : Thread nD τ) none) Set.univ fun _ => body_post m ρ c)) $$ H

/-- The call of the body at the only point is the printed body. -/
theorem call_eq : (defs₀ (F := F) .tc cfg0.body (cfg0.bodyArgs t0_0 (cfg0.slots t0_0))) = bodyAt0 (F := F) t0_0 := rfl

/-- The printed body at the only point is the sequence of steps. -/
theorem bodyAt_eq : bodyAt0 (F := F) t0_0 = (Prog.lift .deviceId >>= fun d => steps (F := F) mX mY mO (Memref.isWhole_whole _) d) :=
  body_eq (F := F) mX (Memref.isWhole_whole _) mY (Memref.isWhole_whole _) mO (Memref.isWhole_whole _)

/-- A claim of the body's run, at any program equal to the sequence of steps. -/
theorem sound_call (c : Dev nD) (p : Prog (TpuEff nD τ sig (Elt F) Λ₀ .tc) PUnit)
    (h : p = (Prog.lift .deviceId >>= fun d => steps (F := F) mX mY mO (Memref.isWhole_whole _) d)) :
    bodyPre m ρ c ⊢ wp frame (wpE (defs₀ (F := F)) 𝒱₀ (c : Thread nD τ) none) Set.univ p fun _ => bodyPost m ρ c := by
  rw [h]; exact sound_body m ρ c

/-- The library's body obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  have h := sound_call m ρ c (bodyAt0 (F := F) t0_0) bodyAt_eq
  generalize hp : bodyAt0 (F := F) t0_0 = p at h
  rw [show (defs₀ (F := F) .tc cfg0.body (cfg0.bodyArgs t0_0 (cfg0.slots t0_0))) = p from (call_eq (F := F)).trans hp]
  clear hp
  exact h

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m ρ) (Ym m ρ) c)
      ⊢ |={Set.univ}=> iprop(start m ρ c ∗ emp) := by
  iintro ⟨-, Hlev, Hcr, -, HG⟩
  ihave Hc := (creds (F := F) c) $$ Hcr
  imodintro
  unfold start G' known records levels
  icases HG with ⟨%K, ⟨HI, HR⟩, HP, HT⟩
  isplitl
  · isplitl [Hlev HI HR HP HT]
    · iexists K
      isplitl [Hlev HI HR]
      · isplitl [HI]; · iexact HI
        isplitl [HR] <;> iassumption
      isplitl [HP] <;> iassumption
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) :=
  Idealize.SL.BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds after the run. -/
def finalA (c : Dev nD) (w : Fin cfg0.W) : Buf (Elt F) ((cfg0.win w).arr.view.loc (c : Thread nD τ)) := (dats m ρ 0 c).arrAt w cfg0.N

/-- The final memory: every window's array at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters, every weakly fair execution of the program on the
    sixteen devices finishes without fault, the windows' arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _)
    (harr := arr_whole0) (hstage := stage_whole0) (hshare := share_eq m ρ)
    (hdistinct := winFacts0.arr_inj) (O₀ := O₀) (howed₀ := fun _ => rfl) (howedN := fun _ => rfl) (L := L) (lv := lv)
    (hL := L_of_ne) (hwaits := waits m ρ)
    (G := G (Xm m ρ) (Ym m ρ)) (G' := G' (Xm m ρ) (Ym m ρ)) (u₀ := u₀)
    (hu₀ := by
      unfold u₀
      iintro Hu
      ihave H := (ownU_pair _ _) $$ Hu
      icases H with ⟨HP, HX⟩
      imod (fund_ring (Xm m ρ) (Ym m ρ)) $$ HX with HG
      imodintro
      isplitl [HP] <;> iassumption)
    (hglob := glob (Xm m ρ) (Ym m ρ)) (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The arguments hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_y (c : Dev nD) : finalA m ρ c (1 : Fin 3) = (s₀ m ρ).mem (win0_1.arr.view.loc (c : Thread nD τ)) :=
  (dats (F := F) m ρ 0 c).arrAt_in (1 : Fin 3) rfl _

/-- An array's one block is the whole of it. -/
theorem read_blk2 (f : S64x4096.Idx → Elt F .f32) : (win0_2.blk t0_0).view.read (Elt F) f = f :=
  funext fun i => congrArg f (funext fun a => Fin.ext (show 0 * _ + 1 * (i a : ℕ) = (i a : ℕ) by omega))
theorem read_blk0 (f : S1024x1024.Idx → Elt F .bf16) : (win0_0.blk t0_0).view.read (Elt F) f = f :=
  funext fun i => congrArg f (funext fun a => Fin.ext (show 0 * _ + 1 * (i a : ℕ) = (i a : ℕ) by omega))
theorem read_blk1 (f : S1024x4096.Idx → Elt F .bf16) : (win0_1.blk t0_0).view.read (Elt F) f = f :=
  funext fun i => congrArg f (funext fun a => Fin.ext (show 0 * _ + 1 * (i a : ℕ) = (i a : ℕ) by omega))

theorem flushed_eq (c : Dev nD) (t : Fin cfg0.N) :
    (dats m ρ 0 c).flushed 2 t = ((cfg0.win 2).blk t).view.read (Elt F) (result (Xm m ρ) (Ym m ρ) c) := by
  obtain rfl := fin_N0 t
  unfold Pipeline.Dat.flushed
  exact (show _ = result (Xm m ρ) (Ym m ρ) c from rfl).trans (read_blk2 _).symm

theorem cover (i : S64x4096.Idx) : ∃ t : Fin cfg0.N, (cfg0.win 2).flush t = true ∧ i ∈ ((cfg0.win 2).blk t).view.set := by
  refine ⟨t0_0, flush0_2 _, ?_⟩
  show i ∈ ((View.whole main_v1).slice (win0_2.rect t0_0)).set
  rw [View.set_slice_whole, Rect.mem_set_unit]
  intro a
  have h := (i a).isLt
  constructor
  · show 0 * _ ≤ (i a : ℕ); omega
  · show (i a : ℕ) < 0 * _ + S64x4096.size a; omega

/-- The result array ends at the device's result. -/
theorem finalA_out (c : Dev nD) : finalA m ρ c (2 : Fin 3) = result (Xm m ρ) (Ym m ρ) c :=
  (dats m ρ 0 c).arrAt_eq_of_cover (2 : Fin 3) (result (Xm m ρ) (Ym m ρ) c) (fun t _ => flushed_eq m ρ c t) cover

/-- A device's operands are its argument arrays. -/
theorem Xm_eq (c : Dev nD) : Xm m ρ c = m ((c : Thread nD τ).loc main_arg0) := read_blk0 _
theorem Ym_eq (c : Dev nD) : Ym m ρ c = m ((c : Thread nD τ).loc main_arg1) := read_blk1 _

/-- The run with everything it leaves: the arguments unchanged, each device's result, every counter at zero. -/
theorem run_values : θ_run defs (onTc (τ := τ) (main (F := F))) ⟨m, fun _ => 0, ρ⟩ (fun r =>
    (∀ c : Dev nD, r.2.mem ((c.tc : Thread nD τ).loc main_v1) = result (fun d => m ((d : Thread nD τ).loc main_arg0)) (fun d => m ((d : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => ⟨((h.1 c 2).trans (finalA_out m ρ c)).trans
      (congrArg₂ (fun X Y => result X Y c) (funext fun d => Xm_eq m ρ d) (funext fun d => Ym_eq m ρ d)),
      (h.1 c 0).trans (finalA_x m ρ c), (h.1 c 1).trans (finalA_y m ρ c)⟩, h.2⟩) (run_main m ρ)

end Cert.Proof

end
-- ==== Proof.Sums.lean ====
/-
What the devices compute, over the extended reals: each device's block of the result is, entry by
entry, the sum over the sixteen devices of the products of their blocks.
-/
module

public import proofs.«01_k».proof.Proof.Contents
public import Idealize.ShloMosaic.Lib.ValueIdx
public import Idealize.ShloMosaic.Lib.Pointwise

@[expose] public section

noncomputable section

namespace Cert.Proof

open Cert.KernelIdeal Cert.KernelIdeal.Gen
open Idealize.ShloMosaic hiding ix2 ix3
open Idealize.ShloMosaic.TcCoe Idealize.ShloMosaic.ValueIdx

variable (X : Dev nD → S1024x1024.Idx → Elt Ideal .bf16) (Y : Dev nD → S1024x4096.Idx → Elt Ideal .bf16)

/-- Two pairs of coordinates are equal when their parts are. -/
theorem idx2_ext {a b : Nat} {i j : (⟨2, ![a, b]⟩ : Shape).Idx} (h0 : (i 0).val = (j 0).val) (h1 : (i 1).val = (j 1).val) : i = j := by
  funext x
  apply Fin.ext
  match x with
  | ⟨0, _⟩ => exact h0
  | ⟨1, _⟩ => exact h1

/-- The same of three. -/
theorem idx3_ext {a b c : Nat} {i j : (⟨3, ![a, b, c]⟩ : Shape).Idx} (h0 : (i 0).val = (j 0).val) (h1 : (i 1).val = (j 1).val)
    (h2 : (i 2).val = (j 2).val) : i = j := by
  funext x
  apply Fin.ext
  match x with
  | ⟨0, _⟩ => exact h0
  | ⟨1, _⟩ => exact h1
  | ⟨2, _⟩ => exact h2

/-- Entry `(r, q)` of the product of device `d`'s blocks: the sum over its 1024 rows. -/
def prodAt (d : Dev nD) (r : Fin 1024) (q : Fin 4096) : EReal :=
  ∑ k : Fin 1024, (X d (ix2 k r) : EReal) * (Y d (ix2 k q) : EReal)

/-- Column `q` of column group `j`. -/
def colAt (j : Fin 8) (q : Fin 512) : Fin 4096 := ⟨512 * j.val + q.val, by omega⟩

/-- A device's own product, entry by entry. -/
theorem own_apply (d : Dev nD) (j : Fin 8) (r : Fin 1024) (q : Fin 512) :
    (own X Y d j (ix2 r q) : EReal) = prodAt X Y d r (colAt j q) := by
  unfold own prodOf prodAt
  pointwise [dyCol]
  refine Finset.sum_congr rfl fun k _ => congrArg₂ (· * ·) (congrArg (X d) ?_) (congrArg (Y d) ?_)
  · exact idx2_ext rfl rfl
  · exact idx2_ext rfl rfl

/-- The row of a product that row `r` of slot `w` of the part with ring index `u` is. -/
def rowAt (j : Fin 8) (u w : Fin 4) (r : Fin 64) : Fin 1024 := ⟨64 * blk (grp j) u w + r.val, by
  have h : blk (grp j) u w < 16 := blk_lt (grp j) u w
  omega⟩

/-- The part of its own product a device adds at step `s` of the ring, entry by entry. -/
theorem partOf_apply (d : Dev nD) (j : Fin 8) (s w : Fin 4) (r : Fin 64) (q : Fin 512) :
    (partOf X Y d j s (ix2 (⟨64 * w.val + r.val, by omega⟩ : Fin 256) q) : EReal) = prodAt X Y d (rowAt j (sidx j d s) w r) (colAt j q) := by
  rw [← own_apply]
  unfold partOf
  generalize own X Y d j = v
  pointwise [part, slotOf]
  refine congrArg v (idx2_ext ?_ rfl)
  have hw : ∀ h : (64 * w.val + r.val) / 64 < 4, (⟨(64 * w.val + r.val) / 64, h⟩ : Fin 4) = w := fun h => Fin.ext (by show (64 * w.val + r.val) / 64 = w.val; omega)
  show 64 * blk (grp j) (sidx j d s) ⟨(64 * w.val + r.val) / 64, _⟩ + (64 * w.val + r.val) % 64 = 64 * blk (grp j) (sidx j d s) w + r.val
  rw [hw]
  omega

/-- The ring's sums after its last step, entry by entry: the parts of the four devices of the ring. -/
theorem ring_apply (d : Dev nD) (j : Fin 8) (i : S256x512.Idx) :
    (ring X Y j 3 d i : EReal) = ∑ s : Fin 4, (partOf X Y ((src (j, 0))^[3 - s.val] d) j s i : EReal) := by
  rw [Fin.sum_univ_four]
  rfl

/-- Row `r` of block `b` of the ring's sums. -/
def ringAt (d : Dev nD) (j : Fin 8) (b : Fin 4) (r : Fin 64) (q : Fin 512) : EReal :=
  ∑ s : Fin 4, prodAt X Y ((src (j, 0))^[3 - s.val] d) (rowAt j (sidx j ((src (j, 0))^[3 - s.val] d) s) b r) (colAt j q)

theorem blockOf_apply (d : Dev nD) (j : Fin 8) (b : Fin 4) (r : Fin 64) (q : Fin 512) :
    (blockOf (ring X Y j 3 d) b (ix3 (0 : Fin 1) r q) : EReal) = ringAt X Y d j b r q := by
  show (ring X Y j 3 d (ix2 (⟨64 * b.val + r.val, _⟩ : Fin 256) q) : EReal) = _
  rw [ring_apply]
  exact Finset.sum_congr rfl fun s _ => partOf_apply X Y _ j s b r q

/-- The sums after the first exchange, entry by entry. -/
theorem fold1_apply (d : Dev nD) (j : Fin 8) (h : Fin 2) (r : Fin 64) (q : Fin 512) :
    (fold1 X Y d j h (ix3 (0 : Fin 1) r q) : EReal)
      = ringAt X Y (src (j, 3) d) j (sendBlk j (src (j, 3) d) h) r q + ringAt X Y d j (keepBlk j d h) r q := by
  rw [← blockOf_apply, ← blockOf_apply]
  unfold fold1 cross1
  generalize blockOf (ring X Y j 3 (src (j, 3) d)) (sendBlk j (src (j, 3) d) h) = a
  generalize blockOf (ring X Y j 3 d) (keepBlk j d h) = b
  pointwise

/-- A column group of the result, entry by entry. -/
theorem resultCol_apply (d : Dev nD) (j : Fin 8) (r : Fin 64) (q : Fin 512) :
    (resultCol X Y d j (ix2 r q) : EReal)
      = (fold1 X Y (src (j, 4) d) j (sendHalf (src (j, 4) d)) (ix3 (0 : Fin 1) r q) : EReal) + (fold1 X Y d j (high d) (ix3 (0 : Fin 1) r q) : EReal) := by
  unfold resultCol cross2
  generalize fold1 X Y (src (j, 4) d) j (sendHalf (src (j, 4) d)) = a
  generalize fold1 X Y d j (high d) = b
  unfold lastOf
  pointwise
  exact congrArg₂ (· + ·) (congrArg a (idx3_ext rfl rfl rfl)) (congrArg b (idx3_ext rfl rfl rfl))

/-! ## Which device adds which rows -/

/-- The four devices whose ring sums reach device `c`, and the block of them that does. -/
def corner (j : Fin 8) (c : Dev nD) (e : Fin 4) : Dev nD :=
  ![src (j, 3) (src (j, 4) c), src (j, 4) c, src (j, 3) c, c] e
def cornerBlk (j : Fin 8) (c : Dev nD) (e : Fin 4) : Fin 4 :=
  ![sendBlk j (src (j, 3) (src (j, 4) c)) (sendHalf (src (j, 4) c)), keepBlk j (src (j, 4) c) (sendHalf (src (j, 4) c)),
    sendBlk j (src (j, 3) c) (high c), keepBlk j c (high c)] e
/-- The device whose product is the term of corner `e` and step `s`. -/
def term (j : Fin 8) (c : Dev nD) (p : Fin 4 × Fin 4) : Dev nD := (src (j, 0))^[3 - p.2.val] (corner j c p.1)

/-- Every device's product is one of the sixteen terms, once. -/
theorem term_bijective (j : Fin 8) (c : Dev nD) : Function.Bijective (term j c) := by
  refine (Fintype.bijective_iff_injective_and_card _).mpr ⟨?_, rfl⟩
  revert j c; decide +kernel

/-- All sixteen are of device `c`'s rows of the product. -/
theorem term_rows : ∀ (j : Fin 8) (c : Dev nD) (e s : Fin 4), blk (grp j) (sidx j (term j c (e, s)) s) (cornerBlk j c e) = c.val := by
  decide +kernel

/-- Row `r` of device `c`'s rows of the product. -/
def rowOf (c : Dev nD) (r : Fin 64) : Fin 1024 := ⟨c.val * 64 + r.val, by have h : c.val < 16 := c.isLt; omega⟩

theorem term_row (j : Fin 8) (c : Dev nD) (e s : Fin 4) (r : Fin 64) :
    rowAt j (sidx j (term j c (e, s)) s) (cornerBlk j c e) r = rowOf c r := by
  apply Fin.ext
  show 64 * blk (grp j) (sidx j (term j c (e, s)) s) (cornerBlk j c e) + r.val = c.val * 64 + r.val
  rw [term_rows]; omega

/-- What one corner brings. -/
theorem ringAt_corner (c : Dev nD) (j : Fin 8) (e : Fin 4) (r : Fin 64) (q : Fin 512) :
    ringAt X Y (corner j c e) j (cornerBlk j c e) r q = ∑ s : Fin 4, prodAt X Y (term j c (e, s)) (rowOf c r) (colAt j q) := by
  unfold ringAt
  exact Finset.sum_congr rfl fun s _ => congrArg (fun x => prodAt X Y (term j c (e, s)) x (colAt j q)) (term_row j c e s r)

/-- A column group of a device's result, entry by entry: the sum of all the devices' products. -/
theorem resultCol_eq (c : Dev nD) (j : Fin 8) (r : Fin 64) (q : Fin 512) :
    (resultCol X Y c j (ix2 r q) : EReal) = ∑ d : Dev nD, prodAt X Y d (rowOf c r) (colAt j q) := by
  rw [resultCol_apply, fold1_apply, fold1_apply, ← Equiv.sum_comp (Equiv.ofBijective _ (term_bijective j c)), Fintype.sum_prod_type,
    Fin.sum_univ_four, ← add_assoc]
  exact (congrArg₂ (· + ·) (congrArg₂ (· + ·) (congrArg₂ (· + ·) (ringAt_corner X Y c j 0 r q) (ringAt_corner X Y c j 1 r q))
    (ringAt_corner X Y c j 2 r q)) (ringAt_corner X Y c j 3 r q))

/-- A device's result, entry by entry: the sum of all the devices' products. -/
theorem result_apply (c : Dev nD) (r : Fin 64) (q : Fin 4096) :
    (result X Y c (ix2 r q) : EReal) = ∑ d : Dev nD, prodAt X Y d (rowOf c r) q := by
  have h := resultCol_eq X Y c ⟨q.val / 512, by omega⟩ r ⟨q.val % 512, by omega⟩
  rw [show colAt ⟨q.val / 512, _⟩ ⟨q.val % 512, _⟩ = q from Fin.ext (by show 512 * (q.val / 512) + q.val % 512 = q.val; omega)] at h
  exact h

end Cert.Proof

end
-- ==== Proof.Reference.lean ====
/-
What the reference computes, over the extended reals, entry by entry; and that it is what the devices
compute, each from its block of the arrays.
-/
module

public import proofs.«01_k».proof.Proof.Sums
public import proofs.«01_k».proof.Proof.Gen.ReferenceIdeal.Run
public import Idealize.ShloMosaic.Lib.Layout

@[expose] public section

noncomputable section

namespace Cert.Proof

open Cert.ReferenceIdeal Cert.ReferenceIdeal.Gen
open Idealize.ShloMosaic hiding ix2 ix3
open Idealize.ShloMosaic.TcCoe Idealize.ShloMosaic.ValueIdx

/-- The reference's result from its two arguments: the product of the transpose of the one with the other, its casts kept. -/
def refOut (x : S16384x1024.Idx → Elt Ideal .bf16) (y : S16384x4096.Idx → Elt Ideal .bf16) : S1024x4096.Idx → Elt Ideal .f32 :=
  extf .f32 (truncf .bf16 (Host.dotGeneral (φ₁ := .bf16) (φ₂ := .bf16) dot_S1024x16384_S16384x4096_S1024x4096_1_0_0_1_n_n none
    (transpose S1024x16384 [1, 0] x transposes_S16384x1024_S1024x16384_1_0) y : FVec Ideal S1024x4096 .f32) bitsLt_bf16_f32) bitsLt_bf16_f32

/-- The reference, entry by entry: the sum over all the rows. -/
theorem refOut_apply (x : S16384x1024.Idx → Elt Ideal .bf16) (y : S16384x4096.Idx → Elt Ideal .bf16) (r : Fin 1024) (q : Fin 4096) :
    (refOut x y (ix2 r q) : EReal) = ∑ k : Fin 16384, (x (ix2 k r) : EReal) * (y (ix2 k q) : EReal) := by
  unfold refOut
  pointwise
  exact Finset.sum_congr rfl fun k _ => congrArg₂ (· * ·) (congrArg x (idx2_ext rfl rfl)) (congrArg y (idx2_ext rfl rfl))

/-- Row `k` of device `d`'s block of the rows. -/
def rowIn (d : Fin 16) (k : Fin 1024) : Fin 16384 := ⟨d.val * 1024 + k.val, by omega⟩

/-- A sum over all the rows is the sum over the blocks of the sums over each block's rows. -/
theorem sum_rows (f : Fin 16384 → EReal) : ∑ k : Fin 16384, f k = ∑ d : Fin 16, ∑ k : Fin 1024, f (rowIn d k) := by
  have h := Equiv.sum_comp (finProdFinEquiv (m := 16) (n := 1024)) f
  rw [← h, Fintype.sum_prod_type]
  refine Finset.sum_congr rfl fun d _ => Finset.sum_congr rfl fun k _ => congrArg f (Fin.ext ?_)
  show k.val + 1024 * d.val = d.val * 1024 + k.val
  omega

/-- Each device's result, from its blocks of the reference's arguments, is its block of the reference's result. -/
theorem result_eq (x : S16384x1024.Idx → Elt Ideal .bf16) (y : S16384x4096.Idx → Elt Ideal .bf16) (c : Fin 16) :
    result (fun d => Layout.block ⟨2, ![1024, 1024]⟩ ⟨2, ![16384, 1024]⟩ 0 16 d x) (fun d => Layout.block ⟨2, ![1024, 4096]⟩ ⟨2, ![16384, 4096]⟩ 0 16 d y) c
      = Layout.block ⟨2, ![64, 4096]⟩ ⟨2, ![1024, 4096]⟩ 0 16 c (refOut x y) := by
  funext i
  obtain ⟨r, q, rfl⟩ : ∃ (r : Fin 64) (q : Fin 4096), i = ix2 r q := ⟨i 0, i 1, idx2_ext rfl rfl⟩
  refine (result_apply _ _ c r q).trans (Eq.trans ?_ (congrArg (refOut x y) (?_ : (ix2 (rowOf c r) q : S1024x4096.Idx) = _)))
  · refine Eq.trans ?_ ((refOut_apply x y (rowOf c r) q).trans (sum_rows _)).symm
    refine Finset.sum_congr rfl fun d _ => Finset.sum_congr rfl fun k _ => congrArg₂ (· * ·) (congrArg x ?_) (congrArg y ?_)
    · exact idx2_ext rfl rfl
    · exact idx2_ext rfl rfl
  · exact idx2_ext rfl rfl

end Cert.Proof

end
-- ==== Proof.lean ====
/-
The certificate's claims: the kernel and its reference run without fault, leave their arguments as they
were and every counter at zero; and over the extended reals each device's result is its block of the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init
public import Idealize.ShloMosaic.Lib.Tactic

@[expose] public section

noncomputable section

namespace Cert.Proof

open Idealize.ShloMosaic Idealize.SL.Sem

instance nonempty_bits (e : EltTy) : Nonempty (Elt Bits e) := by cases e <;> exact ⟨(0 : BitVec _)⟩
instance nonempty_ideal (e : EltTy) : Nonempty (Elt Ideal e) := by
  cases e <;> first | exact ⟨(0 : BitVec _)⟩ | exact ⟨(0 : EReal)⟩

/-- At the machine's own numbers, the kernel's functions in the two printed programs are the same. -/
theorem defs_eq : Cert.Kernel.defs (F := Bits) = Cert.KernelIdeal.defs (F := Bits) := by sl_kernel_rfl

/-- The kernel as printed terminates without fault, its arguments unchanged and every counter at zero. -/
theorem frame_kernel : Cert.quiescent_Kernel := fun m ρ _ => by
  rw [defs_eq]
  exact (θ_run (Cert.KernelIdeal.defs (F := Bits)) _ _).mono (fun _ h => ⟨fun c => (h.1 c).2, h.2⟩)
    (run_values (F := Bits) m ρ)

/-- So does the kernel over the extended reals. -/
theorem frame_kernelIdeal : Cert.quiescent_KernelIdeal := fun m ρ _ =>
  (θ_run Cert.KernelIdeal.defs _ _).mono (fun _ h => ⟨fun c => (h.1 c).2, h.2⟩) (run_values (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's result is its block of the reference's result. -/
theorem same_function : Cert.algebraic_KernelIdeal_ReferenceIdeal := fun m ρ m' ρ' _ hm =>
  ⟨refOut (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono (fun _ h c =>
      ⟨(h.1 c).1.trans ((congrArg₂ (fun X Y => result (F := Ideal) X Y c) (funext fun d => (hm d).1) (funext fun d => (hm d).2)).trans
        (result_eq _ _ c)), (h.1 c).2⟩) (run_values (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, same_function⟩

end Cert.Proof

end
